-- ==== Defs.lean ====
def Pre_Gather [hPre_in_range : Cert.Pre_in_range.Facts] (m : (ℓ : Loc Cert.Gather.nD Cert.Gather.τ Cert.Gather.sig) → Buf (Elt Bits) ℓ) : Prop :=
  ∀ c : Dev Cert.Gather.nD,
    (Cert.Pre_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_range : Cert.Pre_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_TakenIdeal (m : (ℓ : Loc Cert.TakenIdeal.nD Cert.TakenIdeal.τ Cert.TakenIdeal.sig) → Buf (Elt Ideal) ℓ) : Prop :=
  True

def Pre_TakenIdeal_in_range [hPre_in_range : Cert.Pre_in_range.Facts] (m : (ℓ : Loc Cert.TakenIdeal.nD Cert.TakenIdeal.τ Cert.TakenIdeal.sig) → Buf (Elt Ideal) ℓ) : Prop :=
  ∀ c : Dev Cert.TakenIdeal.nD,
    (Cert.Pre_in_range.fn (F := Ideal) (m ((c.tc : Thread Cert.TakenIdeal.nD Cert.TakenIdeal.τ).loc Cert.TakenIdeal.main_arg0)) (m ((c.tc : Thread Cert.TakenIdeal.nD Cert.TakenIdeal.τ).loc Cert.TakenIdeal.main_arg1))) = (fun _ => 1#1)

def Pre_Taken [hPre_in_range : Cert.Pre_in_range.Facts] (m : (ℓ : Loc Cert.Taken.nD Cert.Taken.τ Cert.Taken.sig) → Buf (Elt Bits) ℓ) : Prop :=
  ∀ c : Dev Cert.Taken.nD,
    (Cert.Pre_in_range.fn (F := Bits) (m ((c.tc : Thread Cert.Taken.nD Cert.Taken.τ).loc Cert.Taken.main_arg0)) (m ((c.tc : Thread Cert.Taken.nD Cert.Taken.τ).loc Cert.Taken.main_arg1))) = (fun _ => 1#1)

def Pre_KernelIdeal [hPre_finite_no_tie : Cert.Pre_finite_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_tie [hPre_finite_no_tie : Cert.Pre_finite_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Nearest (m : (ℓ : Loc Cert.Nearest.nD Cert.Nearest.τ Cert.Nearest.sig) → Buf (Elt Bits) ℓ) : Prop :=
  True

def Pre_Nearest_finite_no_tie [hPre_finite_no_tie : Cert.Pre_finite_no_tie.Facts] (m : (ℓ : Loc Cert.Nearest.nD Cert.Nearest.τ Cert.Nearest.sig) → Buf (Elt Bits) ℓ) : Prop :=
  ∀ c : Dev Cert.Nearest.nD,
    (Cert.Pre_finite_no_tie.fn (F := Bits) (m ((c.tc : Thread Cert.Nearest.nD Cert.Nearest.τ).loc Cert.Nearest.main_arg0)) (m ((c.tc : Thread Cert.Nearest.nD Cert.Nearest.τ).loc Cert.Nearest.main_arg1))) = (fun _ => 1#1)

def Pre_NearestIdeal [hPre_finite_no_tie : Cert.Pre_finite_no_tie.Facts] (m : (ℓ : Loc Cert.NearestIdeal.nD Cert.NearestIdeal.τ Cert.NearestIdeal.sig) → Buf (Elt Ideal) ℓ) : Prop :=
  ∀ c : Dev Cert.NearestIdeal.nD,
    (Cert.Pre_finite_no_tie.fn (F := Ideal) (m ((c.tc : Thread Cert.NearestIdeal.nD Cert.NearestIdeal.τ).loc Cert.NearestIdeal.main_arg0)) (m ((c.tc : Thread Cert.NearestIdeal.nD Cert.NearestIdeal.τ).loc Cert.NearestIdeal.main_arg1))) = (fun _ => 1#1)

def quiescent_Gather [hGather : Cert.Gather.Facts] [hPre_in_range : Cert.Pre_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_TakenIdeal [hTakenIdeal : Cert.TakenIdeal.Facts] : Prop :=
  ∀ (m : (ℓ : Loc Cert.TakenIdeal.nD Cert.TakenIdeal.τ Cert.TakenIdeal.sig) → Buf (Elt Ideal) ℓ) (g : Dev Cert.TakenIdeal.nD → PrngReg), Pre_TakenIdeal m →
    θ_run (Cert.TakenIdeal.defs (F := Ideal)) (onTc (τ := Cert.TakenIdeal.τ) (Cert.TakenIdeal.main (F := Ideal))) ⟨m, fun _ => 0, g⟩ (fun r => (∀ c : Dev Cert.TakenIdeal.nD,
      r.2.mem ((c.tc : Thread Cert.TakenIdeal.nD Cert.TakenIdeal.τ).loc Cert.TakenIdeal.main_arg0) = m ((c.tc : Thread Cert.TakenIdeal.nD Cert.TakenIdeal.τ).loc Cert.TakenIdeal.main_arg0)
      ∧ r.2.mem ((c.tc : Thread Cert.TakenIdeal.nD Cert.TakenIdeal.τ).loc Cert.TakenIdeal.main_arg1) = m ((c.tc : Thread Cert.TakenIdeal.nD Cert.TakenIdeal.τ).loc Cert.TakenIdeal.main_arg1))
      ∧ r.2.sem = fun _ => 0)

def quiescent_TakenIdeal_pre_in_range [hTakenIdeal : Cert.TakenIdeal.Facts] [hPre_in_range : Cert.Pre_in_range.Facts] : Prop :=
  ∀ (m : (ℓ : Loc Cert.TakenIdeal.nD Cert.TakenIdeal.τ Cert.TakenIdeal.sig) → Buf (Elt Ideal) ℓ) (g : Dev Cert.TakenIdeal.nD → PrngReg), Pre_TakenIdeal_in_range m →
    θ_run (Cert.TakenIdeal.defs (F := Ideal)) (onTc (τ := Cert.TakenIdeal.τ) (Cert.TakenIdeal.main (F := Ideal))) ⟨m, fun _ => 0, g⟩ (fun r => (∀ c : Dev Cert.TakenIdeal.nD,
      r.2.mem ((c.tc : Thread Cert.TakenIdeal.nD Cert.TakenIdeal.τ).loc Cert.TakenIdeal.main_arg0) = m ((c.tc : Thread Cert.TakenIdeal.nD Cert.TakenIdeal.τ).loc Cert.TakenIdeal.main_arg0)
      ∧ r.2.mem ((c.tc : Thread Cert.TakenIdeal.nD Cert.TakenIdeal.τ).loc Cert.TakenIdeal.main_arg1) = m ((c.tc : Thread Cert.TakenIdeal.nD Cert.TakenIdeal.τ).loc Cert.TakenIdeal.main_arg1))
      ∧ r.2.sem = fun _ => 0)

def quiescent_Taken [hTaken : Cert.Taken.Facts] [hPre_in_range : Cert.Pre_in_range.Facts] : Prop :=
  ∀ (m : (ℓ : Loc Cert.Taken.nD Cert.Taken.τ Cert.Taken.sig) → Buf (Elt Bits) ℓ) (g : Dev Cert.Taken.nD → PrngReg), Pre_Taken m →
    θ_run (Cert.Taken.defs (F := Bits)) (onTc (τ := Cert.Taken.τ) (Cert.Taken.main (F := Bits))) ⟨m, fun _ => 0, g⟩ (fun r => (∀ c : Dev Cert.Taken.nD,
      r.2.mem ((c.tc : Thread Cert.Taken.nD Cert.Taken.τ).loc Cert.Taken.main_arg0) = m ((c.tc : Thread Cert.Taken.nD Cert.Taken.τ).loc Cert.Taken.main_arg0)
      ∧ r.2.mem ((c.tc : Thread Cert.Taken.nD Cert.Taken.τ).loc Cert.Taken.main_arg1) = m ((c.tc : Thread Cert.Taken.nD Cert.Taken.τ).loc Cert.Taken.main_arg1))
      ∧ r.2.sem = fun _ => 0)

def quiescent_KernelIdeal [hKernelIdeal : Cert.KernelIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_no_tie [hReferenceIdeal : Cert.ReferenceIdeal.Facts] [hPre_finite_no_tie : Cert.Pre_finite_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1))
      ∧ r.2.sem = fun _ => 0)

def quiescent_Nearest_pre_finite_no_tie [hNearest : Cert.Nearest.Facts] [hPre_finite_no_tie : Cert.Pre_finite_no_tie.Facts] : Prop :=
  ∀ (m : (ℓ : Loc Cert.Nearest.nD Cert.Nearest.τ Cert.Nearest.sig) → Buf (Elt Bits) ℓ) (g : Dev Cert.Nearest.nD → PrngReg), Pre_Nearest_finite_no_tie m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1))
      ∧ r.2.sem = fun _ => 0)

def quiescent_NearestIdeal [hNearestIdeal : Cert.NearestIdeal.Facts] [hPre_finite_no_tie : Cert.Pre_finite_no_tie.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def preserves_Gather_GatherIdeal : Prop :=
  True

def algebraic_GatherIdeal_TakenIdeal [hGatherIdeal : Cert.GatherIdeal.Facts] [hTakenIdeal : Cert.TakenIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.TakenIdeal.nD Cert.TakenIdeal.τ Cert.TakenIdeal.sig) → Buf (Elt Ideal) ℓ) (g' : Dev Cert.TakenIdeal.nD → PrngReg), Pre_GatherIdeal m →
    (∀ c : Dev Cert.GatherIdeal.nD,
      m' ((c.tc : Thread Cert.TakenIdeal.nD Cert.TakenIdeal.τ).loc Cert.TakenIdeal.main_arg0) = m ((c.tc : Thread Cert.GatherIdeal.nD Cert.GatherIdeal.τ).loc Cert.GatherIdeal.main_arg0)
      ∧ m' ((c.tc : Thread Cert.TakenIdeal.nD Cert.TakenIdeal.τ).loc Cert.TakenIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v4)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v4) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.TakenIdeal.defs (F := Ideal)) (onTc (τ := Cert.TakenIdeal.τ) (Cert.TakenIdeal.main (F := Ideal))) ⟨m', fun _ => 0, g'⟩ (fun r => ∀ c : Dev Cert.TakenIdeal.nD,
          r.2.mem ((c.tc : Thread Cert.TakenIdeal.nD Cert.TakenIdeal.τ).loc Cert.TakenIdeal.main_v1) = v0 c
          ∧ r.2.mem ((c.tc : Thread Cert.TakenIdeal.nD Cert.TakenIdeal.τ).loc Cert.TakenIdeal.main_arg0) = m' ((c.tc : Thread Cert.TakenIdeal.nD Cert.TakenIdeal.τ).loc Cert.TakenIdeal.main_arg0)
          ∧ r.2.mem ((c.tc : Thread Cert.TakenIdeal.nD Cert.TakenIdeal.τ).loc Cert.TakenIdeal.main_arg1) = m' ((c.tc : Thread Cert.TakenIdeal.nD Cert.TakenIdeal.τ).loc Cert.TakenIdeal.main_arg1))

def bitexact_Gather_Taken [hGather : Cert.Gather.Facts] [hTaken : Cert.Taken.Facts] [hPre_in_range : Cert.Pre_in_range.Facts] : Prop :=
  ∀ (m : (ℓ : Loc Cert.Gather.nD Cert.Gather.τ Cert.Gather.sig) → Buf (Elt Bits) ℓ) (g : Dev Cert.Gather.nD → PrngReg)
    (m' : (ℓ : Loc Cert.Taken.nD Cert.Taken.τ Cert.Taken.sig) → Buf (Elt Bits) ℓ) (g' : Dev Cert.Taken.nD → PrngReg), Pre_Gather m →
    (∀ c : Dev Cert.Gather.nD,
      m' ((c.tc : Thread Cert.Taken.nD Cert.Taken.τ).loc Cert.Taken.main_arg0) = m ((c.tc : Thread Cert.Gather.nD Cert.Gather.τ).loc Cert.Gather.main_arg0)
      ∧ m' ((c.tc : Thread Cert.Taken.nD Cert.Taken.τ).loc Cert.Taken.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v4)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v4) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.Taken.defs (F := Bits)) (onTc (τ := Cert.Taken.τ) (Cert.Taken.main (F := Bits))) ⟨m', fun _ => 0, g'⟩ (fun r => ∀ c : Dev Cert.Taken.nD,
          r.2.mem ((c.tc : Thread Cert.Taken.nD Cert.Taken.τ).loc Cert.Taken.main_v1) = v0 c
          ∧ r.2.mem ((c.tc : Thread Cert.Taken.nD Cert.Taken.τ).loc Cert.Taken.main_arg0) = m' ((c.tc : Thread Cert.Taken.nD Cert.Taken.τ).loc Cert.Taken.main_arg0)
          ∧ r.2.mem ((c.tc : Thread Cert.Taken.nD Cert.Taken.τ).loc Cert.Taken.main_arg1) = m' ((c.tc : Thread Cert.Taken.nD Cert.Taken.τ).loc Cert.Taken.main_arg1))

def algebraic_KernelIdeal_ReferenceIdeal [hKernelIdeal : Cert.KernelIdeal.Facts] [hReferenceIdeal : Cert.ReferenceIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Nearest_NearestIdeal : Prop :=
  True

def Claim : Prop :=
  ∃ (hGather : Cert.Gather.Facts) (hGatherIdeal : Cert.GatherIdeal.Facts) (hTakenIdeal : Cert.TakenIdeal.Facts) (hTaken : Cert.Taken.Facts) (hKernelIdeal : Cert.KernelIdeal.Facts) (hReferenceIdeal : Cert.ReferenceIdeal.Facts) (hNearest : Cert.Nearest.Facts) (hNearestIdeal : Cert.NearestIdeal.Facts) (hPre_in_range : Cert.Pre_in_range.Facts) (hPre_finite_no_tie : Cert.Pre_finite_no_tie.Facts),
    quiescent_Gather (hGather := hGather) (hPre_in_range := hPre_in_range)
    ∧ quiescent_GatherIdeal (hGatherIdeal := hGatherIdeal) (hPre_in_range := hPre_in_range)
    ∧ quiescent_TakenIdeal (hTakenIdeal := hTakenIdeal)
    ∧ quiescent_TakenIdeal_pre_in_range (hTakenIdeal := hTakenIdeal) (hPre_in_range := hPre_in_range)
    ∧ quiescent_Taken (hTaken := hTaken) (hPre_in_range := hPre_in_range)
    ∧ quiescent_KernelIdeal (hKernelIdeal := hKernelIdeal) (hPre_finite_no_tie := hPre_finite_no_tie)
    ∧ quiescent_ReferenceIdeal (hReferenceIdeal := hReferenceIdeal)
    ∧ quiescent_ReferenceIdeal_pre_finite_no_tie (hReferenceIdeal := hReferenceIdeal) (hPre_finite_no_tie := hPre_finite_no_tie)
    ∧ quiescent_Nearest (hNearest := hNearest)
    ∧ quiescent_Nearest_pre_finite_no_tie (hNearest := hNearest) (hPre_finite_no_tie := hPre_finite_no_tie)
    ∧ quiescent_NearestIdeal (hNearestIdeal := hNearestIdeal) (hPre_finite_no_tie := hPre_finite_no_tie)
    ∧ preserves_Gather_GatherIdeal
    ∧ algebraic_GatherIdeal_TakenIdeal (hGatherIdeal := hGatherIdeal) (hTakenIdeal := hTakenIdeal) (hPre_in_range := hPre_in_range)
    ∧ bitexact_Gather_Taken (hGather := hGather) (hTaken := hTaken) (hPre_in_range := hPre_in_range)
    ∧ algebraic_KernelIdeal_ReferenceIdeal (hKernelIdeal := hKernelIdeal) (hReferenceIdeal := hReferenceIdeal) (hPre_finite_no_tie := hPre_finite_no_tie)
    ∧ preserves_Nearest_NearestIdeal
-- ==== Pre_finite_no_tie.lean ====
abbrev S16x1024x32 : Shape := ⟨3, ![16, 1024, 32]⟩
abbrev S8192x32 : Shape := ⟨2, ![8192, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S32x8192 : Shape := ⟨2, ![32, 8192]⟩
abbrev S16384x8192 : Shape := ⟨2, ![16384, 8192]⟩
abbrev S8192 : Shape := ⟨1, ![8192]⟩
abbrev S1x8192 : Shape := ⟨2, ![1, 8192]⟩
abbrev S16384x4096 : Shape := ⟨2, ![16384, 4096]⟩

class Facts : Prop where
  shapeCasts_S16x1024x32_S16384x32 : S16x1024x32.ShapeCasts S16384x32
  reducesTo_S16384x32_S16384_d1 : S16384x32.ReducesTo [1] S16384
  h_S_ : 0 < S_.numel
  bcast_S16384_S16384x1_0 : S16384.BroadcastsInDim S16384x1 (![0] : Fin 1 → Fin S16384x1.rank)
  transposes_S8192x32_S32x8192_1_0 : S8192x32.Transposes [1, 0] S32x8192
  bcast_S_S16384x8192 : S_.BroadcastsInDim S16384x8192 (![] : Fin 0 → Fin S16384x8192.rank)
  bcast_S16384x1_S16384x8192_0_1 : S16384x1.BroadcastsInDim S16384x8192 (![0, 1] : Fin 2 → Fin S16384x8192.rank)
  reducesTo_S8192x32_S8192_d1 : S8192x32.ReducesTo [1] S8192
  bcast_S8192_S1x8192_1 : S8192.BroadcastsInDim S1x8192 (![1] : Fin 1 → Fin S1x8192.rank)
  bcast_S1x8192_S16384x8192_0_1 : S1x8192.BroadcastsInDim S16384x8192 (![0, 1] : Fin 2 → Fin S16384x8192.rank)
  bcast_S_S16x1024x32 : S_.BroadcastsInDim S16x1024x32 (![] : Fin 0 → Fin S16x1024x32.rank)
  reducesTo_S16x1024x32_S_d0_1_2 : S16x1024x32.ReducesTo [0, 1, 2] S_
  bcast_S_S8192x32 : S_.BroadcastsInDim S8192x32 (![] : Fin 0 → Fin S8192x32.rank)
  reducesTo_S8192x32_S_d0_1 : S8192x32.ReducesTo [0, 1] S_
  slices_S16384x8192_S16384x4096_0_0 : S16384x8192.Slices ![0, 0] S16384x4096
  slices_S16384x8192_S16384x4096_0_4096 : S16384x8192.Slices ![0, 4096] S16384x4096
  reducesTo_S16384x4096_S16384_d1 : S16384x4096.ReducesTo [1] S16384
  bcast_S16384x1_S16384x4096_0_1 : S16384x1.BroadcastsInDim S16384x4096 (![0, 1] : Fin 2 → Fin S16384x4096.rank)
  natLt_1_32 : 1 < 32
  bcast_S_S16384 : S_.BroadcastsInDim S16384 (![] : Fin 0 → Fin S16384.rank)
  reducesTo_S16384_S_d0 : S16384.ReducesTo [0] S_
  dot_S16384x32_S32x8192_S16384x8192_1_0_0_1_n_n_wf : DotDims.WF S16384x32 S32x8192 S16384x8192 [1] [0] [0] [1] [] []

variable [Facts]

def dot_S16384x32_S32x8192_S16384x8192_1_0_0_1_n_n : DotDims S16384x32 S32x8192 S16384x8192 where
  lhsContracting := [1]
  rhsContracting := [0]
  lhsNonContracting := [0]
  rhsNonContracting := [1]
  lhsBatch := []
  rhsBatch := []
  wf := dot_S16384x32_S32x8192_S16384x8192_1_0_0_1_n_n_wf
def fn_part2 {F : FTy → Type} [FloatOps F] (main_v23 : IVec S_ 1) (main_v25 : FVec F S16384x4096 .f32) (main_v33 : IVec S16384 1) (main_v36 : FVec F S16384x4096 .f32) : IVec S_ 1 :=
  let main_v37 : IVec S16384x4096 1 := cmpf .oeq main_v25 main_v36
  let main_v38 : IVec S16384x4096 32 := (extui 32 · natLt_1_32) main_v37
  let main_c_9 : IVec S_ 32 := constantI S_ 32 0#32
  let main_v39 : IVec S16384 32 := (fun x v => Host.reduce IntOp.addi x v reducesTo_S16384x4096_S16384_d1 h_S_) main_v38 main_c_9
  let main_c_10 : IVec S_ 32 := constantI S_ 32 1#32
  let main_v40 : IVec S16384 32 := broadcastInDim S16384 ![] bcast_S_S16384 main_c_10
  let main_v41 : IVec S16384 1 := cmpi .eq main_v39 main_v40
  let main_c_11 : IVec S_ 1 := constantI S_ 1 1#1
  let main_v42 : IVec S_ 1 := (fun x v => Host.reduce IntOp.andi x v reducesTo_S16384_S_d0 h_S_) main_v33 main_c_11
  let main_v43 : IVec S_ 1 := andi main_v23 main_v42
  let main_c_12 : IVec S_ 1 := constantI S_ 1 1#1
  let main_v44 : IVec S_ 1 := (fun x v => Host.reduce IntOp.andi x v reducesTo_S16384_S_d0 h_S_) main_v41 main_c_12
  let main_v45 : IVec S_ 1 := andi main_v43 main_v44
  main_v45

def fn_part1 {F : FTy → Type} [FloatOps F] (main_arg1 : FVec F S8192x32 .f32) (main_v14 : FVec F S16384x8192 .f32) (main_v18 : IVec S_ 1) : IVec S_ 1 :=
  let main_v19 : FVec F S8192x32 .f32 := Host.absf main_arg1
  let main_cst_3 : FVec F S_ .f32 := constant S_ .f32 0x7F800000#32
  let main_v20 : FVec F S8192x32 .f32 := broadcastInDim S8192x32 ![] bcast_S_S8192x32 main_cst_3
  let main_v21 : IVec S8192x32 1 := cmpf .olt main_v19 main_v20
  let main_c_4 : IVec S_ 1 := constantI S_ 1 1#1
  let main_v22 : IVec S_ 1 := (fun x v => Host.reduce IntOp.andi x v reducesTo_S8192x32_S_d0_1 h_S_) main_v21 main_c_4
  let main_v23 : IVec S_ 1 := andi main_v18 main_v22
  let main_v24 : FVec F S16384x4096 .f32 := (extractStridedSlice S16384x4096 ![0, 0] · slices_S16384x8192_S16384x4096_0_0) main_v14
  let main_v25 : FVec F S16384x4096 .f32 := (extractStridedSlice S16384x4096 ![0, 4096] · slices_S16384x8192_S16384x4096_0_4096) main_v14
  let main_cst_5 : FVec F S_ .f32 := constant S_ .f32 0x7F800000#32
  let main_v26 : FVec F S16384 .f32 := (fun x v => Host.reduce FloatOps.minimumf x v reducesTo_S16384x4096_S16384_d1 h_S_) main_v24 main_cst_5
  let main_v27 : FVec F S16384x1 .f32 := broadcastInDim S16384x1 ![0] bcast_S16384_S16384x1_0 main_v26
  let main_v28 : FVec F S16384x4096 .f32 := broadcastInDim S16384x4096 ![0, 1] bcast_S16384x1_S16384x4096_0_1 main_v27
  let main_v29 : IVec S16384x4096 1 := cmpf .oeq main_v24 main_v28
  let main_v30 : IVec S16384x4096 32 := (extui 32 · natLt_1_32) main_v29
  let main_c_6 : IVec S_ 32 := constantI S_ 32 0#32
  let main_v31 : IVec S16384 32 := (fun x v => Host.reduce IntOp.addi x v reducesTo_S16384x4096_S16384_d1 h_S_) main_v30 main_c_6
  let main_c_7 : IVec S_ 32 := constantI S_ 32 1#32
  let main_v32 : IVec S16384 32 := broadcastInDim S16384 ![] bcast_S_S16384 main_c_7
  let main_v33 : IVec S16384 1 := cmpi .eq main_v31 main_v32
  let main_cst_8 : FVec F S_ .f32 := constant S_ .f32 0x7F800000#32
  let main_v34 : FVec F S16384 .f32 := (fun x v => Host.reduce FloatOps.minimumf x v reducesTo_S16384x4096_S16384_d1 h_S_) main_v25 main_cst_8
  let main_v35 : FVec F S16384x1 .f32 := broadcastInDim S16384x1 ![0] bcast_S16384_S16384x1_0 main_v34
  let main_v36 : FVec F S16384x4096 .f32 := broadcastInDim S16384x4096 ![0, 1] bcast_S16384x1_S16384x4096_0_1 main_v35
  fn_part2 (F := F) main_v23 main_v25 main_v33 main_v36

def fn {F : FTy → Type} [FloatOps F] (main_arg0 : FVec F S16x1024x32 .f32) (main_arg1 : FVec F S8192x32 .f32) : IVec S_ 1 :=
  let main_v0 : FVec F S16384x32 .f32 := shapeCast S16384x32 main_arg0 shapeCasts_S16x1024x32_S16384x32
  let main_v1 : FVec F S16384x32 .f32 := mulf main_v0 main_v0
  let main_cst : FVec F S_ .f32 := constant S_ .f32 0x00000000#32
  let main_v2 : FVec F S16384 .f32 := (fun x v => Host.reduceAdd x v reducesTo_S16384x32_S16384_d1 h_S_) main_v1 main_cst
  let main_v3 : FVec F S16384x1 .f32 := broadcastInDim S16384x1 ![0] bcast_S16384_S16384x1_0 main_v2
  let main_v4 : FVec F S32x8192 .f32 := (transpose S32x8192 [1, 0] · transposes_S8192x32_S32x8192_1_0) main_arg1
  let main_v5 : FVec F S16384x8192 .f32 := (fun l r => Host.dotGeneral dot_S16384x32_S32x8192_S16384x8192_1_0_0_1_n_n none l r) main_v0 main_v4
  let main_cst_0 : FVec F S_ .f32 := constant S_ .f32 0x40000000#32
  let main_v6 : FVec F S16384x8192 .f32 := broadcastInDim S16384x8192 ![] bcast_S_S16384x8192 main_cst_0
  let main_v7 : FVec F S16384x8192 .f32 := mulf main_v6 main_v5
  let main_v8 : FVec F S16384x8192 .f32 := broadcastInDim S16384x8192 ![0, 1] bcast_S16384x1_S16384x8192_0_1 main_v3
  let main_v9 : FVec F S16384x8192 .f32 := subf main_v8 main_v7
  let main_v10 : FVec F S8192x32 .f32 := mulf main_arg1 main_arg1
  let main_cst_1 : FVec F S_ .f32 := constant S_ .f32 0x00000000#32
  let main_v11 : FVec F S8192 .f32 := (fun x v => Host.reduceAdd x v reducesTo_S8192x32_S8192_d1 h_S_) main_v10 main_cst_1
  let main_v12 : FVec F S1x8192 .f32 := broadcastInDim S1x8192 ![1] bcast_S8192_S1x8192_1 main_v11
  let main_v13 : FVec F S16384x8192 .f32 := broadcastInDim S16384x8192 ![0, 1] bcast_S1x8192_S16384x8192_0_1 main_v12
  let main_v14 : FVec F S16384x8192 .f32 := addf main_v9 main_v13
  let main_v15 : FVec F S16x1024x32 .f32 := Host.absf main_arg0
  let main_cst_2 : FVec F S_ .f32 := constant S_ .f32 0x7F800000#32
  let main_v16 : FVec F S16x1024x32 .f32 := broadcastInDim S16x1024x32 ![] bcast_S_S16x1024x32 main_cst_2
  let main_v17 : IVec S16x1024x32 1 := cmpf .olt main_v15 main_v16
  let main_c : IVec S_ 1 := constantI S_ 1 1#1
  let main_v18 : IVec S_ 1 := (fun x v => Host.reduce IntOp.andi x v reducesTo_S16x1024x32_S_d0_1_2 h_S_) main_v17 main_c
  fn_part1 (F := F) main_arg1 main_v14 main_v18
-- ==== Pre_in_range.lean ====
abbrev S8192x32 : Shape := ⟨2, ![8192, 32]⟩
abbrev S16384x1 : Shape := ⟨2, ![16384, 1]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel

variable [Facts]

def fn {F : FTy → Type} [FloatOps F] (main_arg0 : FVec F S8192x32 .f32) (main_arg1 : IVec S16384x1 32) : IVec S_ 1 :=
  let main_c : IVec S_ 32 := constantI S_ 32 0#32
  let main_v0 : IVec S16384x1 32 := broadcastInDim S16384x1 ![] bcast_S_S16384x1 main_c
  let main_v1 : IVec S16384x1 1 := cmpi .sge main_arg1 main_v0
  let main_c_0 : IVec S_ 32 := constantI S_ 32 8192#32
  let main_v2 : IVec S16384x1 32 := broadcastInDim S16384x1 ![] bcast_S_S16384x1 main_c_0
  let main_v3 : IVec S16384x1 1 := cmpi .slt main_arg1 main_v2
  let main_v4 : IVec S16384x1 1 := andi main_v1 main_v3
  let main_c_1 : IVec S_ 1 := constantI S_ 1 1#1
  let main_v5 : IVec S_ 1 := (fun x v => Host.reduce IntOp.andi x v reducesTo_S16384x1_S_d0_1 h_S_) main_v4 main_c_1
  main_v5
-- ==== Gather.lean ====
abbrev S8192x32 : Shape := ⟨2, ![8192, 32]⟩
abbrev S16384x1 : Shape := ⟨2, ![16384, 1]⟩
abbrev S_ : Shape := ⟨0, ![]⟩
abbrev S8192x128 : Shape := ⟨2, ![8192, 128]⟩
abbrev S1x16384 : Shape := ⟨2, ![1, 16384]⟩
abbrev S16384x128 : Shape := ⟨2, ![16384, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S16384x32 : Shape := ⟨2, ![16384, 32]⟩
abbrev S16x1024x32 : Shape := ⟨3, ![16, 1024, 32]⟩

abbrev nBuf : Table → Nat
  | .hbm => 9
  | .local .scVector .vmem => 2
  | _ => 0

abbrev bufTy : (tb : Table) → Fin (nBuf tb) → BufTy
  | .hbm, ⟨0, _⟩ => ⟨S8192x32, .f32⟩
  | .hbm, ⟨1, _⟩ => ⟨S16384x1, .i32⟩
  | .hbm, ⟨2, _⟩ => ⟨S_, .i32⟩
  | .hbm, ⟨3, _⟩ => ⟨S_, .f32⟩
  | .hbm, ⟨4, _⟩ => ⟨S8192x128, .f32⟩
  | .hbm, ⟨5, _⟩ => ⟨S1x16384, .i32⟩
  | .hbm, ⟨6, _⟩ => ⟨S16384x128, .f32⟩
  | .hbm, ⟨7, _⟩ => ⟨S16384x32, .f32⟩
  | .hbm, ⟨8, _⟩ => ⟨S16x1024x32, .f32⟩
  | .local .scVector .vmem, ⟨0, _⟩ => ⟨S2x1x128, .i32⟩
  | .local .scVector .vmem, ⟨1, _⟩ => ⟨S2x128x128, .f32⟩
  | _, _ => ⟨S8192x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_11_r0 : BitVec 32 := 0#32
  let c2_i32_r0 : BitVec 32 := 2#32
  let v17_r0 : BitVec 32 := Scalar.remui c0_i32_11_r0 c2_i32_r0
  let c0_i32_12_r0 : BitVec 32 := 0#32
  let c0_i32_13_r0 : BitVec 32 := 0#32
  ![v17_r0.toNat, 0, 0]
def k0_off2 (i : grid0.Coords) : Fin 2 → Nat :=
  let c0_i32_14_r0 : BitVec 32 := 0#32
  let c128_i32_r0 : BitVec 32 := 128#32
  let c0_i32_r0 : BitVec 32 := 0#32
  let arg1 : BitVec 32 := BitVec.ofNat 32 (i 1).val
  let c8_i32 : BitVec 32 := 8#32
  let v0 : BitVec 32 := Scalar.muli arg1 c8_i32
  let v3_r0 : BitVec 32 := Scalar.addi c0_i32_r0 v0
  let v18_r0 : BitVec 32 := Scalar.muli c128_i32_r0 v3_r0
  ![0, v18_r0.toNat]
def k0_off3 : Fin 1 → Nat :=
  let c0_i32_11_r0 : BitVec 32 := 0#32
  let c2_i32_r0 : BitVec 32 := 2#32
  let v17_r0 : BitVec 32 := Scalar.remui c0_i32_11_r0 c2_i32_r0
  ![v17_r0.toNat]
@[reducible] def k0_t1_loop : Scf.Loop 32 :=
  let c0_i32_24_r0 : BitVec 32 := 0#32
  let c8_i32_25_r0 : BitVec 32 := 8#32
  let v28_r0 : BitVec 32 := Scalar.addi c0_i32_24_r0 c8_i32_25_r0
  let c1_i32_26_r0 : BitVec 32 := 1#32
  ⟨c0_i32_24_r0, v28_r0, c1_i32_26_r0⟩
def k0_off4 (arg6_r0 : BitVec 32) : Fin 3 → Nat :=
  let c2_i32_97_r0 : BitVec 32 := 2#32
  let v140_r0 : BitVec 32 := Scalar.remui arg6_r0 c2_i32_97_r0
  let c0_i32_99_r0 : BitVec 32 := 0#32
  let c0_i32_100_r0 : BitVec 32 := 0#32
  ![v140_r0.toNat, 0, 0]
def k0_cond1 (i : grid0.Coords) (k0_t1 : Fin k0_t1_loop.trips) (arg10_r0 : BitVec 32) : BitVec 1 :=
  let arg1 : BitVec 32 := BitVec.ofNat 32 (i 1).val
  let c8_i32 : BitVec 32 := 8#32
  let v0 : BitVec 32 := Scalar.muli arg1 c8_i32
  let v62_r0 : BitVec 32 := Scalar.addi arg10_r0 v0
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c8_i32_60_r0 : BitVec 32 := 8#32
  let v70_r0 : BitVec 1 := Scalar.cmpi .eq v69_r0 c8_i32_60_r0
  let c0_i32_61_r0 : BitVec 32 := 0#32
  let v71_r0 : BitVec 32 := Scalar.select v70_r0 c0_i32_61_r0 v69_r0
  let v72_r0 : BitVec 32 := Scalar.addi v71_r0 v0
  let v78_r0 : BitVec 1 := Scalar.cmpi .ne v62_r0 v72_r0
  let c0_i32_24_r0 : BitVec 32 := 0#32
  let c1_i32_26_r0 : BitVec 32 := 1#32
  let arg5_r0 : BitVec 32 := Scf.iv c0_i32_24_r0 c1_i32_26_r0 k0_t1
  let c7_i32_66_r0 : BitVec 32 := 7#32
  let v79_r0 : BitVec 1 := Scalar.cmpi .sge arg5_r0 c7_i32_66_r0
  let true_67_r0 : BitVec 1 := 1#1
  let v80_r0 : BitVec 1 := Scalar.xori v79_r0 true_67_r0
  let v81_r0 : BitVec 1 := Scalar.andi v78_r0 v80_r0
  let true_68_r0 : BitVec 1 := 1#1
  let v82_r0 : BitVec 1 := Scalar.andi v81_r0 true_68_r0
  let v83_r0 : BitVec 32 := Scalar.extui v82_r0
  let c0_i32_69_r0 : BitVec 32 := 0#32
  let v84_r0 : BitVec 1 := Scalar.cmpi .ne v83_r0 c0_i32_69_r0
  v84_r0

def k0_off5 (i : grid0.Coords) (arg10_r0 : BitVec 32) : Fin 2 → Nat :=
  let c0_i32_101_r0 : BitVec 32 := 0#32
  let c128_i32_98_r0 : BitVec 32 := 128#32
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c8_i32_60_r0 : BitVec 32 := 8#32
  let v70_r0 : BitVec 1 := Scalar.cmpi .eq v69_r0 c8_i32_60_r0
  let c0_i32_61_r0 : BitVec 32 := 0#32
  let v71_r0 : BitVec 32 := Scalar.select v70_r0 c0_i32_61_r0 v69_r0
  let arg1 : BitVec 32 := BitVec.ofNat 32 (i 1).val
  let c8_i32 : BitVec 32 := 8#32
  let v0 : BitVec 32 := Scalar.muli arg1 c8_i32
  let v72_r0 : BitVec 32 := Scalar.addi v71_r0 v0
  let v141_r0 : BitVec 32 := Scalar.muli c128_i32_98_r0 v72_r0
  ![0, v141_r0.toNat]
def k0_off6 (arg6_r0 : BitVec 32) : Fin 1 → Nat :=
  let c2_i32_97_r0 : BitVec 32 := 2#32
  let v140_r0 : BitVec 32 := Scalar.remui arg6_r0 c2_i32_97_r0
  ![v140_r0.toNat]
def k0_off7 (arg7_r0 : BitVec 32) : Fin 3 → Nat :=
  let c2_i32_98_r0 : BitVec 32 := 2#32
  let v141_r0 : BitVec 32 := Scalar.remui arg7_r0 c2_i32_98_r0
  let c0_i32_99_r0 : BitVec 32 := 0#32
  let c0_i32_100_r0 : BitVec 32 := 0#32
  ![v141_r0.toNat, 0, 0]
def k0_cond2 (i : grid0.Coords) (k0_t1 : Fin k0_t1_loop.trips) (arg10_r0 : BitVec 32) : BitVec 1 :=
  let arg1 : BitVec 32 := BitVec.ofNat 32 (i 1).val
  let c8_i32 : BitVec 32 := 8#32
  let v0 : BitVec 32 := Scalar.muli arg1 c8_i32
  let v62_r0 : BitVec 32 := Scalar.addi arg10_r0 v0
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c7_i32_57_r0 : BitVec 32 := 7#32
  let v66_r0 : BitVec 32 := Scalar.select v65_r0 c7_i32_57_r0 v64_r0
  let v67_r0 : BitVec 32 := Scalar.addi v66_r0 v0
  let v92_r0 : BitVec 1 := Scalar.cmpi .ne v62_r0 v67_r0
  let c0_i32_24_r0 : BitVec 32 := 0#32
  let c1_i32_26_r0 : BitVec 32 := 1#32
  let arg5_r0 : BitVec 32 := Scf.iv c0_i32_24_r0 c1_i32_26_r0 k0_t1
  let c0_i32_52_r0 : BitVec 32 := 0#32
  let v60_r0 : BitVec 1 := Scalar.cmpi .eq arg5_r0 c0_i32_52_r0
  let v93_r0 : BitVec 1 := Scalar.ori v92_r0 v60_r0
  let c0_i32_74_r0 : BitVec 32 := 0#32
  let v94_r0 : BitVec 1 := Scalar.cmpi .sge arg5_r0 c0_i32_74_r0
  let v95_r0 : BitVec 1 := Scalar.andi v93_r0 v94_r0
  let v96_r0 : BitVec 32 := Scalar.extui v95_r0
  let c0_i32_75_r0 : BitVec 32 := 0#32
  let v97_r0 : BitVec 1 := Scalar.cmpi .ne v96_r0 c0_i32_75_r0
  v97_r0

def k0_off8 (i : grid0.Coords) (arg10_r0 : BitVec 32) : Fin 2 → Nat :=
  let c0_i32_101_r0 : BitVec 32 := 0#32
  let c128_i32_97_r0 : BitVec 32 := 128#32
  let arg1 : BitVec 32 := BitVec.ofNat 32 (i 1).val
  let c8_i32 : BitVec 32 := 8#32
  let v0 : BitVec 32 := Scalar.muli arg1 c8_i32
  let v62_r0 : BitVec 32 := Scalar.addi arg10_r0 v0
  let v140_r0 : BitVec 32 := Scalar.muli c128_i32_97_r0 v62_r0
  ![0, v140_r0.toNat]
def k0_off9 (arg7_r0 : BitVec 32) : Fin 1 → Nat :=
  let c2_i32_98_r0 : BitVec 32 := 2#32
  let v141_r0 : BitVec 32 := Scalar.remui arg7_r0 c2_i32_98_r0
  ![v141_r0.toNat]
def k0_off10 (arg8_r0 : BitVec 32) : Fin 3 → Nat :=
  let c2_i32_79_r0 : BitVec 32 := 2#32
  let v105_r0 : BitVec 32 := Scalar.remui arg8_r0 c2_i32_79_r0
  let c0_i32_97_r1 : BitVec 32 := 0#32
  let c0_i32_98_r1 : BitVec 32 := 0#32
  ![v105_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_78_r0 : BitVec 32 := 2#32
  let v104_r0 : BitVec 32 := Scalar.remui arg7_r0 c2_i32_78_r0
  let c0_i32_99_r1 : BitVec 32 := 0#32
  let c0_i32_100_r1 : BitVec 32 := 0#32
  ![v104_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_97_r0 : BitVec 32 := 2#32
  let v140_r0 : BitVec 32 := Scalar.remui arg8_r0 c2_i32_97_r0
  let c0_i32_99_r0 : BitVec 32 := 0#32
  let c0_i32_100_r0 : BitVec 32 := 0#32
  ![v140_r0.toNat, 0, 0]
def k0_cond5 (i : grid0.Coords) (k0_t1 : Fin k0_t1_loop.trips) (arg10_r0 : BitVec 32) : BitVec 1 :=
  let arg1 : BitVec 32 := BitVec.ofNat 32 (i 1).val
  let c8_i32 : BitVec 32 := 8#32
  let v0 : BitVec 32 := Scalar.muli arg1 c8_i32
  let v62_r0 : BitVec 32 := Scalar.addi arg10_r0 v0
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c8_i32_60_r0 : BitVec 32 := 8#32
  let v70_r0 : BitVec 1 := Scalar.cmpi .eq v69_r0 c8_i32_60_r0
  let c0_i32_61_r0 : BitVec 32 := 0#32
  let v71_r0 : BitVec 32 := Scalar.select v70_r0 c0_i32_61_r0 v69_r0
  let v72_r0 : BitVec 32 := Scalar.addi v71_r0 v0
  let v111_r0 : BitVec 1 := Scalar.cmpi .ne v62_r0 v72_r0
  let c0_i32_24_r0 : BitVec 32 := 0#32
  let c1_i32_26_r0 : BitVec 32 := 1#32
  let arg5_r0 : BitVec 32 := Scf.iv c0_i32_24_r0 c1_i32_26_r0 k0_t1
  let c7_i32_53_r0 : BitVec 32 := 7#32
  let v61_r0 : BitVec 1 := Scalar.cmpi .eq arg5_r0 c7_i32_53_r0
  let v112_r0 : BitVec 1 := Scalar.ori v111_r0 v61_r0
  let v113_r0 : BitVec 32 := Scalar.extui v112_r0
  let c0_i32_82_r0 : BitVec 32 := 0#32
  let v114_r0 : BitVec 1 := Scalar.cmpi .ne v113_r0 c0_i32_82_r0
  v114_r0

def k0_off13 (i : grid0.Coords) (arg10_r0 : BitVec 32) : Fin 2 → Nat :=
  let c128_i32_98_r0 : BitVec 32 := 128#32
  let arg1 : BitVec 32 := BitVec.ofNat 32 (i 1).val
  let c8_i32 : BitVec 32 := 8#32
  let v0 : BitVec 32 := Scalar.muli arg1 c8_i32
  let v62_r0 : BitVec 32 := Scalar.addi arg10_r0 v0
  let v141_r0 : BitVec 32 := Scalar.muli c128_i32_98_r0 v62_r0
  let c0_i32_101_r0 : BitVec 32 := 0#32
  ![v141_r0.toNat, 0]
def k0_off14 (arg8_r0 : BitVec 32) : Fin 1 → Nat :=
  let c2_i32_97_r0 : BitVec 32 := 2#32
  let v140_r0 : BitVec 32 := Scalar.remui arg8_r0 c2_i32_97_r0
  ![v140_r0.toNat]
def k0_off15 (arg9_r0 : BitVec 32) : Fin 3 → Nat :=
  let c2_i32_97_r0 : BitVec 32 := 2#32
  let v140_r0 : BitVec 32 := Scalar.remui arg9_r0 c2_i32_97_r0
  let c0_i32_99_r0 : BitVec 32 := 0#32
  let c0_i32_100_r0 : BitVec 32 := 0#32
  ![v140_r0.toNat, 0, 0]
def k0_cond7 (i : grid0.Coords) (k0_t1 : Fin k0_t1_loop.trips) (arg10_r0 : BitVec 32) : BitVec 1 :=
  let arg1 : BitVec 32 := BitVec.ofNat 32 (i 1).val
  let c8_i32 : BitVec 32 := 8#32
  let v0 : BitVec 32 := Scalar.muli arg1 c8_i32
  let v62_r0 : BitVec 32 := Scalar.addi arg10_r0 v0
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c7_i32_57_r0 : BitVec 32 := 7#32
  let v66_r0 : BitVec 32 := Scalar.select v65_r0 c7_i32_57_r0 v64_r0
  let v67_r0 : BitVec 32 := Scalar.addi v66_r0 v0
  let v124_r0 : BitVec 1 := Scalar.cmpi .ne v62_r0 v67_r0
  let c0_i32_24_r0 : BitVec 32 := 0#32
  let c1_i32_26_r0 : BitVec 32 := 1#32
  let arg5_r0 : BitVec 32 := Scf.iv c0_i32_24_r0 c1_i32_26_r0 k0_t1
  let c0_i32_52_r0 : BitVec 32 := 0#32
  let v60_r0 : BitVec 1 := Scalar.cmpi .eq arg5_r0 c0_i32_52_r0
  let true_88_r0 : BitVec 1 := 1#1
  let v125_r0 : BitVec 1 := Scalar.xori v60_r0 true_88_r0
  let v126_r0 : BitVec 1 := Scalar.andi v124_r0 v125_r0
  let v127_r0 : BitVec 32 := Scalar.extui v126_r0
  let c0_i32_89_r0 : BitVec 32 := 0#32
  let v128_r0 : BitVec 1 := Scalar.cmpi .ne v127_r0 c0_i32_89_r0
  v128_r0

def k0_off16 (i : grid0.Coords) (arg10_r0 : BitVec 32) : Fin 2 → Nat :=
  let c128_i32_98_r0 : BitVec 32 := 128#32
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c7_i32_57_r0 : BitVec 32 := 7#32
  let v66_r0 : BitVec 32 := Scalar.select v65_r0 c7_i32_57_r0 v64_r0
  let arg1 : BitVec 32 := BitVec.ofNat 32 (i 1).val
  let c8_i32 : BitVec 32 := 8#32
  let v0 : BitVec 32 := Scalar.muli arg1 c8_i32
  let v67_r0 : BitVec 32 := Scalar.addi v66_r0 v0
  let v141_r0 : BitVec 32 := Scalar.muli c128_i32_98_r0 v67_r0
  let c0_i32_101_r0 : BitVec 32 := 0#32
  ![v141_r0.toNat, 0]
def k0_off17 (arg9_r0 : BitVec 32) : Fin 1 → Nat :=
  let c2_i32_97_r0 : BitVec 32 := 2#32
  let v140_r0 : BitVec 32 := Scalar.remui arg9_r0 c2_i32_97_r0
  ![v140_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x16384.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x16384.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S16384x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S16384x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x16384.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x16384.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S16384x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S16384x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v29_3_r0 : BitVec 32) : Fin 3 → Nat :=
  let c2_i32_44_r0 : BitVec 32 := 2#32
  let v50_r0 : BitVec 32 := Scalar.remui v29_3_r0 c2_i32_44_r0
  let c0_i32_46_r0 : BitVec 32 := 0#32
  let c0_i32_47_r0 : BitVec 32 := 0#32
  ![v50_r0.toNat, 0, 0]

def k0_off19 (i : grid0.Coords) (v29_4_r0 : BitVec 32) : Fin 2 → Nat :=
  let c128_i32_45_r0 : BitVec 32 := 128#32
  let true_29_r0 : BitVec 1 := 1#1
  let c1_i32_28_r0 : BitVec 32 := 1#32
  let v30_r0 : BitVec 32 := Scalar.subi v29_4_r0 c1_i32_28_r0
  let v31_r0 : BitVec 32 := Scalar.select true_29_r0 v30_r0 v29_4_r0
  let c_m1_i32_30_r0 : BitVec 32 := 4294967295#32
  let v32_r0 : BitVec 1 := Scalar.cmpi .eq v31_r0 c_m1_i32_30_r0
  let c7_i32_31_r0 : BitVec 32 := 7#32
  let v33_r0 : BitVec 32 := Scalar.select v32_r0 c7_i32_31_r0 v31_r0
  let arg1 : BitVec 32 := BitVec.ofNat 32 (i 1).val
  let c8_i32 : BitVec 32 := 8#32
  let v0 : BitVec 32 := Scalar.muli arg1 c8_i32
  let v34_r0 : BitVec 32 := Scalar.addi v33_r0 v0
  let v51_r0 : BitVec 32 := Scalar.muli c128_i32_45_r0 v34_r0
  let c0_i32_48_r0 : BitVec 32 := 0#32
  ![v51_r0.toNat, 0]

def k0_chk5 (i : grid0.Coords) (v29_4_r0 : BitVec 32) : Prop :=
  (∀ a, (k0_off19 i v29_4_r0) a + S128x128.size a ≤ S16384x128.size a)
theorem k0_off19_inb : ∀ (i : grid0.Coords) (v29_4_r0 : BitVec 32) (k0_hw5 : k0_chk5 i v29_4_r0), ∀ a, (k0_off19 i v29_4_r0) a + S128x128.size a ≤ S16384x128.size a := fun i v29_4_r0 k0_hw5 => k0_hw5

def k0_off20 (v29_3_r0 : BitVec 32) : Fin 1 → Nat :=
  let c2_i32_44_r0 : BitVec 32 := 2#32
  let v50_r0 : BitVec 32 := Scalar.remui v29_3_r0 c2_i32_44_r0
  ![v50_r0.toNat]
def k0_off21 (v29_3_r0 : BitVec 32) : Fin 3 → Nat :=
  let c2_i32_44_r0 : BitVec 32 := 2#32
  let v50_r0 : BitVec 32 := Scalar.remui v29_3_r0 c2_i32_44_r0
  let c0_i32_50_r0 : BitVec 32 := 0#32
  let c0_i32_51_r0 : BitVec 32 := 0#32
  ![v50_r0.toNat, 0, 0]

def k0_chk4 (v29_3_r0 : BitVec 32) : Prop :=
  (∀ a, (k0_off18 v29_3_r0) a + S1x128x128.size a ≤ S2x128x128.size a) ∧
  (∀ a, (k0_off20 v29_3_r0) a + S1.size a ≤ S2.size a) ∧
  (∀ a, (k0_off21 v29_3_r0) a + S1x128x128.size a ≤ S2x128x128.size a)
theorem k0_off18_inb : ∀ (v29_3_r0 : BitVec 32) (k0_hw4 : k0_chk4 v29_3_r0), ∀ a, (k0_off18 v29_3_r0) a + S1x128x128.size a ≤ S2x128x128.size a := fun v29_3_r0 k0_hw4 => k0_hw4.1
theorem k0_off20_inb : ∀ (v29_3_r0 : BitVec 32) (k0_hw4 : k0_chk4 v29_3_r0), ∀ a, (k0_off20 v29_3_r0) a + S1.size a ≤ S2.size a := fun v29_3_r0 k0_hw4 => k0_hw4.2.1
theorem k0_off21_inb : ∀ (v29_3_r0 : BitVec 32) (k0_hw4 : k0_chk4 v29_3_r0), ∀ a, (k0_off21 v29_3_r0) a + S1x128x128.size a ≤ S2x128x128.size a := fun v29_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Taken.lean ====
abbrev S8192x32 : Shape := ⟨2, ![8192, 32]⟩
abbrev S16384x1 : Shape := ⟨2, ![16384, 1]⟩
abbrev S16x1024 : Shape := ⟨2, ![16, 1024]⟩
abbrev S_ : Shape := ⟨0, ![]⟩
abbrev S16x1024x1 : Shape := ⟨3, ![16, 1024, 1]⟩
abbrev S1 : Shape := ⟨1, ![1]⟩
abbrev S1x1x1 : Shape := ⟨3, ![1, 1, 1]⟩
abbrev S16x1024x32 : Shape := ⟨3, ![16, 1024, 32]⟩

abbrev nBuf : Space → Nat
  | .hbm => 26
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S16384x1, .i32⟩
  | .hbm, ⟨2, _⟩ => ⟨S16x1024, .i32⟩
  | .hbm, ⟨3, _⟩ => ⟨S_, .i32⟩
  | .hbm, ⟨4, _⟩ => ⟨S16x1024, .i32⟩
  | .hbm, ⟨5, _⟩ => ⟨S16x1024, .i1⟩
  | .hbm, ⟨6, _⟩ => ⟨S_, .i32⟩
  | .hbm, ⟨7, _⟩ => ⟨S16x1024, .i32⟩
  | .hbm, ⟨8, _⟩ => ⟨S16x1024, .i32⟩
  | .hbm, ⟨9, _⟩ => ⟨S16x1024, .i32⟩
  | .hbm, ⟨10, _⟩ => ⟨S16x1024x1, .i32⟩
  | .hbm, ⟨11, _⟩ => ⟨S1, .i32⟩
  | .hbm, ⟨12, _⟩ => ⟨S_, .i32⟩
  | .hbm, ⟨13, _⟩ => ⟨S16x1024x1, .i32⟩
  | .hbm, ⟨14, _⟩ => ⟨S16x1024x1, .i1⟩
  | .hbm, ⟨15, _⟩ => ⟨S1x1x1, .i32⟩
  | .hbm, ⟨16, _⟩ => ⟨S16x1024x1, .i32⟩
  | .hbm, ⟨17, _⟩ => ⟨S16x1024x1, .i1⟩
  | .hbm, ⟨18, _⟩ => ⟨S16x1024x1, .i1⟩
  | .hbm, ⟨19, _⟩ => ⟨S_, .i1⟩
  | .hbm, ⟨20, _⟩ => ⟨S16x1024, .i1⟩
  | .hbm, ⟨21, _⟩ => ⟨S16x1024x32, .f32⟩
  | .hbm, ⟨22, _⟩ => ⟨S16x1024x32, .i1⟩
  | .hbm, ⟨23, _⟩ => ⟨S_, .f32⟩
  | .hbm, ⟨24, _⟩ => ⟨S16x1024x32, .f32⟩
  | .hbm, ⟨25, _⟩ => ⟨S16x1024x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== KernelIdeal.lean ====
abbrev S16x1024x32 : Shape := ⟨3, ![16, 1024, 32]⟩
abbrev S8192x32 : Shape := ⟨2, ![8192, 32]⟩
abbrev S16384x32 : Shape := ⟨2, ![16384, 32]⟩
abbrev S16384x1 : Shape := ⟨2, ![16384, 1]⟩
abbrev S1x1 : Shape := ⟨2, ![1, 1]⟩
abbrev S512x32 : Shape := ⟨2, ![512, 32]⟩
abbrev S512x1 : Shape := ⟨2, ![512, 1]⟩
abbrev S1x8192 : Shape := ⟨2, ![1, 8192]⟩
abbrev S8192 : Shape := ⟨1, ![8192]⟩
abbrev S512 : Shape := ⟨1, ![512]⟩
abbrev S512x8192 : Shape := ⟨2, ![512, 8192]⟩
abbrev S512x4096 : Shape := ⟨2, ![512, 4096]⟩
abbrev S1x512x1 : Shape := ⟨3, ![1, 512, 1]⟩
abbrev S1 : Shape := ⟨1, ![1]⟩
abbrev S1x1x1 : Shape := ⟨3, ![1, 1, 1]⟩
abbrev S_ : Shape := ⟨0, ![]⟩
abbrev S8192x128 : Shape := ⟨2, ![8192, 128]⟩
abbrev S1x16384 : Shape := ⟨2, ![1, 16384]⟩
abbrev S16384x128 : Shape := ⟨2, ![16384, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩
abbrev S16x1024 : Shape := ⟨2, ![16, 1024]⟩

abbrev nBuf : Table → Nat
  | .hbm => 17
  | .local .tc .vmem => 8
  | .local .scVector .vmem => 2
  | _ => 0

abbrev bufTy : (tb : Table) → Fin (nBuf tb) → BufTy
  | .hbm, ⟨0, _⟩ => ⟨S16x1024x32, .f32⟩
  | .hbm, ⟨1, _⟩ => ⟨S8192x32, .f32⟩
  | .hbm, ⟨2, _⟩ => ⟨S16384x32, .f32⟩
  | .hbm, ⟨3, _⟩ => ⟨S16384x1, .i32⟩
  | .hbm, ⟨4, _⟩ => ⟨S1x1, .f32⟩
  | .hbm, ⟨5, _⟩ => ⟨S_, .i32⟩
  | .hbm, ⟨6, _⟩ => ⟨S_, .f32⟩
  | .hbm, ⟨7, _⟩ => ⟨S8192x128, .f32⟩
  | .hbm, ⟨8, _⟩ => ⟨S1x16384, .i32⟩
  | .hbm, ⟨9, _⟩ => ⟨S16384x128, .f32⟩
  | .hbm, ⟨10, _⟩ => ⟨S16384x32, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16x1024, .i32⟩
  | .hbm, ⟨16, _⟩ => ⟨S16x1024x32, .f32⟩
  | .local .tc .vmem, ⟨0, _⟩ => ⟨S512x32, .f32⟩
  | .local .tc .vmem, ⟨1, _⟩ => ⟨S512x32, .f32⟩
  | .local .tc .vmem, ⟨2, _⟩ => ⟨S8192x32, .f32⟩
  | .local .tc .vmem, ⟨3, _⟩ => ⟨S512x1, .i32⟩
  | .local .tc .vmem, ⟨4, _⟩ => ⟨S512x1, .i32⟩
  | .local .tc .vmem, ⟨5, _⟩ => ⟨S1x1, .f32⟩
  | .local .tc .vmem, ⟨6, _⟩ => ⟨S8192x32, .f32⟩
  | .local .tc .vmem, ⟨7, _⟩ => ⟨S1x8192, .f32⟩
  | .local .scVector .vmem, ⟨0, _⟩ => ⟨S2x1x128, .i32⟩
  | .local .scVector .vmem, ⟨1, _⟩ => ⟨S2x128x128, .f32⟩
  | _, _ => ⟨S16x1024x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v2_scv : Ref sig .scVector := ⟨.hbm, 7, rfl⟩
abbrev main_v3_scv : Ref sig .scVector := ⟨.hbm, 8, rfl⟩
abbrev main_v4_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

def k1_off1 : Fin 3 → Nat :=
  let c0_i32_11_r0 : BitVec 32 := 0#32
  let c2_i32_r0 : BitVec 32 := 2#32
  let v17_r0 : BitVec 32 := Scalar.remui c0_i32_11_r0 c2_i32_r0
  let c0_i32_12_r0 : BitVec 32 := 0#32
  let c0_i32_13_r0 : BitVec 32 := 0#32
  ![v17_r0.toNat, 0, 0]
def k1_off2 (i : grid1.Coords) : Fin 2 → Nat :=
  let c0_i32_14_r0 : BitVec 32 := 0#32
  let c128_i32_r0 : BitVec 32 := 128#32
  let c0_i32_r0 : BitVec 32 := 0#32
  let arg1 : BitVec 32 := BitVec.ofNat 32 (i 1).val
  let c8_i32 : BitVec 32 := 8#32
  let v0 : BitVec 32 := Scalar.muli arg1 c8_i32
  let v3_r0 : BitVec 32 := Scalar.addi c0_i32_r0 v0
  let v18_r0 : BitVec 32 := Scalar.muli c128_i32_r0 v3_r0
  ![0, v18_r0.toNat]
def k1_off3 : Fin 1 → Nat :=
  let c0_i32_11_r0 : BitVec 32 := 0#32
  let c2_i32_r0 : BitVec 32 := 2#32
  let v17_r0 : BitVec 32 := Scalar.remui c0_i32_11_r0 c2_i32_r0
  ![v17_r0.toNat]
@[reducible] def k1_t1_loop : Scf.Loop 32 :=
  let c0_i32_24_r0 : BitVec 32 := 0#32
  let c8_i32_25_r0 : BitVec 32 := 8#32
  let v28_r0 : BitVec 32 := Scalar.addi c0_i32_24_r0 c8_i32_25_r0
  let c1_i32_26_r0 : BitVec 32 := 1#32
  ⟨c0_i32_24_r0, v28_r0, c1_i32_26_r0⟩
def k1_off4 (arg6_r0 : BitVec 32) : Fin 3 → Nat :=
  let c2_i32_97_r0 : BitVec 32 := 2#32
  let v140_r0 : BitVec 32 := Scalar.remui arg6_r0 c2_i32_97_r0
  let c0_i32_99_r0 : BitVec 32 := 0#32
  let c0_i32_100_r0 : BitVec 32 := 0#32
  ![v140_r0.toNat, 0, 0]
def k1_cond1 (i : grid1.Coords) (k1_t1 : Fin k1_t1_loop.trips) (arg10_r0 : BitVec 32) : BitVec 1 :=
  let arg1 : BitVec 32 := BitVec.ofNat 32 (i 1).val
  let c8_i32 : BitVec 32 := 8#32
  let v0 : BitVec 32 := Scalar.muli arg1 c8_i32
  let v62_r0 : BitVec 32 := Scalar.addi arg10_r0 v0
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c8_i32_60_r0 : BitVec 32 := 8#32
  let v70_r0 : BitVec 1 := Scalar.cmpi .eq v69_r0 c8_i32_60_r0
  let c0_i32_61_r0 : BitVec 32 := 0#32
  let v71_r0 : BitVec 32 := Scalar.select v70_r0 c0_i32_61_r0 v69_r0
  let v72_r0 : BitVec 32 := Scalar.addi v71_r0 v0
  let v78_r0 : BitVec 1 := Scalar.cmpi .ne v62_r0 v72_r0
  let c0_i32_24_r0 : BitVec 32 := 0#32
  let c1_i32_26_r0 : BitVec 32 := 1#32
  let arg5_r0 : BitVec 32 := Scf.iv c0_i32_24_r0 c1_i32_26_r0 k1_t1
  let c7_i32_66_r0 : BitVec 32 := 7#32
  let v79_r0 : BitVec 1 := Scalar.cmpi .sge arg5_r0 c7_i32_66_r0
  let true_67_r0 : BitVec 1 := 1#1
  let v80_r0 : BitVec 1 := Scalar.xori v79_r0 true_67_r0
  let v81_r0 : BitVec 1 := Scalar.andi v78_r0 v80_r0
  let true_68_r0 : BitVec 1 := 1#1
  let v82_r0 : BitVec 1 := Scalar.andi v81_r0 true_68_r0
  let v83_r0 : BitVec 32 := Scalar.extui v82_r0
  let c0_i32_69_r0 : BitVec 32 := 0#32
  let v84_r0 : BitVec 1 := Scalar.cmpi .ne v83_r0 c0_i32_69_r0
  v84_r0

def k1_off5 (i : grid1.Coords) (arg10_r0 : BitVec 32) : Fin 2 → Nat :=
  let c0_i32_101_r0 : BitVec 32 := 0#32
  let c128_i32_98_r0 : BitVec 32 := 128#32
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c8_i32_60_r0 : BitVec 32 := 8#32
  let v70_r0 : BitVec 1 := Scalar.cmpi .eq v69_r0 c8_i32_60_r0
  let c0_i32_61_r0 : BitVec 32 := 0#32
  let v71_r0 : BitVec 32 := Scalar.select v70_r0 c0_i32_61_r0 v69_r0
  let arg1 : BitVec 32 := BitVec.ofNat 32 (i 1).val
  let c8_i32 : BitVec 32 := 8#32
  let v0 : BitVec 32 := Scalar.muli arg1 c8_i32
  let v72_r0 : BitVec 32 := Scalar.addi v71_r0 v0
  let v141_r0 : BitVec 32 := Scalar.muli c128_i32_98_r0 v72_r0
  ![0, v141_r0.toNat]
def k1_off6 (arg6_r0 : BitVec 32) : Fin 1 → Nat :=
  let c2_i32_97_r0 : BitVec 32 := 2#32
  let v140_r0 : BitVec 32 := Scalar.remui arg6_r0 c2_i32_97_r0
  ![v140_r0.toNat]
def k1_off7 (arg7_r0 : BitVec 32) : Fin 3 → Nat :=
  let c2_i32_98_r0 : BitVec 32 := 2#32
  let v141_r0 : BitVec 32 := Scalar.remui arg7_r0 c2_i32_98_r0
  let c0_i32_99_r0 : BitVec 32 := 0#32
  let c0_i32_100_r0 : BitVec 32 := 0#32
  ![v141_r0.toNat, 0, 0]
def k1_cond2 (i : grid1.Coords) (k1_t1 : Fin k1_t1_loop.trips) (arg10_r0 : BitVec 32) : BitVec 1 :=
  let arg1 : BitVec 32 := BitVec.ofNat 32 (i 1).val
  let c8_i32 : BitVec 32 := 8#32
  let v0 : BitVec 32 := Scalar.muli arg1 c8_i32
  let v62_r0 : BitVec 32 := Scalar.addi arg10_r0 v0
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c7_i32_57_r0 : BitVec 32 := 7#32
  let v66_r0 : BitVec 32 := Scalar.select v65_r0 c7_i32_57_r0 v64_r0
  let v67_r0 : BitVec 32 := Scalar.addi v66_r0 v0
  let v92_r0 : BitVec 1 := Scalar.cmpi .ne v62_r0 v67_r0
  let c0_i32_24_r0 : BitVec 32 := 0#32
  let c1_i32_26_r0 : BitVec 32 := 1#32
  let arg5_r0 : BitVec 32 := Scf.iv c0_i32_24_r0 c1_i32_26_r0 k1_t1
  let c0_i32_52_r0 : BitVec 32 := 0#32
  let v60_r0 : BitVec 1 := Scalar.cmpi .eq arg5_r0 c0_i32_52_r0
  let v93_r0 : BitVec 1 := Scalar.ori v92_r0 v60_r0
  let c0_i32_74_r0 : BitVec 32 := 0#32
  let v94_r0 : BitVec 1 := Scalar.cmpi .sge arg5_r0 c0_i32_74_r0
  let v95_r0 : BitVec 1 := Scalar.andi v93_r0 v94_r0
  let v96_r0 : BitVec 32 := Scalar.extui v95_r0
  let c0_i32_75_r0 : BitVec 32 := 0#32
  let v97_r0 : BitVec 1 := Scalar.cmpi .ne v96_r0 c0_i32_75_r0
  v97_r0

def k1_off8 (i : grid1.Coords) (arg10_r0 : BitVec 32) : Fin 2 → Nat :=
  let c0_i32_101_r0 : BitVec 32 := 0#32
  let c128_i32_97_r0 : BitVec 32 := 128#32
  let arg1 : BitVec 32 := BitVec.ofNat 32 (i 1).val
  let c8_i32 : BitVec 32 := 8#32
  let v0 : BitVec 32 := Scalar.muli arg1 c8_i32
  let v62_r0 : BitVec 32 := Scalar.addi arg10_r0 v0
  let v140_r0 : BitVec 32 := Scalar.muli c128_i32_97_r0 v62_r0
  ![0, v140_r0.toNat]
def k1_off9 (arg7_r0 : BitVec 32) : Fin 1 → Nat :=
  let c2_i32_98_r0 : BitVec 32 := 2#32
  let v141_r0 : BitVec 32 := Scalar.remui arg7_r0 c2_i32_98_r0
  ![v141_r0.toNat]
def k1_off10 (arg8_r0 : BitVec 32) : Fin 3 → Nat :=
  let c2_i32_79_r0 : BitVec 32 := 2#32
  let v105_r0 : BitVec 32 := Scalar.remui arg8_r0 c2_i32_79_r0
  let c0_i32_97_r1 : BitVec 32 := 0#32
  let c0_i32_98_r1 : BitVec 32 := 0#32
  ![v105_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_78_r0 : BitVec 32 := 2#32
  let v104_r0 : BitVec 32 := Scalar.remui arg7_r0 c2_i32_78_r0
  let c0_i32_99_r1 : BitVec 32 := 0#32
  let c0_i32_100_r1 : BitVec 32 := 0#32
  ![v104_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_97_r0 : BitVec 32 := 2#32
  let v140_r0 : BitVec 32 := Scalar.remui arg8_r0 c2_i32_97_r0
  let c0_i32_99_r0 : BitVec 32 := 0#32
  let c0_i32_100_r0 : BitVec 32 := 0#32
  ![v140_r0.toNat, 0, 0]
def k1_cond5 (i : grid1.Coords) (k1_t1 : Fin k1_t1_loop.trips) (arg10_r0 : BitVec 32) : BitVec 1 :=
  let arg1 : BitVec 32 := BitVec.ofNat 32 (i 1).val
  let c8_i32 : BitVec 32 := 8#32
  let v0 : BitVec 32 := Scalar.muli arg1 c8_i32
  let v62_r0 : BitVec 32 := Scalar.addi arg10_r0 v0
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c8_i32_60_r0 : BitVec 32 := 8#32
  let v70_r0 : BitVec 1 := Scalar.cmpi .eq v69_r0 c8_i32_60_r0
  let c0_i32_61_r0 : BitVec 32 := 0#32
  let v71_r0 : BitVec 32 := Scalar.select v70_r0 c0_i32_61_r0 v69_r0
  let v72_r0 : BitVec 32 := Scalar.addi v71_r0 v0
  let v111_r0 : BitVec 1 := Scalar.cmpi .ne v62_r0 v72_r0
  let c0_i32_24_r0 : BitVec 32 := 0#32
  let c1_i32_26_r0 : BitVec 32 := 1#32
  let arg5_r0 : BitVec 32 := Scf.iv c0_i32_24_r0 c1_i32_26_r0 k1_t1
  let c7_i32_53_r0 : BitVec 32 := 7#32
  let v61_r0 : BitVec 1 := Scalar.cmpi .eq arg5_r0 c7_i32_53_r0
  let v112_r0 : BitVec 1 := Scalar.ori v111_r0 v61_r0
  let v113_r0 : BitVec 32 := Scalar.extui v112_r0
  let c0_i32_82_r0 : BitVec 32 := 0#32
  let v114_r0 : BitVec 1 := Scalar.cmpi .ne v113_r0 c0_i32_82_r0
  v114_r0

def k1_off13 (i : grid1.Coords) (arg10_r0 : BitVec 32) : Fin 2 → Nat :=
  let c128_i32_98_r0 : BitVec 32 := 128#32
  let arg1 : BitVec 32 := BitVec.ofNat 32 (i 1).val
  let c8_i32 : BitVec 32 := 8#32
  let v0 : BitVec 32 := Scalar.muli arg1 c8_i32
  let v62_r0 : BitVec 32 := Scalar.addi arg10_r0 v0
  let v141_r0 : BitVec 32 := Scalar.muli c128_i32_98_r0 v62_r0
  let c0_i32_101_r0 : BitVec 32 := 0#32
  ![v141_r0.toNat, 0]
def k1_off14 (arg8_r0 : BitVec 32) : Fin 1 → Nat :=
  let c2_i32_97_r0 : BitVec 32 := 2#32
  let v140_r0 : BitVec 32 := Scalar.remui arg8_r0 c2_i32_97_r0
  ![v140_r0.toNat]
def k1_off15 (arg9_r0 : BitVec 32) : Fin 3 → Nat :=
  let c2_i32_97_r0 : BitVec 32 := 2#32
  let v140_r0 : BitVec 32 := Scalar.remui arg9_r0 c2_i32_97_r0
  let c0_i32_99_r0 : BitVec 32 := 0#32
  let c0_i32_100_r0 : BitVec 32 := 0#32
  ![v140_r0.toNat, 0, 0]
def k1_cond7 (i : grid1.Coords) (k1_t1 : Fin k1_t1_loop.trips) (arg10_r0 : BitVec 32) : BitVec 1 :=
  let arg1 : BitVec 32 := BitVec.ofNat 32 (i 1).val
  let c8_i32 : BitVec 32 := 8#32
  let v0 : BitVec 32 := Scalar.muli arg1 c8_i32
  let v62_r0 : BitVec 32 := Scalar.addi arg10_r0 v0
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c7_i32_57_r0 : BitVec 32 := 7#32
  let v66_r0 : BitVec 32 := Scalar.select v65_r0 c7_i32_57_r0 v64_r0
  let v67_r0 : BitVec 32 := Scalar.addi v66_r0 v0
  let v124_r0 : BitVec 1 := Scalar.cmpi .ne v62_r0 v67_r0
  let c0_i32_24_r0 : BitVec 32 := 0#32
  let c1_i32_26_r0 : BitVec 32 := 1#32
  let arg5_r0 : BitVec 32 := Scf.iv c0_i32_24_r0 c1_i32_26_r0 k1_t1
  let c0_i32_52_r0 : BitVec 32 := 0#32
  let v60_r0 : BitVec 1 := Scalar.cmpi .eq arg5_r0 c0_i32_52_r0
  let true_88_r0 : BitVec 1 := 1#1
  let v125_r0 : BitVec 1 := Scalar.xori v60_r0 true_88_r0
  let v126_r0 : BitVec 1 := Scalar.andi v124_r0 v125_r0
  let v127_r0 : BitVec 32 := Scalar.extui v126_r0
  let c0_i32_89_r0 : BitVec 32 := 0#32
  let v128_r0 : BitVec 1 := Scalar.cmpi .ne v127_r0 c0_i32_89_r0
  v128_r0

def k1_off16 (i : grid1.Coords) (arg10_r0 : BitVec 32) : Fin 2 → Nat :=
  let c128_i32_98_r0 : BitVec 32 := 128#32
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c7_i32_57_r0 : BitVec 32 := 7#32
  let v66_r0 : BitVec 32 := Scalar.select v65_r0 c7_i32_57_r0 v64_r0
  let arg1 : BitVec 32 := BitVec.ofNat 32 (i 1).val
  let c8_i32 : BitVec 32 := 8#32
  let v0 : BitVec 32 := Scalar.muli arg1 c8_i32
  let v67_r0 : BitVec 32 := Scalar.addi v66_r0 v0
  let v141_r0 : BitVec 32 := Scalar.muli c128_i32_98_r0 v67_r0
  let c0_i32_101_r0 : BitVec 32 := 0#32
  ![v141_r0.toNat, 0]
def k1_off17 (arg9_r0 : BitVec 32) : Fin 1 → Nat :=
  let c2_i32_97_r0 : BitVec 32 := 2#32
  let v140_r0 : BitVec 32 := Scalar.remui arg9_r0 c2_i32_97_r0
  ![v140_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x16384.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x16384.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S16384x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S16384x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x16384.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x16384.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S16384x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S16384x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v29_3_r0 : BitVec 32) : Fin 3 → Nat :=
  let c2_i32_44_r0 : BitVec 32 := 2#32
  let v50_r0 : BitVec 32 := Scalar.remui v29_3_r0 c2_i32_44_r0
  let c0_i32_46_r0 : BitVec 32 := 0#32
  let c0_i32_47_r0 : BitVec 32 := 0#32
  ![v50_r0.toNat, 0, 0]

def k1_off19 (i : grid1.Coords) (v29_4_r0 : BitVec 32) : Fin 2 → Nat :=
  let c128_i32_45_r0 : BitVec 32 := 128#32
  let true_29_r0 : BitVec 1 := 1#1
  let c1_i32_28_r0 : BitVec 32 := 1#32
  let v30_r0 : BitVec 32 := Scalar.subi v29_4_r0 c1_i32_28_r0
  let v31_r0 : BitVec 32 := Scalar.select true_29_r0 v30_r0 v29_4_r0
  let c_m1_i32_30_r0 : BitVec 32 := 4294967295#32
  let v32_r0 : BitVec 1 := Scalar.cmpi .eq v31_r0 c_m1_i32_30_r0
  let c7_i32_31_r0 : BitVec 32 := 7#32
  let v33_r0 : BitVec 32 := Scalar.select v32_r0 c7_i32_31_r0 v31_r0
  let arg1 : BitVec 32 := BitVec.ofNat 32 (i 1).val
  let c8_i32 : BitVec 32 := 8#32
  let v0 : BitVec 32 := Scalar.muli arg1 c8_i32
  let v34_r0 : BitVec 32 := Scalar.addi v33_r0 v0
  let v51_r0 : BitVec 32 := Scalar.muli c128_i32_45_r0 v34_r0
  let c0_i32_48_r0 : BitVec 32 := 0#32
  ![v51_r0.toNat, 0]

def k1_chk5 (i : grid1.Coords) (v29_4_r0 : BitVec 32) : Prop :=
  (∀ a, (k1_off19 i v29_4_r0) a + S128x128.size a ≤ S16384x128.size a)
theorem k1_off19_inb : ∀ (i : grid1.Coords) (v29_4_r0 : BitVec 32) (k1_hw5 : k1_chk5 i v29_4_r0), ∀ a, (k1_off19 i v29_4_r0) a + S128x128.size a ≤ S16384x128.size a := fun i v29_4_r0 k1_hw5 => k1_hw5

def k1_off20 (v29_3_r0 : BitVec 32) : Fin 1 → Nat :=
  let c2_i32_44_r0 : BitVec 32 := 2#32
  let v50_r0 : BitVec 32 := Scalar.remui v29_3_r0 c2_i32_44_r0
  ![v50_r0.toNat]
def k1_off21 (v29_3_r0 : BitVec 32) : Fin 3 → Nat :=
  let c2_i32_44_r0 : BitVec 32 := 2#32
  let v50_r0 : BitVec 32 := Scalar.remui v29_3_r0 c2_i32_44_r0
  let c0_i32_50_r0 : BitVec 32 := 0#32
  let c0_i32_51_r0 : BitVec 32 := 0#32
  ![v50_r0.toNat, 0, 0]

def k1_chk4 (v29_3_r0 : BitVec 32) : Prop :=
  (∀ a, (k1_off18 v29_3_r0) a + S1x128x128.size a ≤ S2x128x128.size a) ∧
  (∀ a, (k1_off20 v29_3_r0) a + S1.size a ≤ S2.size a) ∧
  (∀ a, (k1_off21 v29_3_r0) a + S1x128x128.size a ≤ S2x128x128.size a)
theorem k1_off18_inb : ∀ (v29_3_r0 : BitVec 32) (k1_hw4 : k1_chk4 v29_3_r0), ∀ a, (k1_off18 v29_3_r0) a + S1x128x128.size a ≤ S2x128x128.size a := fun v29_3_r0 k1_hw4 => k1_hw4.1
theorem k1_off20_inb : ∀ (v29_3_r0 : BitVec 32) (k1_hw4 : k1_chk4 v29_3_r0), ∀ a, (k1_off20 v29_3_r0) a + S1.size a ≤ S2.size a := fun v29_3_r0 k1_hw4 => k1_hw4.2.1
theorem k1_off21_inb : ∀ (v29_3_r0 : BitVec 32) (k1_hw4 : k1_chk4 v29_3_r0), ∀ a, (k1_off21 v29_3_r0) a + S1x128x128.size a ≤ S2x128x128.size a := fun v29_3_r0 k1_hw4 => k1_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x1024x32 : Shape := ⟨3, ![16, 1024, 32]⟩
abbrev S8192x32 : Shape := ⟨2, ![8192, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S8192 : Shape := ⟨1, ![8192]⟩
abbrev S32x8192 : Shape := ⟨2, ![32, 8192]⟩
abbrev S16384x8192 : Shape := ⟨2, ![16384, 8192]⟩
abbrev S1x8192 : Shape := ⟨2, ![1, 8192]⟩
abbrev S1 : Shape := ⟨1, ![1]⟩
abbrev S1x1 : Shape := ⟨2, ![1, 1]⟩
abbrev S16x1024 : Shape := ⟨2, ![16, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16x1024x32, .f32⟩
  | .hbm, ⟨1, _⟩ => ⟨S8192x32, .f32⟩
  | .hbm, ⟨2, _⟩ => ⟨S16384x32, .f32⟩
  | .hbm, ⟨3, _⟩ => ⟨S16384x32, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S32x8192, .f32⟩
  | .hbm, ⟨11, _⟩ => ⟨S16384x8192, .f32⟩
  | .hbm, ⟨12, _⟩ => ⟨S_, .f32⟩
  | .hbm, ⟨13, _⟩ => ⟨S16384x8192, .f32⟩
  | .hbm, ⟨14, _⟩ => ⟨S16384x8192, .f32⟩
  | .hbm, ⟨15, _⟩ => ⟨S16384x8192, .f32⟩
  | .hbm, ⟨16, _⟩ => ⟨S16384x8192, .f32⟩
  | .hbm, ⟨17, _⟩ => ⟨S1x8192, .f32⟩
  | .hbm, ⟨18, _⟩ => ⟨S16384x8192, .f32⟩
  | .hbm, ⟨19, _⟩ => ⟨S16384x8192, .f32⟩
  | .hbm, ⟨20, _⟩ => ⟨S16384x8192, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S1, .i32⟩
  | .hbm, ⟨34, _⟩ => ⟨S_, .i32⟩
  | .hbm, ⟨35, _⟩ => ⟨S16384x1, .i32⟩
  | .hbm, ⟨36, _⟩ => ⟨S16384x1, .i1⟩
  | .hbm, ⟨37, _⟩ => ⟨S1x1, .i32⟩
  | .hbm, ⟨38, _⟩ => ⟨S16384x1, .i32⟩
  | .hbm, ⟨39, _⟩ => ⟨S16384x1, .i1⟩
  | .hbm, ⟨40, _⟩ => ⟨S16384x1, .i1⟩
  | .hbm, ⟨41, _⟩ => ⟨S_, .i1⟩
  | .hbm, ⟨42, _⟩ => ⟨S16384, .i1⟩
  | .hbm, ⟨43, _⟩ => ⟨S16384x32, .f32⟩
  | .hbm, ⟨44, _⟩ => ⟨S16384x32, .i1⟩
  | .hbm, ⟨45, _⟩ => ⟨S_, .f32⟩
  | .hbm, ⟨46, _⟩ => ⟨S16384x32, .f32⟩
  | .hbm, ⟨47, _⟩ => ⟨S16384x32, .f32⟩
  | .hbm, ⟨48, _⟩ => ⟨S16x1024x32, .f32⟩
  | .hbm, ⟨49, _⟩ => ⟨S16x1024, .i32⟩
  | .hbm, ⟨50, _⟩ => ⟨S16x1024x32, .f32⟩
  | .hbm, ⟨51, _⟩ => ⟨S16x1024x32, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16x1024x32, .f32⟩
  | .hbm, ⟨57, _⟩ => ⟨S16x1024x32, .f32⟩
  | _, _ => ⟨S16x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩

abbrev nD : Nat := 1
abbrev τ : Topo := Topo.v7x

variable {F : FTy → Type} [FloatOps F]
-- ==== Nearest.lean ====
abbrev S16x1024x32 : Shape := ⟨3, ![16, 1024, 32]⟩
abbrev S8192x32 : Shape := ⟨2, ![8192, 32]⟩
abbrev S16384x32 : Shape := ⟨2, ![16384, 32]⟩
abbrev S16384x1 : Shape := ⟨2, ![16384, 1]⟩
abbrev S1x1 : Shape := ⟨2, ![1, 1]⟩
abbrev S512x32 : Shape := ⟨2, ![512, 32]⟩
abbrev S512x1 : Shape := ⟨2, ![512, 1]⟩
abbrev S1x8192 : Shape := ⟨2, ![1, 8192]⟩
abbrev S8192 : Shape := ⟨1, ![8192]⟩
abbrev S512 : Shape := ⟨1, ![512]⟩
abbrev S512x8192 : Shape := ⟨2, ![512, 8192]⟩
abbrev S512x4096 : Shape := ⟨2, ![512, 4096]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 5
  | .vmem => 8
  | .smem => 0
  | _ => 0

abbrev bufTy : (tb : Table) → Fin (tcTables nBuf tb) → BufTy
  | .hbm, ⟨0, _⟩ => ⟨S16x1024x32, .f32⟩
  | .hbm, ⟨1, _⟩ => ⟨S8192x32, .f32⟩
  | .hbm, ⟨2, _⟩ => ⟨S16384x32, .f32⟩
  | .hbm, ⟨3, _⟩ => ⟨S16384x1, .i32⟩
  | .hbm, ⟨4, _⟩ => ⟨S1x1, .f32⟩
  | .local _ .vmem, ⟨0, _⟩ => ⟨S512x32, .f32⟩
  | .local _ .vmem, ⟨1, _⟩ => ⟨S512x32, .f32⟩
  | .local _ .vmem, ⟨2, _⟩ => ⟨S8192x32, .f32⟩
  | .local _ .vmem, ⟨3, _⟩ => ⟨S512x1, .i32⟩
  | .local _ .vmem, ⟨4, _⟩ => ⟨S512x1, .i32⟩
  | .local _ .vmem, ⟨5, _⟩ => ⟨S1x1, .f32⟩
  | .local _ .vmem, ⟨6, _⟩ => ⟨S8192x32, .f32⟩
  | .local _ .vmem, ⟨7, _⟩ => ⟨S1x8192, .f32⟩
  | _, _ => ⟨S16x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Proof.WholeWords.lean ====
module

public import proofs.«01_k».proof.Proof.Gen.KernelIdeal
public import proofs.«01_k».proof.Proof.Gen.KernelIdeal.Skeleton

@[expose] public section

/-!
# The gather kernel's words

Tile `s` of a SparseCore walks eight blocks, `8 s` to `8 s + 7`. The pipeline carries five words from trip to trip:
how many index blocks it has asked for, how many it has waited for, how many row blocks it has written out, how many
of those writes it has waited for, and the trip's own place. At trip `t` they are `t + 1` (at most eight), `t`, `t`, `t - 1` (zero at
the first trip) and `t mod 8`. Here each condition and each offset of the body is read off those five words.
-/

namespace Cert.Proof.WholeWords

open Cert.KernelIdeal Cert.KernelIdeal.Gen
open Idealize.ShloMosaic

/-- The five words before trip `t`. -/
def acc (t : ℕ) : BitVec 32 × BitVec 32 × BitVec 32 × BitVec 32 × BitVec 32 :=
  (BitVec.ofNat 32 (min (t + 1) 8), BitVec.ofNat 32 t, BitVec.ofNat 32 t, BitVec.ofNat 32 (t - 1), BitVec.ofNat 32 (t % 8))

theorem trips_eq : k1_t1_loop.trips = 8 := by decide

/-! ## The checks -/

set_option maxRecDepth 65536 in
theorem chk1 : ∀ (i : grid1.Coords) (t : Fin k1_t1_loop.trips),
    k1_chk1 i t (acc t).1 (acc t).2.1 (acc t).2.2.1 (acc t).2.2.2.1 (acc t).2.2.2.2 := by decide +kernel
theorem chk2 : ∀ t : Fin k1_t1_loop.trips, k1_chk2 (acc t).2.2.1 := by decide +kernel
theorem chk3 : ∀ t : Fin k1_t1_loop.trips, k1_chk3 (acc t).2.1 := by decide +kernel
theorem chk4 : k1_chk4 (acc 8).2.2.2.1 := by decide +kernel
theorem chk5 : ∀ i : grid1.Coords, k1_chk5 i (acc 8).2.2.2.2 := by decide +kernel

/-! ## The conditions -/

theorem cond1 : ∀ (i : grid1.Coords) (t : Fin k1_t1_loop.trips),
    k1_cond1 i t (acc t).2.2.2.2 = 1#1 ↔ t.val < 7 := by decide +kernel
theorem cond2 : ∀ (i : grid1.Coords) (t : Fin k1_t1_loop.trips), k1_cond2 i t (acc t).2.2.2.2 = 1#1 := by decide +kernel
theorem cond5 : ∀ (i : grid1.Coords) (t : Fin k1_t1_loop.trips), k1_cond5 i t (acc t).2.2.2.2 = 1#1 := by decide +kernel
theorem cond7 : ∀ (i : grid1.Coords) (t : Fin k1_t1_loop.trips),
    k1_cond7 i t (acc t).2.2.2.2 = 1#1 ↔ 0 < t.val := by decide +kernel

/-! ## The offsets -/

theorem off4 : ∀ t : Fin k1_t1_loop.trips, k1_off4 (acc t).1 = ![(t.val + 1) % 2, 0, 0] := by decide +kernel
theorem off5 : ∀ (i : grid1.Coords) (t : Fin k1_t1_loop.trips), t.val < 7 →
    k1_off5 i (acc t).2.2.2.2 = ![0, 128 * (8 * (i 1).val + (t.val + 1))] := by decide +kernel
theorem off6 : ∀ t : Fin k1_t1_loop.trips, k1_off6 (acc t).1 = ![(t.val + 1) % 2] := by decide +kernel
theorem off7 : ∀ t : Fin k1_t1_loop.trips, k1_off7 (acc t).2.1 = ![t.val % 2, 0, 0] := by decide +kernel
theorem off9 : ∀ t : Fin k1_t1_loop.trips, k1_off9 (acc t).2.1 = ![t.val % 2] := by decide +kernel
theorem off10 : ∀ t : Fin k1_t1_loop.trips, k1_off10 (acc t).2.2.1 = ![t.val % 2, 0, 0] := by decide +kernel
theorem off11 : ∀ t : Fin k1_t1_loop.trips, k1_off11 (acc t).2.1 = ![t.val % 2, 0, 0] := by decide +kernel
theorem off12 : ∀ t : Fin k1_t1_loop.trips, k1_off12 (acc t).2.2.1 = ![t.val % 2, 0, 0] := by decide +kernel
theorem off13 : ∀ (i : grid1.Coords) (t : Fin k1_t1_loop.trips),
    k1_off13 i (acc t).2.2.2.2 = ![128 * (8 * (i 1).val + t.val), 0] := by decide +kernel
theorem off14 : ∀ t : Fin k1_t1_loop.trips, k1_off14 (acc t).2.2.1 = ![t.val % 2] := by decide +kernel
theorem off17 : ∀ t : Fin k1_t1_loop.trips, 0 < t.val → k1_off17 (acc t).2.2.2.1 = ![(t.val + 1) % 2] := by decide +kernel
theorem off20 : k1_off20 (acc 8).2.2.2.1 = ![1] := by decide +kernel

/-! ## The words after a trip -/

theorem step : ∀ (i : grid1.Coords) (t : Fin k1_t1_loop.trips),
    let arg5 := Scf.iv 0#32 1#32 t
    let a := acc t
    let v0 := Scalar.muli (BitVec.ofNat 32 (i 1).val) 8#32
    let v60 : BitVec 1 := Scalar.cmpi .eq arg5 0#32
    let v61 : BitVec 1 := Scalar.cmpi .eq arg5 7#32
    let v62 : BitVec 32 := Scalar.addi a.2.2.2.2 v0
    let v63 : BitVec 32 := Scalar.subi a.2.2.2.2 1#32
    let v64 : BitVec 32 := Scalar.select 1#1 v63 a.2.2.2.2
    let v66 : BitVec 32 := Scalar.select (Scalar.cmpi .eq v64 4294967295#32) 7#32 v64
    let v67 : BitVec 32 := Scalar.addi v66 v0
    let v69 : BitVec 32 := Scalar.select 1#1 (Scalar.addi a.2.2.2.2 1#32) a.2.2.2.2
    let v71 : BitVec 32 := Scalar.select (Scalar.cmpi .eq v69 8#32) 0#32 v69
    let v72 : BitVec 32 := Scalar.addi v71 v0
    let v81 : BitVec 1 := Scalar.andi (Scalar.cmpi .ne v62 v72) (Scalar.xori (Scalar.cmpi .sge arg5 7#32) 1#1)
    let v87 : BitVec 32 := Scalar.select (Scalar.andi v81 1#1) (Scalar.addi a.1 1#32) a.1
    let v112 : BitVec 1 := Scalar.ori (Scalar.cmpi .ne v62 v72) v61
    let v117 : BitVec 32 := Scalar.select (Scalar.andi v112 1#1) (Scalar.addi a.2.2.1 1#32) a.2.2.1
    let v126 : BitVec 1 := Scalar.andi (Scalar.cmpi .ne v62 v67) (Scalar.xori v60 1#1)
    let v131 : BitVec 32 := Scalar.select (Scalar.andi v126 1#1) (Scalar.addi a.2.2.2.1 1#32) a.2.2.2.1
    let v135 : BitVec 32 := Scalar.select (Scalar.ori (Scalar.cmpi .ne v62 v72) v61) (Scalar.addi a.2.1 1#32) a.2.1
    let v137 : BitVec 32 := Scalar.select 1#1 (Scalar.addi a.2.2.2.2 1#32) a.2.2.2.2
    let v139 : BitVec 32 := Scalar.select (Scalar.cmpi .eq v137 8#32) 0#32 v137
    (v87, v135, v117, v131, v139) = acc (t.val + 1) := by
  decide +kernel

end Cert.Proof.WholeWords
-- ==== Proof.WholeSetup.lean ====
module

public import proofs.«01_k».proof.Proof.WholeWords
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.WriteMode
public import Idealize.ShloMosaic.Lib.Tactic

@[expose] public section

/-!
# The gather's arrays and views

A SparseCore tile holds two index slots of 128 words and two row slots of 128 rows, one of each per parity of the
trip. Block `b` of the 128 blocks of the index array is its words `128 b` to `128 b + 127`; block `b` of the output is
its rows of the same numbers. Here are these views, the elements under them, and what the gather is to leave in the
output: row `n` is the table's row named by index `n`.

Tile `s` of either SparseCore writes the same eight blocks of the output. The output is therefore held in write mode:
every holder has agreed on the value each element is to come to, and may write that value and no other.
-/

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the write mode's cells, the pipeline's rounds, the transfers' counters -/

abbrev UH : Type := URounds (GSem nD τ sig) ℕ
abbrev UW (F : FTy → Type) : Type := WmRA nD τ sig (Elt F)
/-- The rounds of the TensorCore pipeline's own cells. -/
abbrev UP : Type := URounds (GSem nD τ sig) Unit
abbrev UU (F : FTy → Type) : Type := UH × (UW F × (UP × Counters))

local notation "𝕄" => MT nD τ sig (HIx 1) (Elt F) ℕ (UU F) ℕ

abbrev EH : Emb UH (MT nD τ sig (HIx 1) (Elt F) ℕ (UU F) ℕ) := embL
/-- Where the write mode's cells sit. -/
abbrev wemb (F : FTy → Type) : UEmb (UW F) (UU F) :=
  (UEmb.inl : UEmb (UW F) (UW F × (UP × Counters))).trans UEmb.inr
/-- Where the pipeline's rounds sit. -/
def EP : Emb UP (MT nD τ sig (HIx 1) (Elt F) ℕ (UU F) ℕ) :=
  (((Emb.inl : Emb UP (UP × Counters)).trans (Emb.inr : Emb (UP × Counters) (UW F × (UP × Counters))))).trans embR
instance EP_landsIn : (EP (F := F)).LandsIn (upEmb : UEmb _ (MT nD τ sig (HIx 1) (Elt F) ℕ (UU F) ℕ)) := by unfold EP; infer_instance

/-! ## Places -/

abbrev xLoc (d : Dev nD) : Loc nD τ sig := (SparseCore.T d).loc main_v2
abbrev iLoc (d : Dev nD) : Loc nD τ sig := (SparseCore.T d).loc main_v3
abbrev oLoc (d : Dev nD) : Loc nD τ sig := (SparseCore.T d).loc main_v4

abbrev cV (L : grid1.Coords) : Fin τ.nSC := (L 0).castLE hcore1
abbrev jV (L : grid1.Coords) : Fin τ.nSub := (L 1).castLE hsub1
/-- The thread of tile `L 1` of SparseCore `L 0`. -/
abbrev thr (d : Dev nD) (L : grid1.Coords) : Thread nD τ := V d (cV L) (jV L)

abbrev xV : Memref sig .scVector .hbm S8192x128 .f32 := Memref.whole main_v2_scv
abbrev iV : Memref sig .scVector .hbm S1x16384 .i32 := Memref.whole main_v3_scv
abbrev oV : Memref sig .scVector .hbm S16384x128 .f32 := Memref.whole main_v4_scv
abbrev sV : Memref sig .scVector .vmem S2x1x128 .i32 := Memref.whole cc1_scoped0
abbrev rV : Memref sig .scVector .vmem S2x128x128 .f32 := Memref.whole cc1_scoped2

/-! ## Views at an offset -/

abbrev xAll : Memref sig .scVector .hbm S8192x128 .f32 :=
  xV.slice (Rect.unit (s := S8192x128) ![0, 0] S8192x128.size inb_S8192x128_S8192x128_0_0) (fun _ => rfl)
abbrev inAt (o : Fin 3 → ℕ) (h : ∀ a, o a + S1x1x128.size a ≤ S2x1x128.size a) : Memref sig .scVector .vmem S1x128 .i32 :=
  (sV.slice (Rect.unit (s := S2x1x128) o S1x1x128.size h) (fun _ => rfl)).squeeze S1x128 squeezes_S1x1x128_S1x128
abbrev outAt (o : Fin 3 → ℕ) (h : ∀ a, o a + S1x128x128.size a ≤ S2x128x128.size a) : Memref sig .scVector .vmem S128x128 .f32 :=
  (rV.slice (Rect.unit (s := S2x128x128) o S1x128x128.size h) (fun _ => rfl)).squeeze S128x128 squeezes_S1x128x128_S128x128
abbrev idxAt (o : Fin 2 → ℕ) (h : ∀ a, o a + S1x128.size a ≤ S1x16384.size a) : Memref sig .scVector .hbm S1x128 .i32 :=
  iV.slice (Rect.unit (s := S1x16384) o S1x128.size h) (fun _ => rfl)
abbrev dstAt (o : Fin 2 → ℕ) (h : ∀ a, o a + S128x128.size a ≤ S16384x128.size a) : Memref sig .scVector .hbm S128x128 .f32 :=
  oV.slice (Rect.unit (s := S16384x128) o S128x128.size h) (fun _ => rfl)
abbrev semAt (v : DmaSems sig S2) (o : Fin 1 → ℕ) (h : ∀ a, o a + S1.size a ≤ S2.size a) : DmaSem sig :=
  ((v.slice (Rect.unit (s := S2) o S1.size h)).squeeze S_ squeezes_S1_S_).sem

theorem in_inb (k : Fin 2) : ∀ a, (![k.val, 0, 0] : Fin 3 → ℕ) a + S1x1x128.size a ≤ S2x1x128.size a := by
  revert k; decide
theorem out_inb (k : Fin 2) : ∀ a, (![k.val, 0, 0] : Fin 3 → ℕ) a + S1x128x128.size a ≤ S2x128x128.size a := by
  revert k; decide
theorem idx_inb (b : Fin 128) : ∀ a, (![0, 128 * b.val] : Fin 2 → ℕ) a + S1x128.size a ≤ S1x16384.size a := by
  revert b; decide
theorem dst_inb (b : Fin 128) : ∀ a, (![128 * b.val, 0] : Fin 2 → ℕ) a + S128x128.size a ≤ S16384x128.size a := by
  revert b; decide
theorem sem_inb (k : Fin 2) : ∀ a, (![k.val] : Fin 1 → ℕ) a + S1.size a ≤ S2.size a := by
  revert k; decide

/-- Index slot `k`, row slot `k`, block `b` of the indices, block `b` of the output, semaphore `k` of an array. -/
abbrev inS (k : Fin 2) : Memref sig .scVector .vmem S1x128 .i32 := inAt ![k.val, 0, 0] (in_inb k)
abbrev outS (k : Fin 2) : Memref sig .scVector .vmem S128x128 .f32 := outAt ![k.val, 0, 0] (out_inb k)
abbrev idxB (b : Fin 128) : Memref sig .scVector .hbm S1x128 .i32 := idxAt ![0, 128 * b.val] (idx_inb b)
abbrev dstB (b : Fin 128) : Memref sig .scVector .hbm S128x128 .f32 := dstAt ![128 * b.val, 0] (dst_inb b)
abbrev semS (v : DmaSems sig S2) (k : Fin 2) : DmaSem sig := semAt v ![k.val] (sem_inb k)

/-- The list of row numbers in index slot `k`, as the indirect copy addresses it. -/
abbrev offsAt (o : Fin 3 → ℕ) (h : ∀ a, o a + S1x1x128.size a ≤ S2x1x128.size a) : Memref sig .scVector .vmem S128 .i32 :=
  ((inAt o h).slice (Rect.unit (s := S1x128) ![0, 0] S1x128.size inb_S1x128_S1x128_0_0) (fun _ => rfl)).squeeze S128 squeezes_S1x128_S128
abbrev offsS (k : Fin 2) : Memref sig .scVector .vmem S128 .i32 := offsAt ![k.val, 0, 0] (in_inb k)

/-! ## Sets of rows of the output -/

/-- The output's elements in rows `a` to `c - 1`. -/
def rowsOf (a c : ℕ) : Finset S16384x128.Idx := Finset.univ.filter fun j => a ≤ (j 0).val ∧ (j 0).val < c

theorem mem_rowsOf {a c : ℕ} {j : S16384x128.Idx} : j ∈ rowsOf a c ↔ a ≤ (j 0).val ∧ (j 0).val < c := by
  simp [rowsOf]

theorem rowsOf_union {a b c : ℕ} (h₁ : a ≤ b) (h₂ : b ≤ c) : rowsOf a b ∪ rowsOf b c = rowsOf a c := by
  ext j; simp only [Finset.mem_union, mem_rowsOf]; omega

theorem rowsOf_disjoint {a b c e : ℕ} (h : b ≤ c) : Disjoint (rowsOf a b) (rowsOf c e) :=
  Finset.disjoint_left.mpr fun j h₁ h₂ => by rw [mem_rowsOf] at h₁ h₂; omega

theorem rowsOf_empty {a c : ℕ} (h : c ≤ a) : rowsOf a c = ∅ :=
  Finset.eq_empty_of_forall_notMem fun j hj => by rw [mem_rowsOf] at hj; omega

theorem rowsOf_univ : rowsOf 0 16384 = Finset.univ :=
  Finset.eq_univ_of_forall fun j => mem_rowsOf.mpr ⟨Nat.zero_le _, (j 0).isLt⟩

theorem set_dstB (b : Fin 128) : (dstB b).view.set = rowsOf (128 * b.val) (128 * b.val + 128) := by
  show ((View.whole (main_v4_scv : Ref sig .scVector)).slice _).set = _
  rw [View.set_slice]
  ext j
  rw [show (Finset.map (View.whole (main_v4_scv : Ref sig .scVector)).emb _) = _ from Finset.map_refl]
  rw [Rect.mem_set_unit, mem_rowsOf]
  constructor
  · intro h; exact h 0
  · intro h a
    match a with
    | 0 => exact h
    | 1 => exact ⟨Nat.zero_le _, by have := (j 1).isLt; exact (Nat.zero_add _).symm ▸ this⟩

theorem set_xAll : (xAll).view.set = Finset.univ := by
  show ((View.whole (main_v2_scv : Ref sig .scVector)).slice _).set = _
  rw [View.set_slice]
  refine (Finset.map_refl).trans ?_
  refine Finset.eq_univ_of_forall fun j => Rect.mem_set_unit.mpr fun a => ?_
  match a with
  | 0 => exact ⟨Nat.zero_le _, by have := (j 0).isLt; exact (Nat.zero_add _).symm ▸ this⟩
  | 1 => exact ⟨Nat.zero_le _, by have := (j 1).isLt; exact (Nat.zero_add _).symm ▸ this⟩

theorem set_offsS (k : Fin 2) : (offsS k).view.set = (inS k).view.set := by
  show (((inS k).view.slice (Rect.unit (s := S1x128) ![0, 0] S1x128.size inb_S1x128_S1x128_0_0)).reshape S128 squeezes_S1x128_S128.numel_eq).set = _
  rw [View.set_reshape, View.set_slice]
  rw [show (Rect.unit (s := S1x128) ![0, 0] S1x128.size inb_S1x128_S1x128_0_0).set = Finset.univ from ?_]; · rfl
  refine Finset.eq_univ_of_forall fun j => Rect.mem_set_unit.mpr fun a => ?_
  match a with
  | 0 => exact ⟨Nat.zero_le _, by have := (j 0).isLt; exact (Nat.zero_add _).symm ▸ this⟩
  | 1 => exact ⟨Nat.zero_le _, by have := (j 1).isLt; exact (Nat.zero_add _).symm ▸ this⟩

/-! ## The two slots are the scratch -/

theorem sdiv : 2 ∣ S2x1x128.size 0 := ⟨1, rfl⟩
theorem rdiv : 2 ∣ S2x128x128.size 0 := ⟨1, rfl⟩

theorem inRect_eq (k : Fin 2) : Rect.unit (s := S2x1x128) ![k.val, 0, 0] S1x1x128.size (in_inb k) = Rect.part (s := S2x1x128) (a₀ := 0) sdiv k := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem outRect_eq (k : Fin 2) : Rect.unit (s := S2x128x128) ![k.val, 0, 0] S1x128x128.size (out_inb k) = Rect.part (s := S2x128x128) (a₀ := 0) rdiv k := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem set_inS (k : Fin 2) : (inS k).view.set = (Rect.part (s := S2x1x128) (a₀ := 0) sdiv k).set := by
  show (((View.whole (cc1_scoped0 : Ref sig .scVector)).slice (Rect.unit (s := S2x1x128) ![k.val, 0, 0] S1x1x128.size (in_inb k))).reshape S1x128 squeezes_S1x1x128_S1x128.numel_eq).set = _
  rw [View.set_reshape, View.set_slice]
  exact Finset.map_refl.trans (congrArg (fun r : Rect S2x1x128 => r.set) (inRect_eq k))

theorem set_outS (k : Fin 2) : (outS k).view.set = (Rect.part (s := S2x128x128) (a₀ := 0) rdiv k).set := by
  show (((View.whole (cc1_scoped2 : Ref sig .scVector)).slice (Rect.unit (s := S2x128x128) ![k.val, 0, 0] S1x128x128.size (out_inb k))).reshape S128x128 squeezes_S1x128x128_S128x128.numel_eq).set = _
  rw [View.set_reshape, View.set_slice]
  exact Finset.map_refl.trans (congrArg (fun r : Rect S2x128x128 => r.set) (outRect_eq k))

theorem inS_disjoint : Disjoint (inS 0).view.set (inS 1).view.set := by
  rw [set_inS, set_inS]; exact Rect.part_disjoint sdiv (by decide)
theorem outS_disjoint : Disjoint (outS 0).view.set (outS 1).view.set := by
  rw [set_outS, set_outS]; exact Rect.part_disjoint rdiv (by decide)
theorem inS_cover : (inS 0).view.set ∪ (inS 1).view.set = Finset.univ := by
  rw [set_inS, set_inS, ← Rect.biUnion_part sdiv]; ext; simp [Fin.exists_fin_two]
theorem outS_cover : (outS 0).view.set ∪ (outS 1).view.set = Finset.univ := by
  rw [set_outS, set_outS, ← Rect.biUnion_part rdiv]; ext; simp [Fin.exists_fin_two]

/-! ## What the gather leaves -/

/-- Word `n` of the index array, and the table's row it names. -/
abbrev word (ix : S1x16384.Idx → BitVec 32) (n : Fin 16384) : BitVec 32 := ix fun | 0 => ⟨0, Nat.one_pos⟩ | 1 => n
/-- Element `l` of the table's row `n`. -/
abbrev entry {A : Type} (tb : S8192x128.Idx → A) (n : Fin 8192) (l : Fin 128) : A := tb fun | 0 => n | 1 => l
/-- Row `n` of the output is the table's row at index `n` (taken below the table's height). -/
def tgt {A : Type} (tb : S8192x128.Idx → A) (ix : S1x16384.Idx → BitVec 32) (j : S16384x128.Idx) : A :=
  entry tb ⟨(word ix (j 0)).toNat % 8192, Nat.mod_lt _ (by decide)⟩ (j 1)

end Cert.Proof.Whole
-- ==== Proof.WholeReads.lean ====
module

public import proofs.«01_k».proof.Proof.WholeSetup

@[expose] public section

/-!
# What a trip's copies move

Once index slot `k` reads as block `b` of the indices, the indirect copy's payload is block `b` of the target.
-/

noncomputable section

namespace Cert.Proof.Whole

open Cert.KernelIdeal Cert.KernelIdeal.Gen
open Idealize.ShloMosaic

variable {F : FTy → Type}

/-- The place of word `y` of a block of 128 indices. -/
abbrev wordIx (y : S128.Idx) : S1x128.Idx := fun | 0 => ⟨0, Nat.one_pos⟩ | 1 => y 0

theorem emb_offsS (k : Fin 2) (y : S128.Idx) : (offsS k).view.emb y = (inS k).view.emb (wordIx y) := by
  refine congrArg (inS k).view.emb ?_
  show (Rect.unit (s := S1x128) ![0, 0] S1x128.size inb_S1x128_S1x128_0_0).emb (Shape.reshapeEquiv _ y) = wordIx y
  have e : Shape.reshapeEquiv (s := S1x128) (s' := S128) squeezes_S1x128_S128.numel_eq y = wordIx y :=
    Shape.reshapeEquiv_eq_of_rowMajor _ (by
      rw [Shape.rowMajor_val_one, Shape.rowMajor_val_two]
      show 0 * 128 + (y 0).val = (y 0).val
      omega)
  rw [e]
  funext a
  refine Fin.ext ?_
  rw [Rect.emb_apply]
  match a with
  | 0 => rfl
  | 1 => show 0 + 1 * (y 0).val = (y 0).val; omega

theorem emb_idxB (b : Fin 128) (y : S128.Idx) :
    (idxB b).view.emb (wordIx y) = fun | 0 => ⟨0, Nat.one_pos⟩ | 1 => ⟨128 * b.val + (y 0).val, by
      have h := (y 0).isLt; have hb := b.isLt; change _ < 128 at h; show _ < 16384; omega⟩ := by
  funext a
  refine Fin.ext ?_
  show ((Rect.unit (s := S1x16384) ![0, 128 * b.val] S1x128.size (idx_inb b)).emb (wordIx y) a : ℕ) = _
  rw [Rect.emb_apply]
  match a with
  | 0 => rfl
  | 1 => show 128 * b.val + 1 * (y 0).val = 128 * b.val + (y 0).val; omega

/-- A word of the list in slot `k`, when the slot reads as block `b` of the indices. -/
theorem read_offsS (ix : S1x16384.Idx → BitVec 32) (k : Fin 2) (b : Fin 128) (fo : S2x1x128.Idx → BitVec 32)
    (h : (inS k).view.read (Elt F) fo = (idxB b).view.read (Elt F) ix) (y : S128.Idx) :
    (offsS k).view.read (Elt F) fo y = word ix ⟨128 * b.val + (y 0).val, by
      have h := (y 0).isLt; have hb := b.isLt; change _ < 128 at h; show _ < 16384; omega⟩ := by
  have h' := congrFun h (wordIx y)
  have e₁ : (offsS k).view.read (Elt F) fo y = (inS k).view.read (Elt F) fo (wordIx y) := by
    rw [View.read_apply, View.read_apply, emb_offsS]
  rw [e₁, h']
  show ix ((idxB b).view.emb (wordIx y)) = _
  rw [emb_idxB]
  refine congrArg ix (funext fun a => ?_)
  match a with
  | 0 => rfl
  | 1 => rfl

theorem inRange_offsS (ix : S1x16384.Idx → BitVec 32) (hix : ∀ j, (ix j).toNat < 8192) (k : Fin 2) (b : Fin 128) (fo : S2x1x128.Idx → BitVec 32)
    (h : (inS k).view.read (Elt F) fo = (idxB b).view.read (Elt F) ix) (y : S128.Idx) :
    ((offsS k).view.read (Elt F) fo y).toNat < S8192x128.size gathers_S8192x128_S128x128.axis := by
  rw [read_offsS ix k b fo h y]; exact hix _

theorem rowMajor_symm_S128 (n : Fin S128.numel) : ((S128.rowMajor.symm n) 0).val = n.val := by
  have h := Shape.rowMajor_val_one (d := ![128]) (S128.rowMajor.symm n)
  rw [← h]; exact congrArg Fin.val (Equiv.apply_symm_apply _ _)

theorem emb_dstB (b : Fin 128) (x : S128x128.Idx) :
    (dstB b).view.emb x = fun | 0 => ⟨128 * b.val + (x 0).val, by
      have h := (x 0).isLt; have hb := b.isLt; change _ < 128 at h; show _ < 16384; omega⟩ | 1 => x 1 := by
  funext a
  refine Fin.ext ?_
  show ((Rect.unit (s := S16384x128) ![128 * b.val, 0] S128x128.size (dst_inb b)).emb x a : ℕ) = _
  rw [Rect.emb_apply]
  match a with
  | 0 => show 128 * b.val + 1 * (x 0).val = 128 * b.val + (x 0).val; omega
  | 1 => show 0 + 1 * (x 1).val = (x 1).val; omega

theorem emb_xAll (x : S8192x128.Idx) : (xAll).view.emb x = x := by
  funext a
  refine Fin.ext ?_
  show ((Rect.unit (s := S8192x128) ![0, 0] S8192x128.size inb_S8192x128_S8192x128_0_0).emb x a : ℕ) = _
  rw [Rect.emb_apply]
  match a with
  | 0 => show 0 + 1 * (x 0).val = _; omega
  | 1 => show 0 + 1 * (x 1).val = _; omega

/-- Block `b` of what the gather is to leave. -/
abbrev blockOf (tb : S8192x128.Idx → F .f32) (ix : S1x16384.Idx → BitVec 32) (b : Fin 128) : S128x128.Idx → Elt F .f32 :=
  (dstB b).view.read (Elt F) (tgt tb ix)

/-- The indirect copy's payload, its list being block `b` of the indices: block `b` of the target. -/
theorem payload_eq (tb : S8192x128.Idx → F .f32) (ix : S1x16384.Idx → BitVec 32) (hix : ∀ j, (ix j).toNat < 8192)
    (k : Fin 2) (b : Fin 128) (fo : S2x1x128.Idx → BitVec 32)
    (h : (inS k).view.read (Elt F) fo = (idxB b).view.read (Elt F) ix)
    (hn : S128.numel = S128x128.size gathers_S8192x128_S128x128.axis')
    (hin : ∀ y, ((offsS k).view.read (Elt F) fo y).toNat < S8192x128.size gathers_S8192x128_S128x128.axis) :
    SparseCore.gatherPayload (F := F) (e := .f32) gathers_S8192x128_S128x128 ((xAll).view.read (Elt F) tb)
      (SparseCore.rows (F := F) ((offsS k).view.read (Elt F) fo) hn hin) = blockOf tb ix b := by
  funext x
  show tb ((xAll).view.emb _) = tgt tb ix ((dstB b).view.emb x)
  rw [emb_xAll, emb_dstB]
  unfold tgt
  refine congrArg tb (funext fun a => Fin.ext ?_)
  match a with
  | 0 =>
    refine (congrArg Fin.val (Shape.Gathers.idx_axis gathers_S8192x128_S128x128 _ x)).trans ?_
    show ((offsS k).view.read (Elt F) fo (S128.rowMajor.symm _)).toNat = _ % 8192
    rw [read_offsS ix k b fo h, Nat.mod_eq_of_lt (hix _)]
    refine congrArg (fun n => (word ix n).toNat) (Fin.ext ?_)
    show 128 * b.val + _ = 128 * b.val + (x 0).val
    rw [rowMajor_symm_S128]; rfl
  | 1 => exact Shape.Gathers.idx_of_ne gathers_S8192x128_S128x128 _ x 1 (by decide)

end Cert.Proof.Whole
-- ==== Proof.WholeSteps.lean ====
module

public import proofs.«01_k».proof.Proof.WholeReads

@[expose] public section

/-!
# The five steps of a trip

A tile asks for an index block, waits for it, gathers the rows it names and waits for them, asks for the rows to be
written out, and waits for that. Each step is stated at offsets `o` the program computed, with the equation that says
which slot or block `o` is.
-/

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

/-! ## A transfer into elements held in write mode -/

section Mark

/-- A copy whose destination is held in write mode, at any share: at its wait the destination comes back with every
    element marked, and the source. -/
theorem wp_dmaMark {Λ : Labels} {defs : Defs nD τ sig (Elt F) Λ} {α : Type} {Q : α → sProp 𝕄} (c : Thread nD τ) {sp sp' : Space} {s : Shape} {e : EltTy}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {q qd : PosShare TreeShare} {fs : Buf (Elt F) (src.view.loc c)}
    {fd : Buf (Elt F) (dst.view.loc c)} {g : Tgt (Elt F) (dst.view.loc c)} {W : Finset (Idx (dst.view.loc c))} {ιwm : ℕ}
    (N : ℕ) (hN : dst.view.amount sm = N) (hN0 : 0 < N)
    (hadm : dst.view.Admitted (Elt F) g (src.view.read (Elt F) fs) Finset.univ) :
    iprop((src.view.loc c ↦[src.view.set]{q} fs) ∗ wmInv (wemb F) ιwm ∗ willBeTo (wemb F) (dst.view.loc c) dst.view.set qd fd g W ∗ semVal (c, sm) 0)
      ⊢ iprop((Transfers.Flight countersEmb c sm (default : HIx 1) N
                  iprop(willBeTo (wemb F) (dst.view.loc c) dst.view.set qd fd g (W ∪ dst.view.set) ∗ (src.view.loc c ↦[src.view.set]{q} fs))
              -∗ wp frame (wpE defs 𝒱₀ c none) Set.univ (k ⟨⟩) Q)
          -∗ wp frame (wpE defs 𝒱₀ c none) Set.univ (.op (.enqueueDma src (.here dst) sm hsrc hdst hsem) k) Q : sProp 𝕄) := by
  iintro ⟨Hs, Hinv, Hd, Hv⟩ Hk
  imod (Transfers.flight_alloc countersEmb hN0 iprop(willBeTo (wemb F) (dst.view.loc c) dst.view.set qd fd g (W ∪ dst.view.set)
      ∗ (src.view.loc c ↦[src.view.set]{q} fs)) (g := (c, sm))) $$ Hv with ⟨%γ, %δ, %κ, #Hfl, Hγ, Hδ⟩
  iapply (wp_enqueueDma_willBeTo 𝒱₀ c none Set.univ (default : HIx 1) N hN hadm) $$ [Hs Hinv Hd] [Hγ]
  · isplitl [Hs]; · iexact Hs
    isplitl [Hinv] <;> iassumption
  · iapply (Transfers.flight_creditUpdate countersEmb (δ := δ))
    isplitr; · iexact Hfl
    iexact Hγ
  iintro Hcred
  iapply Hk
  iapply (Transfers.flight_intro countersEmb c (κ := κ))
  isplitr; · iexact Hfl
  isplitl [Hδ] <;> iassumption

end Mark

/-! ## What a tile holds -/

section Tile

variable (d : Dev nD) (L : grid1.Coords)
variable (tb : S8192x128.Idx → F .f32) (ix : S1x16384.Idx → BitVec 32) (f0 : S16384x128.Idx → F .f32)
variable (qx qi qo : PosShare TreeShare) (ιwm : ℕ)

/-- The part of the tile's share of the indices that goes with slot `k`. -/
def half (q : PosShare TreeShare) (k : Fin 2) : PosShare TreeShare := if k.val = 0 then q.left else q.right

abbrev inPts (k : Fin 2) (f : Buf (Elt F) ((inS k).view.loc (thr d L))) : sProp 𝕄 :=
  (inS k).view.loc (thr d L) ↦[(inS k).view.set]{fullShare} f
abbrev outPts (k : Fin 2) (f : Buf (Elt F) ((outS k).view.loc (thr d L))) : sProp 𝕄 :=
  (outS k).view.loc (thr d L) ↦[(outS k).view.set]{fullShare} f
/-- The output's elements in `I` in write mode at the tile's share, marked on `W`. -/
abbrev mkPts (I W : Finset S16384x128.Idx) : sProp 𝕄 :=
  willBeTo (wemb F) (oLoc d) I qo f0 (fun j => some (tgt tb ix j)) W

/-- Index slot `k` idle. -/
def InFree (k : Fin 2) : sProp 𝕄 :=
  iprop((∃ f, inPts d L k f) ∗ (iLoc d ↦{half qi k} ix) ∗ semVal (thr d L, .dma (semS cc1_scoped1 k)) 0)
/-- Index slot `k` about to hold block `b`. -/
def InFly (k : Fin 2) (b : Fin 128) : sProp 𝕄 :=
  iprop(Transfers.Flight countersEmb (thr d L) (.dma (semS cc1_scoped1 k)) (default : HIx 1) (inS k).view.dmaCredit
      iprop((∃ f, ⌜(inS k).view.read (Elt F) f = (idxB b).view.read (Elt F) ix⌝ ∗ inPts d L k f) ∗ (iLoc d ↦[(idxB b).view.set]{half qi k} ix))
    ∗ (iLoc d ↦[Finset.univ \ (idxB b).view.set]{half qi k} ix))
/-- Index slot `k` holding block `b`. -/
def InHas (k : Fin 2) (b : Fin 128) : sProp 𝕄 :=
  iprop((∃ f, ⌜(inS k).view.read (Elt F) f = (idxB b).view.read (Elt F) ix⌝ ∗ inPts d L k f)
    ∗ (iLoc d ↦{half qi k} ix) ∗ semVal (thr d L, .dma (semS cc1_scoped1 k)) 0)

/-- Row slot `k` idle; holding block `b` of the target; being written out as block `b`. -/
def OutFree (k : Fin 2) : sProp 𝕄 :=
  iprop((∃ f, outPts d L k f) ∗ semVal (thr d L, .dma (semS cc1_scoped3 k)) 0)
def OutHas (k : Fin 2) (b : Fin 128) : sProp 𝕄 :=
  iprop((∃ f, ⌜(outS k).view.read (Elt F) f = blockOf tb ix b⌝ ∗ outPts d L k f) ∗ semVal (thr d L, .dma (semS cc1_scoped3 k)) 0)
def OutFly (k : Fin 2) (b : Fin 128) : sProp 𝕄 :=
  Transfers.Flight countersEmb (thr d L) (.dma (semS cc1_scoped3 k)) (default : HIx 1) (dstB b).view.dmaCredit
    iprop(mkPts d tb ix f0 qo (dstB b).view.set Finset.univ ∗ ∃ f, outPts d L k f)

variable [FloatOps F]

/-! ## The steps -/

theorem step_askIdx {α : Type} {Q : α → sProp 𝕄} {k : Fin 2} {b : Fin 128} {o₁ : Fin 2 → ℕ} {o₂ : Fin 3 → ℕ} {o₃ : Fin 1 → ℕ} {h₁ h₂ h₃}
    (e₁ : o₁ = ![0, 128 * b.val]) (e₂ : o₂ = ![k.val, 0, 0]) (e₃ : o₃ = ![k.val])
    {hs : (idxAt o₁ h₁).view.WordExact} {hd : (inAt o₂ h₂).view.WordExact} {ht : DmaTarget.Typed (nD := nD) (p := (thr d L).2) _ (.dma (semAt cc1_scoped1 o₃ h₃)) (.here (inAt o₂ h₂))}
    {kk : PUnit → Prog (TpuEff nD τ sig (Elt F) Λ₀ (thr d L).2) α} :
    InFree d L ix qi k ⊢ iprop((InFly d L ix qi k b -∗ wp frame (wpE (defs₀ (F := F)) 𝒱₀ (thr d L) none) Set.univ (kk ⟨⟩) Q)
      -∗ wp frame (wpE (defs₀ (F := F)) 𝒱₀ (thr d L) none) Set.univ
          (.op (.enqueueDma (idxAt o₁ h₁) (.here (inAt o₂ h₂)) (.dma (semAt cc1_scoped1 o₃ h₃)) hs hd ht) kk) Q : sProp 𝕄) := by
  subst e₁ e₂ e₃
  unfold InFree InFly
  iintro ⟨⟨%f, Hf⟩, Hi, Hv⟩ Hk
  ihave Hi' := (pointsTo_split_subset (ℓ := iLoc d) (q := half qi k) (f := ix) (S := Finset.univ) (Finset.subset_univ (idxB b).view.set)).1 $$ Hi
  icases Hi' with ⟨Hi, Hr⟩
  iapply (Transfers.wp_dmaLocal countersEmb 𝒱₀ (thr d L) none (default : HIx 1) (inS k).view.dmaCredit rfl
      (View.dmaCredit_pos _ (by decide)) subset_rfl) $$ [Hf Hi Hv]
  · isplitl [Hi]; · iexact Hi
    isplitl [Hf]; · iexact Hf
    iexact Hv
  iintro Hfl
  iapply Hk
  isplitr [Hr]; swap; · iexact Hr
  iapply (Transfers.Flight_mono countersEmb (thr d L) ?_) $$ Hfl
  iintro ⟨Ha, Hb⟩
  isplitl [Ha]
  · iexists _; isplitr; swap; · iexact Ha
    ipureintro; exact View.read_write_univ _ _
  · iexact Hb

theorem step_waitIdx {α : Type} {Q : α → sProp 𝕄} {k : Fin 2} {b : Fin 128} {o₁ : Fin 2 → ℕ} {o₂ : Fin 3 → ℕ} {o₃ : Fin 1 → ℕ} {h₁ h₂ h₃}
    (e₃ : o₃ = ![k.val])
    {hs : (idxAt o₁ h₁).view.WordExact} {hd : (inAt o₂ h₂).view.WordExact}
    {kk : PUnit → Prog (TpuEff nD τ sig (Elt F) Λ₀ (thr d L).2) α} {O : CellTallies nD τ sig (HIx 1)} {W : Waits sig (HIx 1)} :
    iprop(Transfers.MayWaits (thr d L) (default : HIx 1) O ∗ InFly d L ix qi k b ∗ owes (thr d L) O W)
      ⊢ iprop((iprop(InHas d L ix qi k b ∗ owes (thr d L) O (insert (.dma (semS cc1_scoped1 k), default) W))
          -∗ wp frame (wpE (defs₀ (F := F)) 𝒱₀ (thr d L) none) Set.univ (kk ⟨⟩) Q)
      -∗ wp frame (wpE (defs₀ (F := F)) 𝒱₀ (thr d L) none) Set.univ
          (.op (.waitDma2 (semAt cc1_scoped1 o₃ h₃) (idxAt o₁ h₁) (inAt o₂ h₂) hs hd) kk) Q : sProp 𝕄) := by
  subst e₃
  unfold InFly InHas
  iintro ⟨#Hmw, ⟨Hfl, Hr⟩, HO⟩ Hk
  iapply (Transfers.wp_waitLocalO countersEmb 𝒱₀ (thr d L) none (default : HIx 1) (rfl : (inAt o₂ h₂).view.dmaCredit = _)) $$ [Hfl HO]
  · isplitl [Hfl]; · iexact Hfl
    isplitl [HO]; · iexact HO
    iapply (Transfers.MayWaits.elim (SemLoc.dma (semS cc1_scoped1 k))) $$ Hmw
  iintro ⟨⟨Hf, Hi⟩, Hv, HO⟩
  iapply Hk
  isplitr [HO]; swap; · iexact HO
  isplitl [Hf]; · iexact Hf
  isplitr [Hv]; swap; · iexact Hv
  iapply (pointsTo_split_subset (ℓ := iLoc d) (q := half qi k) (f := ix) (S := Finset.univ) (Finset.subset_univ (idxB b).view.set)).2
  isplitl [Hi] <;> iassumption

theorem gather_credit (k : Fin 2) : ∑ j, ((outS k).slice (S128x128.rowRect gathers_S8192x128_S128x128.axis' j)
    (S128x128.stride_rowRect gathers_S8192x128_S128x128.axis' j)).view.dmaCredit = (outS k).view.dmaCredit := by
  revert k; decide +kernel

/-- The gather of slot `k`'s list into row slot `k`, and its wait. -/
theorem step_gather {α : Type} {Q : α → sProp 𝕄} (hix : ∀ j, (ix j).toNat < 8192) {k : Fin 2} {b : Fin 128} {o₁ o₂ o₄ : Fin 3 → ℕ} {h₁ h₂ h₄}
    (e₁ : o₁ = ![k.val, 0, 0]) (e₂ : o₂ = ![k.val, 0, 0])
    {hs : (xAll).view.WordExact} {hd : (outAt o₄ h₄).view.WordExact}
    {kk : PUnit → Prog (TpuEff nD τ sig (Elt F) Λ₀ (thr d L).2) α} {O : CellTallies nD τ sig (HIx 1)} {W : Waits sig (HIx 1)} :
    iprop(Transfers.MayWaits (thr d L) (default : HIx 1) O ∗ (xLoc d ↦{qx} tb) ∗ InHas d L ix qi k b ∗ OutFree d L k
        ∗ semVal (thr d L, .dma cc1_scoped4.sem) 0 ∗ owes (thr d L) O W)
      ⊢ iprop((iprop((xLoc d ↦{qx} tb) ∗ InFree d L ix qi k ∗ OutHas d L tb ix k b ∗ semVal (thr d L, .dma cc1_scoped4.sem) 0
            ∗ owes (thr d L) O (insert (.dma cc1_scoped4.sem, default) W))
          -∗ wp frame (wpE (defs₀ (F := F)) 𝒱₀ (thr d L) none) Set.univ (kk ⟨⟩) Q)
      -∗ wp frame (wpE (defs₀ (F := F)) 𝒱₀ (thr d L) none) Set.univ
          (SparseCore.enqueueIndirectGather rfl xAll (outAt o₂ h₂) gathers_S8192x128_S128x128 (offsAt o₁ h₁) rfl cc1_scoped4.sem (View.wordExact_bits rfl) rfl (Or.inl rfl)
            >>= fun _ => SparseCore.waitIndirectGather cc1_scoped4.sem xAll (outAt o₄ h₄) hs hd >>= kk) Q : sProp 𝕄) := by
  subst e₁ e₂
  unfold InHas OutFree InFree OutHas
  iintro ⟨#Hmw, Hx, ⟨⟨%fo, %hfo, Hf⟩, Hi, Hvi⟩, ⟨⟨%fr, Hr⟩, Hvr⟩, Hv, HO⟩ Hk
  ihave Hx' := (Entails.of_eq (show ((xLoc d ↦{qx} tb : sProp 𝕄) = ((xAll).view.loc (thr d L) ↦[(xAll).view.set]{qx} tb)) by rw [set_xAll])) $$ Hx
  ihave Hf' := (Entails.of_eq (show ((inPts d L k fo : sProp 𝕄) = ((offsS k).view.loc (thr d L) ↦[(offsS k).view.set]{fullShare} fo)) by rw [set_offsS])) $$ Hf
  iapply (SparseCore.wp_indirectGatherLocal countersEmb 𝒱₀ (thr d L) none (hg := gathers_S8192x128_S128x128) (default : HIx 1)
      (outS k).view.dmaCredit (gather_credit k) (by decide) (inRange_offsS ix hix k b fo hfo)) $$ [Hx' Hr Hf' Hv]
  · isplitl [Hx']; · iexact Hx'
    isplitl [Hr]; · iexact Hr
    isplitl [Hf']; · iexact Hf'
    iexact Hv
  iintro Hfl
  iapply (Transfers.wp_waitLocalO countersEmb 𝒱₀ (thr d L) none (default : HIx 1) (rfl : (outAt o₄ h₄).view.dmaCredit = _)) $$ [Hfl HO]
  · isplitl [Hfl]; · iexact Hfl
    isplitl [HO]; · iexact HO
    iapply (Transfers.MayWaits.elim (SemLoc.dma cc1_scoped4.sem)) $$ Hmw
  iintro ⟨⟨Hr, Hx, Hf⟩, Hv, HO⟩
  iapply Hk
  isplitl [Hx]
  · iapply (Entails.of_eq (show ((xLoc d ↦{qx} tb : sProp 𝕄) = ((xAll).view.loc (thr d L) ↦[(xAll).view.set]{qx} tb)) by rw [set_xAll]).symm) $$ Hx
  isplitl [Hf Hi Hvi]
  · isplitl [Hf]
    · iexists fo
      iapply (Entails.of_eq (show ((inPts d L k fo : sProp 𝕄) = ((offsS k).view.loc (thr d L) ↦[(offsS k).view.set]{fullShare} fo)) by rw [set_offsS]).symm) $$ Hf
    isplitl [Hi] <;> iassumption
  isplitl [Hr Hvr]
  · isplitr [Hvr]; swap; · iexact Hvr
    iexists _; isplitr; swap; · iexact Hr
    ipureintro
    exact (View.read_write_univ _ _).trans (payload_eq tb ix hix k b fo hfo _ _)
  isplitl [Hv] <;> iassumption

theorem step_askOut {α : Type} {Q : α → sProp 𝕄} {k : Fin 2} {b : Fin 128} {o₁ : Fin 3 → ℕ} {o₂ : Fin 2 → ℕ} {o₃ : Fin 1 → ℕ} {h₁ h₂ h₃}
    (e₁ : o₁ = ![k.val, 0, 0]) (e₂ : o₂ = ![128 * b.val, 0]) (e₃ : o₃ = ![k.val])
    {hs : (outAt o₁ h₁).view.WordExact} {hd : (dstAt o₂ h₂).view.WordExact} {ht : DmaTarget.Typed (nD := nD) (p := (thr d L).2) _ (.dma (semAt cc1_scoped3 o₃ h₃)) (.here (dstAt o₂ h₂))}
    {kk : PUnit → Prog (TpuEff nD τ sig (Elt F) Λ₀ (thr d L).2) α} :
    iprop(wmInv (wemb F) ιwm ∗ OutHas d L tb ix k b ∗ mkPts d tb ix f0 qo (dstB b).view.set ∅)
      ⊢ iprop((OutFly d L tb ix f0 qo k b -∗ wp frame (wpE (defs₀ (F := F)) 𝒱₀ (thr d L) none) Set.univ (kk ⟨⟩) Q)
      -∗ wp frame (wpE (defs₀ (F := F)) 𝒱₀ (thr d L) none) Set.univ
          (.op (.enqueueDma (outAt o₁ h₁) (.here (dstAt o₂ h₂)) (.dma (semAt cc1_scoped3 o₃ h₃)) hs hd ht) kk) Q : sProp 𝕄) := by
  subst e₁ e₂ e₃
  unfold OutHas OutFly
  iintro ⟨#Hinv, ⟨⟨%f, %hf, Hf⟩, Hv⟩, Hm⟩ Hk
  have hadm : (dstB b).view.Admitted (Elt F) (fun j => some (tgt tb ix j)) ((outS k).view.read (Elt F) f) Finset.univ := by
    intro x _ u hu
    rw [hf]
    exact Option.some.inj hu
  iapply (wp_dmaMark (thr d L) (ιwm := ιwm) (dstB b).view.dmaCredit rfl (View.dmaCredit_pos _ (by decide)) hadm) $$ [Hf Hm Hv]
  · isplitl [Hf]; · iexact Hf
    isplitr; · iexact Hinv
    isplitl [Hm]; · iexact Hm
    iexact Hv
  iintro Hfl
  iapply Hk
  iapply (Transfers.Flight_mono countersEmb (thr d L) ?_) $$ Hfl
  iintro ⟨Ha, Hb⟩
  isplitl [Ha]
  · iapply (Entails.of_eq (BI.Region.willBe_congr (fun _ _ => rfl) (fun _ _ => rfl) fun i hi => ?_)) $$ Ha
    simp only [Finset.empty_union, Finset.mem_univ, iff_true]; exact hi
  · iexists f; iexact Hb

theorem step_waitOut {α : Type} {Q : α → sProp 𝕄} {k : Fin 2} {b : Fin 128} {o₁ : Fin 3 → ℕ} {o₂ : Fin 2 → ℕ} {o₃ : Fin 1 → ℕ} {h₁ h₂ h₃}
    (e₃ : o₃ = ![k.val])
    {hs : (outAt o₁ h₁).view.WordExact} {hd : (dstAt o₂ h₂).view.WordExact}
    {kk : PUnit → Prog (TpuEff nD τ sig (Elt F) Λ₀ (thr d L).2) α} {O : CellTallies nD τ sig (HIx 1)} {W : Waits sig (HIx 1)} :
    iprop(Transfers.MayWaits (thr d L) (default : HIx 1) O ∗ OutFly d L tb ix f0 qo k b ∗ owes (thr d L) O W)
      ⊢ iprop((iprop(OutFree d L k ∗ mkPts d tb ix f0 qo (dstB b).view.set Finset.univ ∗ owes (thr d L) O (insert (.dma (semS cc1_scoped3 k), default) W))
          -∗ wp frame (wpE (defs₀ (F := F)) 𝒱₀ (thr d L) none) Set.univ (kk ⟨⟩) Q)
      -∗ wp frame (wpE (defs₀ (F := F)) 𝒱₀ (thr d L) none) Set.univ
          (.op (.waitDma2 (semAt cc1_scoped3 o₃ h₃) (outAt o₁ h₁) (dstAt o₂ h₂) hs hd) kk) Q : sProp 𝕄) := by
  subst e₃
  unfold OutFly OutFree
  iintro ⟨#Hmw, Hfl, HO⟩ Hk
  iapply (Transfers.wp_waitLocalO countersEmb 𝒱₀ (thr d L) none (default : HIx 1) (rfl : (dstAt o₂ h₂).view.dmaCredit = _)) $$ [Hfl HO]
  · isplitl [Hfl]; · iexact Hfl
    isplitl [HO]; · iexact HO
    iapply (Transfers.MayWaits.elim (SemLoc.dma (semS cc1_scoped3 k))) $$ Hmw
  iintro ⟨⟨Hm, Hf⟩, Hv, HO⟩
  iapply Hk
  isplitl [Hf Hv]
  · isplitl [Hf] <;> iassumption
  isplitl [Hm] <;> iassumption

end Tile

end Cert.Proof.Whole
-- ==== Proof.WholeTile.lean ====
module

public import proofs.«01_k».proof.Proof.WholeSteps

@[expose] public section

/-!
# One tile's eight blocks

Before trip `t` the tile has asked for index block `t`, its row slot of the other parity is being written out as block
`t - 1`, blocks before that are written, and block `t` on are still to come. One trip asks for the next index block,
gathers this one's rows, sends them out and waits for the last trip's.
-/

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

/-! ## Parities and blocks -/

/-- The slot of trip `t`, and its block. -/
def par (t : ℕ) : Fin 2 := ⟨t % 2, Nat.mod_lt _ (by decide)⟩
def blk (L : grid1.Coords) (t : ℕ) : Fin 128 := ⟨(8 * (L 1).val + t) % 128, Nat.mod_lt _ (by decide)⟩

theorem par_two (t : ℕ) : par (t + 2) = par t := Fin.ext (by simp [par])

theorem tile_lt (L : grid1.Coords) : (L 1).val < 16 := (L 1).isLt

theorem blk_val (L : grid1.Coords) {t : ℕ} (h : t < 8) : (blk L t).val = 8 * (L 1).val + t :=
  Nat.mod_eq_of_lt (by have := tile_lt L; omega)

section Tile

variable (d : Dev nD) (L : grid1.Coords)
variable (tb : S8192x128.Idx → F .f32) (ix : S1x16384.Idx → BitVec 32) (f0 : S16384x128.Idx → F .f32)
variable (qx qi qo : PosShare TreeShare) (ιwm : ℕ)
variable (O : CellTallies nD τ sig (HIx 1)) (W : Waits sig (HIx 1))

/-- What the tile owes, having waited for its own copies. -/
abbrev OwesAny : sProp 𝕄 := iprop(∃ W', ⌜∀ p ∈ W', p ∈ W ∨ p.2 = none⌝ ∗ owes (thr d L) O W')

theorem owesAny_intro {W' : Waits sig (HIx 1)} {sm : SemLoc sig} (h : ∀ p ∈ W', p ∈ W ∨ p.2 = none) :
    owes (thr d L) O (insert (sm, (default : HIx 1)) W') ⊢ (OwesAny d L O W : sProp 𝕄) := by
  iintro H
  iexists _
  isplitr; swap; · iexact H
  ipureintro
  intro p hp
  rcases Finset.mem_insert.mp hp with rfl | hp
  · exact Or.inr rfl
  · exact h p hp

/-- The index slot of trip `t` before that trip: on its way, or idle after the last. -/
def InNow (t : ℕ) : sProp 𝕄 := if t < 8 then InFly d L ix qi (par t) (blk L t) else InFree d L ix qi (par t)
/-- The row slot of the trip before `t`: being written out, or idle before the first. -/
def OutPrev (t : ℕ) : sProp 𝕄 := if t = 0 then OutFree d L (par (t + 1)) else OutFly d L tb ix f0 qo (par (t + 1)) (blk L (t - 1))

theorem mk_split {a b c : ℕ} (h₁ : a ≤ b) (h₂ : b ≤ c) (S : Finset S16384x128.Idx) :
    (mkPts d tb ix f0 qo (rowsOf a c) S : sProp 𝕄) ⊣⊢ iprop(mkPts d tb ix f0 qo (rowsOf a b) S ∗ mkPts d tb ix f0 qo (rowsOf b c) S) := by
  rw [← rowsOf_union h₁ h₂]
  exact BI.Region.held_union (rowsOf_disjoint le_rfl)

theorem mk_nil {a b : ℕ} (h : b ≤ a) (S : Finset S16384x128.Idx) : (iprop(emp) : sProp 𝕄) ⊢ mkPts d tb ix f0 qo (rowsOf a b) S := by
  rw [rowsOf_empty h]
  exact Entails.of_eq (BI.Region.held_empty _).symm

variable [FloatOps F]
variable {h2 : (xV).IsWhole} {h3 : (iV).IsWhole} {h4 : (oV).IsWhole} {hs : (sV).IsWhole} {hr : (rV).IsWhole}

/-- Programs of the tile. -/
abbrev TileM (F : FTy → Type) (L : grid1.Coords) : Type → Type 1 := Prog (TpuEff nD τ sig (Elt F) Λ₀ (.scVector ((L 0).castLE hcore1) ((L 1).castLE hsub1)))

abbrev tileWord (L : grid1.Coords) : BitVec 32 := Scalar.muli (BitVec.ofNat 32 (L 1).val) 8#32

/-- The first part of a trip: ask for the next index block, unless this is the last trip. -/
theorem part1 {α : Type} {Q : α → sProp 𝕄} (t : Fin k1_t1_loop.trips) (a6 a7 a8 a9 a10 : BitVec 32) (ha : (a6, a7, a8, a9, a10) = WholeWords.acc t.val)
    (c3 : k1_chk3 a7) (c2 : k1_chk2 a8) (c1 : k1_chk1 L t a6 a7 a8 a9 a10) (kk : _ → TileM F L α) :
    InFree d L ix qi (par (t.val + 1))
      ⊢ iprop((InNow d L ix qi (t.val + 1) -∗ wp frame (wpE (defs₀ (F := F)) 𝒱₀ (thr d L) none) Set.univ
            (kk ⟨c3, c2, c1, Scf.iv 0#32 1#32 t, Scalar.cmpi .eq (Scf.iv 0#32 1#32 t) 0#32, Scalar.cmpi .eq (Scf.iv 0#32 1#32 t) 7#32,
              Scalar.addi a10 (tileWord L),
              Scalar.addi (Scalar.select (Scalar.cmpi .eq (Scalar.select 1#1 (Scalar.subi a10 1#32) a10) 4294967295#32) 7#32 (Scalar.select 1#1 (Scalar.subi a10 1#32) a10)) (tileWord L),
              Scalar.addi (Scalar.select (Scalar.cmpi .eq (Scalar.select 1#1 (Scalar.addi a10 1#32) a10) 8#32) 0#32 (Scalar.select 1#1 (Scalar.addi a10 1#32) a10)) (tileWord L),
              Scalar.select (Scalar.andi (Scalar.andi (Scalar.cmpi .ne (Scalar.addi a10 (tileWord L))
                (Scalar.addi (Scalar.select (Scalar.cmpi .eq (Scalar.select 1#1 (Scalar.addi a10 1#32) a10) 8#32) 0#32 (Scalar.select 1#1 (Scalar.addi a10 1#32) a10)) (tileWord L)))
                (Scalar.xori (Scalar.cmpi .sge (Scf.iv 0#32 1#32 t) 7#32) 1#1)) 1#1) (Scalar.addi a6 1#32) a6,
              Scalar.cmpi .ne (Scalar.addi a10 (tileWord L)) (Scalar.addi (Scalar.select (Scalar.cmpi .eq (Scalar.select 1#1 (Scalar.subi a10 1#32) a10) 4294967295#32) 7#32 (Scalar.select 1#1 (Scalar.subi a10 1#32) a10)) (tileWord L))⟩) Q)
      -∗ wp frame (wpE (defs₀ (F := F)) 𝒱₀ (thr d L) none) Set.univ
          (Bind.bind (m := TileM F L) (k1_part1 L xV h2 iV h3 oV h4 sV hs cc1_scoped1 rV hr cc1_scoped3 cc1_scoped4 (tileWord L) 0#32 1#32 t a6 a7 a8 a9 a10) kk) Q : sProp 𝕄) := by
  have e6 : a6 = (WholeWords.acc t.val).1 := congrArg Prod.fst ha
  have e10 : a10 = (WholeWords.acc t.val).2.2.2.2 := congrArg (fun p => p.2.2.2.2) ha
  rw [k1_part1_eq_skeleton]
  unfold k1_part1_skel
  have t8 : t.val < 8 := lt_of_lt_of_eq t.isLt WholeWords.trips_eq
  simp only [Prog.bind_assoc, Prog.bind_lift]
  iintro HF HK
  iapply (wp_assume 𝒱₀ (thr d L) none Set.univ c3)
  iapply (wp_assume 𝒱₀ (thr d L) none Set.univ c2)
  iapply (wp_assume 𝒱₀ (thr d L) none Set.univ c1)
  by_cases ht : t.val < 7
  · have hc : k1_cond1 L t a10 = 1#1 := by rw [e10]; exact (WholeWords.cond1 L t).mpr ht
    beta_reduce
    rw [dif_pos hc]
    iapply (step_askIdx d L ix qi (k := par (t.val + 1)) (b := blk L (t.val + 1)) ?_ ?_ ?_) $$ HF
    · rw [e10, WholeWords.off5 L t ht, blk_val L (by omega)]
    · rw [e6, WholeWords.off4 t]; rfl
    · rw [e6, WholeWords.off6 t]; rfl
    iintro HF
    iapply HK
    unfold InNow; rw [if_pos (by omega)]
    iexact HF
  · have hc : ¬ k1_cond1 L t a10 = 1#1 := by rw [e10]; exact fun h => ht ((WholeWords.cond1 L t).mp h)
    beta_reduce
    rw [dif_neg hc]
    iapply HK
    unfold InNow; rw [if_neg (by omega)]
    iexact HF

/-- The second part: wait for this trip's index block and gather its rows. -/
theorem part2 {α : Type} {Q : α → sProp 𝕄} (hix : ∀ j, (ix j).toNat < 8192) (t : Fin k1_t1_loop.trips) (a6 a7 a8 a9 a10 : BitVec 32)
    (ha : (a6, a7, a8, a9, a10) = WholeWords.acc t.val) (c3 : k1_chk3 a7) (c2 : k1_chk2 a8) (c1 : k1_chk1 L t a6 a7 a8 a9 a10)
    (w5 : BitVec 32) (w60 w61 : BitVec 1) (w62 w67 w72 : BitVec 32) (w92 : BitVec 1) (kk : _ → TileM F L α) :
    iprop(Transfers.MayWaits (thr d L) (default : HIx 1) O ∗ (xLoc d ↦{qx} tb) ∗ InNow d L ix qi t.val ∗ OutFree d L (par t.val)
        ∗ semVal (thr d L, .dma cc1_scoped4.sem) 0 ∗ OwesAny d L O W)
      ⊢ iprop((iprop((xLoc d ↦{qx} tb) ∗ InFree d L ix qi (par t.val) ∗ OutHas d L tb ix (par t.val) (blk L t.val)
            ∗ semVal (thr d L, .dma cc1_scoped4.sem) 0 ∗ OwesAny d L O W)
          -∗ wp frame (wpE (defs₀ (F := F)) 𝒱₀ (thr d L) none) Set.univ (kk ⟨⟩) Q)
      -∗ wp frame (wpE (defs₀ (F := F)) 𝒱₀ (thr d L) none) Set.univ
          (Bind.bind (m := TileM F L) (k1_part2 L xV h2 iV h3 oV h4 sV hs cc1_scoped1 rV hr cc1_scoped3 cc1_scoped4 t a6 a7 a8 a9 a10 c3 c2 c1 w5 w60 w61 w62 w67 w72 w92) kk) Q : sProp 𝕄) := by
  have e7 : a7 = (WholeWords.acc t.val).2.1 := congrArg (fun p => p.2.1) ha
  have e8 : a8 = (WholeWords.acc t.val).2.2.1 := congrArg (fun p => p.2.2.1) ha
  have e10 : a10 = (WholeWords.acc t.val).2.2.2.2 := congrArg (fun p => p.2.2.2.2) ha
  have t8 : t.val < 8 := lt_of_lt_of_eq t.isLt WholeWords.trips_eq
  have hc : k1_cond2 L t a10 = 1#1 := by rw [e10]; exact WholeWords.cond2 L t
  rw [k1_part2_eq_skeleton]
  unfold k1_part2_skel
  rw [dif_pos hc]
  simp only [Prog.bind_assoc, Prog.bind_lift, Prog.pure_eq_ret, Prog.bind_ret, ite_self]
  unfold InNow
  rw [if_pos t8]
  iintro ⟨#Hmw, Hx, HI, HO, Hs, %W', %hW', Ho⟩ HK
  iapply (step_waitIdx d L ix qi (k := par t.val) (b := blk L t.val) ?_) $$ [HI Ho]
  · rw [e7, WholeWords.off9 t]; rfl
  · isplitr; · iexact Hmw
    isplitl [HI] <;> iassumption
  iintro ⟨HI, Ho⟩
  iapply (step_gather d L tb ix qx qi hix (k := par t.val) (b := blk L t.val) ?_ ?_) $$ [Hx HI HO Hs Ho]
  · rw [e7, WholeWords.off11 t]; rfl
  · rw [e8, WholeWords.off10 t]; rfl
  · isplitr; · iexact Hmw
    isplitl [Hx]; · iexact Hx
    isplitl [HI]; · iexact HI
    isplitl [HO]; · iexact HO
    isplitl [Hs] <;> iassumption
  iintro ⟨Hx, HI, HO, Hs, Ho⟩
  iapply HK
  isplitl [Hx]; · iexact Hx
  isplitl [HI]; · iexact HI
  isplitl [HO]; · iexact HO
  isplitl [Hs]; · iexact Hs
  iapply (owesAny_intro d L O W) $$ Ho
  intro p hp
  rcases Finset.mem_insert.mp hp with rfl | hp
  · exact Or.inr rfl
  · exact hW' p hp

/-! ## A trip -/

/-- What the tile holds before trip `t`, with the words `a`. -/
def Inv (t : ℕ) (a : BitVec 32 × BitVec 32 × BitVec 32 × BitVec 32 × BitVec 32) : sProp 𝕄 :=
  iprop(⌜a = WholeWords.acc t⌝ ∗ Transfers.MayWaits (thr d L) (default : HIx 1) O ∗ wmInv (wemb F) ιwm
    ∗ (xLoc d ↦{qx} tb) ∗ InNow d L ix qi t ∗ InFree d L ix qi (par (t + 1)) ∗ OutFree d L (par t) ∗ OutPrev d L tb ix f0 qo t
    ∗ semVal (thr d L, .dma cc1_scoped4.sem) 0
    ∗ mkPts d tb ix f0 qo (rowsOf (1024 * (L 1).val) (128 * (8 * (L 1).val + (t - 1)))) Finset.univ
    ∗ mkPts d tb ix f0 qo (rowsOf (128 * (8 * (L 1).val + t)) (1024 * (L 1).val + 1024)) ∅
    ∗ OwesAny d L O W)

/-- The end of a trip: send this trip's rows out, and wait for the last trip's to be out. -/
theorem tail_out {α : Type} {Q : α → sProp 𝕄} (t : ℕ) (t8 : t < 8) {o₁ : Fin 3 → ℕ} {o₂ : Fin 2 → ℕ} {o₃ : Fin 1 → ℕ} {h₁ h₂ h₃}
    (e₁ : o₁ = ![(par t).val, 0, 0]) (e₂ : o₂ = ![128 * (blk L t).val, 0]) (e₃ : o₃ = ![(par t).val])
    {hs : (outAt o₁ h₁).view.WordExact} {hd : (dstAt o₂ h₂).view.WordExact}
    {ht : DmaTarget.Typed (nD := nD) (p := (thr d L).2) _ (.dma (semAt cc1_scoped3 o₃ h₃)) (.here (dstAt o₂ h₂))}
    {kk : PUnit → Prog (TpuEff nD τ sig (Elt F) Λ₀ (thr d L).2) α} :
    iprop(wmInv (wemb F) ιwm ∗ OutHas d L tb ix (par t) (blk L t)
        ∗ mkPts d tb ix f0 qo (rowsOf (128 * (8 * (L 1).val + t)) (1024 * (L 1).val + 1024)) ∅)
      ⊢ iprop((iprop(OutFly d L tb ix f0 qo (par t) (blk L t)
            ∗ mkPts d tb ix f0 qo (rowsOf (128 * (8 * (L 1).val + (t + 1))) (1024 * (L 1).val + 1024)) ∅)
          -∗ wp frame (wpE (defs₀ (F := F)) 𝒱₀ (thr d L) none) Set.univ (kk ⟨⟩) Q)
      -∗ wp frame (wpE (defs₀ (F := F)) 𝒱₀ (thr d L) none) Set.univ
          (.op (.enqueueDma (outAt o₁ h₁) (.here (dstAt o₂ h₂)) (.dma (semAt cc1_scoped3 o₃ h₃)) hs hd ht) kk) Q : sProp 𝕄) := by
  have hb : 128 * (blk L t).val + 128 = 128 * (8 * (L 1).val + (t + 1)) := by rw [blk_val L t8]; omega
  iintro ⟨#Hinv, HH, Hm⟩ HK
  ihave Hm' := (mk_split d tb ix f0 qo (show 128 * (8 * (L 1).val + t) ≤ 128 * (8 * (L 1).val + (t + 1)) by omega)
    (show _ ≤ 1024 * (L 1).val + 1024 by omega) ∅).1 $$ Hm
  icases Hm' with ⟨Hb, Hm⟩
  iapply (step_askOut d L tb ix f0 qo ιwm (k := par t) (b := blk L t) e₁ e₂ e₃) $$ [HH Hb]
  · isplitr; · iexact Hinv
    isplitl [HH]; · iexact HH
    rw [set_dstB, hb, blk_val L t8]; iexact Hb
  iintro HF
  iapply HK
  isplitl [HF] <;> iassumption

theorem tail_wait {α : Type} {Q : α → sProp 𝕄} (t : ℕ) (t0 : 0 < t) (t8 : t ≤ 8) {o₁ : Fin 3 → ℕ} {o₂ : Fin 2 → ℕ} {o₃ : Fin 1 → ℕ} {h₁ h₂ h₃}
    (e₃ : o₃ = ![(par (t + 1)).val])
    {hs : (outAt o₁ h₁).view.WordExact} {hd : (dstAt o₂ h₂).view.WordExact}
    {kk : PUnit → Prog (TpuEff nD τ sig (Elt F) Λ₀ (thr d L).2) α} :
    iprop(Transfers.MayWaits (thr d L) (default : HIx 1) O ∗ OutPrev d L tb ix f0 qo t
        ∗ mkPts d tb ix f0 qo (rowsOf (1024 * (L 1).val) (128 * (8 * (L 1).val + (t - 1)))) Finset.univ ∗ OwesAny d L O W)
      ⊢ iprop((iprop(OutFree d L (par (t + 1)) ∗ mkPts d tb ix f0 qo (rowsOf (1024 * (L 1).val) (128 * (8 * (L 1).val + t))) Finset.univ
            ∗ OwesAny d L O W)
          -∗ wp frame (wpE (defs₀ (F := F)) 𝒱₀ (thr d L) none) Set.univ (kk ⟨⟩) Q)
      -∗ wp frame (wpE (defs₀ (F := F)) 𝒱₀ (thr d L) none) Set.univ
          (.op (.waitDma2 (semAt cc1_scoped3 o₃ h₃) (outAt o₁ h₁) (dstAt o₂ h₂) hs hd) kk) Q : sProp 𝕄) := by
  have hb : 128 * (blk L (t - 1)).val + 128 = 128 * (8 * (L 1).val + t) := by rw [blk_val L (by omega)]; omega
  unfold OutPrev; rw [if_neg (by omega)]
  iintro ⟨#Hmw, HF, Hm, %W', %hW', Ho⟩ HK
  iapply (step_waitOut d L tb ix f0 qo (k := par (t + 1)) (b := blk L (t - 1)) e₃) $$ [HF Ho]
  · isplitr; · iexact Hmw
    isplitl [HF] <;> iassumption
  iintro ⟨HF, Hb, Ho⟩
  iapply HK
  isplitl [HF]; · iexact HF
  isplitl [Hb Hm]
  · iapply (mk_split d tb ix f0 qo (show 1024 * (L 1).val ≤ 128 * (8 * (L 1).val + (t - 1)) by omega)
      (show _ ≤ 128 * (8 * (L 1).val + t) by omega) Finset.univ).2
    isplitl [Hm]; · iexact Hm
    rw [set_dstB, hb, blk_val L (by omega)]; iexact Hb
  iapply (owesAny_intro d L O W hW') $$ Ho

theorem trip (hix : ∀ j, (ix j).toNat < 8192) (t : Fin k1_t1_loop.trips) (a : BitVec 32 × BitVec 32 × BitVec 32 × BitVec 32 × BitVec 32) (w27 : BitVec 32) :
    Inv d L tb ix f0 qx qi qo ιwm O W t.val a
      ⊢ (wp frame (wpE (defs₀ (F := F)) 𝒱₀ (thr d L) none) Set.univ
          (k1_t1_body L xV h2 iV h3 oV h4 sV hs cc1_scoped1 rV hr cc1_scoped3 cc1_scoped4 (tileWord L) w27 0#32 0#32 0#32 0#32 t a)
          (Inv d L tb ix f0 qx qi qo ιwm O W (t.val + 1)) : sProp 𝕄) := by
  have t8 : t.val < 8 := lt_of_lt_of_eq t.isLt WholeWords.trips_eq
  obtain ⟨a6, a7, a8, a9, a10⟩ := a
  unfold Inv
  iintro ⟨%ha, #Hmw, #Hinv, Hx, HN, HI, HO, HP, Hs, Hm, Hu, Ho⟩
  have e6 : a6 = (WholeWords.acc t.val).1 := congrArg Prod.fst ha
  have e7 : a7 = (WholeWords.acc t.val).2.1 := congrArg (fun p => p.2.1) ha
  have e8 : a8 = (WholeWords.acc t.val).2.2.1 := congrArg (fun p => p.2.2.1) ha
  have e9 : a9 = (WholeWords.acc t.val).2.2.2.1 := congrArg (fun p => p.2.2.2.1) ha
  have e10 : a10 = (WholeWords.acc t.val).2.2.2.2 := congrArg (fun p => p.2.2.2.2) ha
  have c3 : k1_chk3 a7 := by rw [e7]; exact WholeWords.chk3 t
  have c2 : k1_chk2 a8 := by rw [e8]; exact WholeWords.chk2 t
  have c1 : k1_chk1 L t a6 a7 a8 a9 a10 := by rw [e6, e7, e8, e9, e10]; exact WholeWords.chk1 L t
  unfold k1_t1_body
  iapply (part1 d L ix qi t a6 a7 a8 a9 a10 ha c3 c2 c1) $$ HI
  iintro HI
  iapply (part2 d L tb ix qx qi O W hix t a6 a7 a8 a9 a10 ha c3 c2 c1) $$ [Hx HN HO Hs Ho]
  · isplitr; · iexact Hmw
    isplitl [Hx]; · iexact Hx
    isplitl [HN]; · iexact HN
    isplitl [HO]; · iexact HO
    isplitl [Hs] <;> iassumption
  iintro ⟨Hx, HN, HO, Hs, Ho⟩
  have hc5 : k1_cond5 L t a10 = 1#1 := by rw [e10]; exact WholeWords.cond5 L t
  beta_reduce
  rw [dif_pos hc5]
  iapply (tail_out d L tb ix f0 qo ιwm t.val t8 ?_ ?_ ?_) $$ [HO Hu]
  · rw [e8, WholeWords.off12 t]; rfl
  · rw [e10, WholeWords.off13 L t, blk_val L t8]
  · rw [e8, WholeWords.off14 t]; rfl
  · isplitr; · iexact Hinv
    isplitl [HO] <;> iassumption
  iintro ⟨HF, Hu⟩
  simp only [ite_self]
  have hstep := WholeWords.step L t
  rw [← ha] at hstep
  have goal_of : ∀ p, p = WholeWords.acc (t.val + 1) → (iprop(Transfers.MayWaits (thr d L) (default : HIx 1) O ∗ wmInv (wemb F) ιwm
    ∗ (xLoc d ↦{qx} tb) ∗ InNow d L ix qi (t.val + 1) ∗ InFree d L ix qi (par t.val) ∗ OutFree d L (par (t.val + 1)) ∗ OutFly d L tb ix f0 qo (par t.val) (blk L t.val)
    ∗ semVal (thr d L, .dma cc1_scoped4.sem) 0
    ∗ mkPts d tb ix f0 qo (rowsOf (1024 * (L 1).val) (128 * (8 * (L 1).val + t.val))) Finset.univ
    ∗ mkPts d tb ix f0 qo (rowsOf (128 * (8 * (L 1).val + (t.val + 1))) (1024 * (L 1).val + 1024)) ∅
    ∗ OwesAny d L O W) : sProp 𝕄) ⊢ (wp frame (wpE (defs₀ (F := F)) 𝒱₀ (thr d L) none) Set.univ (.ret p) (Inv d L tb ix f0 qx qi qo ιwm O W (t.val + 1)) : sProp 𝕄) := by
    intro p hp
    rw [wp_ret]
    unfold Inv OutPrev
    rw [if_neg (Nat.succ_ne_zero _), Nat.add_sub_cancel, par_two]
    iintro H
    imodintro
    isplitr; · ipureintro; exact hp
    iexact H
  by_cases t0 : 0 < t.val
  · have hc7 : k1_cond7 L t a10 = 1#1 := by rw [e10]; exact (WholeWords.cond7 L t).mpr t0
    rw [dif_pos hc7]
    iapply (tail_wait d L tb ix f0 qo O W t.val t0 (by omega) ?_) $$ [HP Hm Ho]
    · rw [e9, WholeWords.off17 t t0]; rfl
    · isplitr; · iexact Hmw
      isplitl [HP]; · iexact HP
      isplitl [Hm] <;> iassumption
    iintro ⟨HP, Hm, Ho⟩
    iapply (goal_of _ hstep)
    isplitr; · iexact Hmw
    isplitr; · iexact Hinv
    isplitl [Hx]; · iexact Hx
    isplitl [HI]; · iexact HI
    isplitl [HN]; · iexact HN
    isplitl [HP]; · iexact HP
    isplitl [HF]; · iexact HF
    isplitl [Hs]; · iexact Hs
    isplitl [Hm]; · iexact Hm
    isplitl [Hu] <;> iassumption
  · have hc7 : ¬ k1_cond7 L t a10 = 1#1 := by rw [e10]; exact fun h => t0 ((WholeWords.cond7 L t).mp h)
    have tz : t.val = 0 := by omega
    rw [dif_neg hc7]
    iapply (goal_of _ hstep)
    isplitr; · iexact Hmw
    isplitr; · iexact Hinv
    isplitl [Hx]; · iexact Hx
    isplitl [HI]; · iexact HI
    isplitl [HN]; · iexact HN
    isplitl [HP]; · iapply (Entails.of_eq (show OutPrev d L tb ix f0 qo t.val = OutFree d L (par (t.val + 1)) from by unfold OutPrev; rw [if_pos tz])) $$ HP
    isplitl [HF]; · iexact HF
    isplitl [Hs]; · iexact Hs
    isplitl [Hm]; · rw [show t.val - 1 = t.val by omega]; iexact Hm
    isplitl [Hu] <;> iassumption

/-! ## The kernel -/

theorem kernel_run (hix : ∀ j, (ix j).toNat < 8192) :
    iprop(Transfers.MayWaits (thr d L) (default : HIx 1) O ∗ wmInv (wemb F) ιwm ∗ (xLoc d ↦{qx} tb)
        ∗ InFree d L ix qi 0 ∗ InFree d L ix qi 1 ∗ OutFree d L 0 ∗ OutFree d L 1 ∗ semVal (thr d L, .dma cc1_scoped4.sem) 0
        ∗ mkPts d tb ix f0 qo (rowsOf (1024 * (L 1).val) (1024 * (L 1).val + 1024)) ∅ ∗ OwesAny d L O W)
      ⊢ (wp frame (wpE (defs₀ (F := F)) 𝒱₀ (thr d L) none) Set.univ
          (cc1_gather_kernel L xV h2 iV h3 oV h4 sV hs cc1_scoped1 rV hr cc1_scoped3 cc1_scoped4)
          fun _ => iprop((xLoc d ↦{qx} tb)
            ∗ InFree d L ix qi 0 ∗ InFree d L ix qi 1 ∗ OutFree d L 0 ∗ OutFree d L 1 ∗ semVal (thr d L, .dma cc1_scoped4.sem) 0
            ∗ mkPts d tb ix f0 qo (rowsOf (1024 * (L 1).val) (1024 * (L 1).val + 1024)) Finset.univ ∗ OwesAny d L O W) : sProp 𝕄) := by
  have hL := tile_lt L
  iintro ⟨#Hmw, #Hinv, Hx, HI0, HI1, HO0, HO1, Hs, Hm, Ho⟩
  rw [cc1_gather_kernel_eq_skeleton]
  unfold cc1_gather_kernel_skel
  rw [k1_part3_eq_skeleton, k1_part4_eq_skeleton]
  unfold k1_part3_skel k1_part4_skel
  simp only [Prog.bind_assoc, Prog.bind_lift]
  iapply (step_askIdx d L ix qi (k := 0) (b := blk L 0) ?_ ?_ ?_) $$ HI0
  · rw [k1_off2_eq, blk_val L (by omega)]; congr 1; funext i; simp; omega
  · rw [k1_off1_eq]; rfl
  · rw [k1_off3_eq]; rfl
  iintro HI0
  iapply (Scf.wp_for_bind frame (wpE (defs₀ (F := F)) 𝒱₀ (thr d L) none) Set.univ _ _ _ k1_t1_ok _ _ (Inv d L tb ix f0 qx qi qo ιwm O W)
    (fun t a => trip d L tb ix f0 qx qi qo ιwm O W hix t a _)) $$ [Hx HI0 HI1 HO0 HO1 Hs Hm Ho]
  · unfold Inv InNow OutPrev
    rw [if_pos (by omega : 0 < 8), if_pos rfl]
    isplitr; · ipureintro; rfl
    isplitr; · iexact Hmw
    isplitr; · iexact Hinv
    isplitl [Hx]; · iexact Hx
    isplitl [HI0]; · iexact HI0
    isplitl [HI1]; · iexact HI1
    isplitl [HO0]; · iexact HO0
    isplitl [HO1]; · iexact HO1
    isplitl [Hs]; · iexact Hs
    isplitr [Hm Ho]
    · iapply (mk_nil d tb ix f0 qo (by omega) Finset.univ)
      iempintro
    isplitl [Hm]; · rw [show 128 * (8 * (L 1).val + 0) = 1024 * (L 1).val by omega]; iexact Hm
    iexact Ho
  iintro %a HI
  obtain ⟨a6, a7, a8, a9, a10⟩ := a
  have t8 : Scf.trips k1_t1_loop.lb k1_t1_loop.ub k1_t1_loop.st = 8 := WholeWords.trips_eq
  rw [t8]
  unfold Inv
  icases HI with ⟨%ha, -, -, Hx, HN, HI, HO, HP, Hs, Hm, -, Ho⟩
  have e9 : a9 = (WholeWords.acc 8).2.2.2.1 := congrArg (fun p => p.2.2.2.1) ha
  have e10 : a10 = (WholeWords.acc 8).2.2.2.2 := congrArg (fun p => p.2.2.2.2) ha
  have c5 : k1_chk5 L a10 := by rw [e10]; exact WholeWords.chk5 L
  have c4 : k1_chk4 a9 := by rw [e9]; exact WholeWords.chk4
  iapply (wp_assume 𝒱₀ (thr d L) none Set.univ c5)
  iapply (wp_assume 𝒱₀ (thr d L) none Set.univ c4)
  iapply (tail_wait d L tb ix f0 qo O W 8 (by omega) (by omega) ?_) $$ [HP Hm Ho]
  · exact (show k1_off20 a9 = ![(par (8 + 1)).val] from by rw [e9, WholeWords.off20]; rfl)
  · isplitr; · iexact Hmw
    isplitl [HP]; · iexact HP
    isplitl [Hm] <;> iassumption
  iintro ⟨HP, Hm, Ho⟩
  iapply (le_wp_ret (Fr := frame) (wpE := wpE (defs₀ (F := F)) 𝒱₀ (thr d L) none) (E := Set.univ) PUnit.unit _)
  isplitl [Hx]; · iexact Hx
  isplitl [HN]
  · iapply (Entails.of_eq (show InNow d L ix qi 8 = InFree d L ix qi 0 from by unfold InNow; rw [if_neg (by omega)]; rfl)) $$ HN
  isplitl [HI]; · iexact HI
  isplitl [HO]; · iexact HO
  isplitl [HP]; · iexact HP
  isplitl [Hs]; · iexact Hs
  isplitl [Hm]
  · rw [show 128 * (8 * (L 1).val + 8) = 1024 * (L 1).val + 1024 by omega]; iexact Hm
  iexact Ho

end Tile

end Cert.Proof.Whole
-- ==== Proof.WholeTask.lean ====
module

public import proofs.«01_k».proof.Proof.WholeTile

@[expose] public section

/-!
# A tile's task

What the launch hands a tile — its scratch and semaphores whole — is cut into the slots the kernel works with, the
kernel runs, and the slots are put back together.
-/

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

section Own

variable (d : Dev nD) (L : grid1.Coords)

abbrev cell (sm : DmaSem sig) : GSem nD τ sig := (thr d L, .dma sm)

/-- The tile's five semaphores, out of all it owns. -/
theorem ownSems0_V :
    (ownSems0 (thr d L) : sProp 𝕄)
      = iprop(semVal (cell d L (semS cc1_scoped1 0)) 0 ∗ semVal (cell d L (semS cc1_scoped1 1)) 0
          ∗ semVal (cell d L (semS cc1_scoped3 0)) 0 ∗ semVal (cell d L (semS cc1_scoped3 1)) 0
          ∗ semVal (cell d L cc1_scoped4.sem) 0
          ∗ bigSep ((((((ownCells (thr d L)).erase (cell d L (semS cc1_scoped1 0))).erase (cell d L (semS cc1_scoped1 1))).erase
              (cell d L (semS cc1_scoped3 0))).erase (cell d L (semS cc1_scoped3 1))).erase (cell d L cc1_scoped4.sem)) fun g => semVal g 0) := by
  have own (sm : DmaSem sig) (h : (SemLoc.dma sm : SemLoc sig).isScoped .scVector = true) : cell d L sm ∈ ownCells (thr d L) :=
    mem_ownCells.mpr ⟨rfl, h⟩
  have ne {a b : DmaSem sig} (h : (SemLoc.dma a : SemLoc sig) ≠ .dma b) : cell d L a ≠ cell d L b := fun e => h (congrArg Prod.snd e)
  unfold SparseCore.Cfg.ownSems0
  rw [SparseCore.bigSep_erase' (own (semS cc1_scoped1 0) (by decide)),
    SparseCore.bigSep_erase' (Finset.mem_erase.mpr ⟨ne (by decide), own (semS cc1_scoped1 1) (by decide)⟩),
    SparseCore.bigSep_erase' (Finset.mem_erase.mpr ⟨ne (by decide), Finset.mem_erase.mpr ⟨ne (by decide), own (semS cc1_scoped3 0) (by decide)⟩⟩),
    SparseCore.bigSep_erase' (Finset.mem_erase.mpr ⟨ne (by decide), Finset.mem_erase.mpr ⟨ne (by decide),
      Finset.mem_erase.mpr ⟨ne (by decide), own (semS cc1_scoped3 1) (by decide)⟩⟩⟩),
    SparseCore.bigSep_erase' (Finset.mem_erase.mpr ⟨ne (by decide), Finset.mem_erase.mpr ⟨ne (by decide),
      Finset.mem_erase.mpr ⟨ne (by decide), Finset.mem_erase.mpr ⟨ne (by decide), own cc1_scoped4.sem (by decide)⟩⟩⟩⟩)]

/-- The tile's two scratch buffers, out of all it owns. -/
theorem ownBufs_V :
    (ownBufs (thr d L) : sProp 𝕄)
      = iprop((∃ f, (thr d L).loc cc1_scoped0 ↦{fullShare} f) ∗ (∃ f, (thr d L).loc cc1_scoped2 ↦{fullShare} f)
          ∗ bigSep (((ownRefs (τ := τ) (.scVector (cV L) (jV L))).erase ((Proc.scVector (cV L) (jV L)).devRef cc1_scoped0)).erase
              ((Proc.scVector (cV L) (jV L)).devRef cc1_scoped2))
              fun b => iprop(∃ f, ((d, b) : Loc nD τ sig) ↦{fullShare} f)) := by
  have own₀ := SparseCore.Cfg.mem_ownRefs_of_owner (p := Proc.scVector (cV L) (jV L)) (b := (Proc.scVector (cV L) (jV L)).devRef cc1_scoped0) rfl
  have own₂ := SparseCore.Cfg.mem_ownRefs_of_owner (p := Proc.scVector (cV L) (jV L)) (b := (Proc.scVector (cV L) (jV L)).devRef cc1_scoped2) rfl
  unfold SparseCore.Cfg.ownBufs
  refine (SparseCore.bigSep_erase' own₀).trans ?_
  rw [SparseCore.bigSep_erase' (Finset.mem_erase.mpr
    ⟨fun e => absurd (Proc.devRef_injective _ e) (show (cc1_scoped2 : Ref sig .scVector) ≠ cc1_scoped0 by decide), own₂⟩)]

/-- A buffer held whole is its two slots; two slots at any contents are the buffer at some contents. -/
theorem slots_split {ℓ : Loc nD τ sig} {A B : Finset (Idx ℓ)} (hd : Disjoint A B) (hc : A ∪ B = Finset.univ) (f : Buf (Elt F) ℓ) :
    (ℓ ↦{fullShare} f : sProp 𝕄) ⊢ iprop((ℓ ↦[A]{fullShare} f) ∗ ℓ ↦[B]{fullShare} f) := by
  rw [← hc]; exact (pointsTo_union hd).1

theorem slots_join {ℓ : Loc nD τ sig} {A B : Finset (Idx ℓ)} (hd : Disjoint A B) (hc : A ∪ B = Finset.univ) :
    iprop((∃ f, ℓ ↦[A]{fullShare} f) ∗ ∃ f, ℓ ↦[B]{fullShare} f) ⊢ (iprop(∃ f : Buf (Elt F) ℓ, ℓ ↦{fullShare} f) : sProp 𝕄) := by
  iintro ⟨⟨%f, Hf⟩, ⟨%g, Hg⟩⟩
  iexists (B.piecewise g f)
  ihave H := (pointsTo_join (ℓ := ℓ) (q := fullShare) (f := f) (g := g) hd) $$ [Hf Hg]
  · isplitl [Hf] <;> iassumption
  iapply (Entails.of_eq (show (ℓ ↦[A ∪ B]{fullShare} (B.piecewise g f) : sProp 𝕄) = ℓ ↦{fullShare} (B.piecewise g f) by rw [hc])) $$ H

end Own

section Task

variable (d : Dev nD) (L : grid1.Coords)
variable (tb : S8192x128.Idx → F .f32) (ix : S1x16384.Idx → BitVec 32) (f0 : S16384x128.Idx → F .f32)
variable (qx qi qo : PosShare TreeShare)

/-- What a tile holds of the arrays: shares of the table and the indices, its rows of the output, marked on `S`. -/
def Holds (s : ℕ) (S : Finset S16384x128.Idx) : sProp 𝕄 :=
  iprop((xLoc d ↦{qx} tb) ∗ (iLoc d ↦{qi} ix) ∗ mkPts d tb ix f0 qo (rowsOf (1024 * s) (1024 * s + 1024)) S)

/-- What every thread may know: the output's write mode. -/
abbrev Mode (F : FTy → Type) : sProp (MT nD τ sig (HIx 1) (Elt F) ℕ (UU F) ℕ) := iprop(∃ ιwm : ℕ, wmInv (wemb F) ιwm)

variable [FloatOps F]

theorem task (hF : (K (F := F)).Facts) (hix : ∀ j, (ix j).toNat < 8192) (O : CellTallies nD τ sig (HIx 1)) (W : Waits sig (HIx 1)) (hO : ∀ g, O g none = 0) :
    iprop(levAts (K (F := F)).L (K (F := F)).lev ∗ Mode F ∗ Holds d tb ix f0 qx qi qo (L 1).val ∅
        ∗ scopedBufs (thr d L) ∗ scopedSems0 (thr d L) ∗ owes (thr d L) O W)
      ⊢ wp frame (wpE (defs₀ (F := F)) 𝒱₀ (thr d L) none) Set.univ
          (cc1_gather_kernel L xV (Memref.isWhole_whole _) iV (Memref.isWhole_whole _) oV (Memref.isWhole_whole _)
            sV (Memref.isWhole_whole _) cc1_scoped1 rV (Memref.isWhole_whole _) cc1_scoped3 cc1_scoped4)
          fun _ => iprop(Holds d tb ix f0 qx qi qo (L 1).val Finset.univ
            ∗ scopedBufs (thr d L) ∗ scopedSems0 (thr d L) ∗ OwesAny d L O W) := by
  rw [(K (F := F)).scopedBufs_V hF d (cV L) (jV L), SparseCore.Cfg.scopedSems0_V (Val := Elt F) d (cV L) (jV L), ownSems0_V, ownBufs_V]
  unfold Holds
  iintro ⟨#Hlv, ⟨%ιwm, #Hinv⟩, ⟨Hx, Hi, Ho⟩, ⟨⟨%fs, Hs⟩, ⟨%fr, Hr⟩, Hbufs⟩, ⟨Ha0, Ha1, Hb0, Hb1, Hc, Hsems⟩, HO⟩
  ihave Hmw := (show levAts (K (F := F)).L (K (F := F)).lev ⊢ Transfers.MayWaits (thr d L) (default : HIx 1) O from
    (K (F := F)).mayWaits_none (thr := thr d L) hO) $$ Hlv
  ihave Hs' := (slots_split (ℓ := (thr d L).loc cc1_scoped0) (A := (inS 0).view.set) (B := (inS 1).view.set) inS_disjoint inS_cover fs) $$ Hs
  icases Hs' with ⟨Hs0, Hs1⟩
  ihave Hr' := (slots_split (ℓ := (thr d L).loc cc1_scoped2) (A := (outS 0).view.set) (B := (outS 1).view.set) outS_disjoint outS_cover fr) $$ Hr
  icases Hr' with ⟨Hr0, Hr1⟩
  ihave Hi' := (pointsTo_share (ℓ := iLoc d) (f := ix) (I := Finset.univ) (PosShare.mem_left_op_right qi)).1 $$ Hi
  icases Hi' with ⟨Hi0, Hi1⟩
  iapply (wp_wand_r frame _ _)
  isplitr [Hbufs Hsems]
  · iapply (kernel_run d L tb ix f0 qx qi qo ιwm O W hix)
    isplitl [Hmw]; · iexact Hmw
    isplitr; · iexact Hinv
    isplitl [Hx]; · iexact Hx
    isplitl [Hs0 Hi0 Ha0]
    · unfold InFree
      isplitl [Hs0]; · iexists fs; iexact Hs0
      isplitl [Hi0]; · iexact Hi0
      iexact Ha0
    isplitl [Hs1 Hi1 Ha1]
    · unfold InFree
      isplitl [Hs1]; · iexists fs; iexact Hs1
      isplitl [Hi1]; · iexact Hi1
      iexact Ha1
    isplitl [Hr0 Hb0]
    · unfold OutFree
      isplitl [Hr0]; · iexists fr; iexact Hr0
      iexact Hb0
    isplitl [Hr1 Hb1]
    · unfold OutFree
      isplitl [Hr1]; · iexists fr; iexact Hr1
      iexact Hb1
    isplitl [Hc]; · iexact Hc
    isplitl [Ho]; · iexact Ho
    iexists W; isplitr
    · ipureintro; exact fun p hp => .inl hp
    · iexact HO
  · iintro %_ ⟨Hx, Hin0, Hin1, Hout0, Hout1, Hc, Ho, HO⟩
    unfold InFree OutFree
    icases Hin0 with ⟨Hs0, Hi0, Ha0⟩
    icases Hin1 with ⟨Hs1, Hi1, Ha1⟩
    icases Hout0 with ⟨Hr0, Hb0⟩
    icases Hout1 with ⟨Hr1, Hb1⟩
    isplitl [Hx Hi0 Hi1 Ho]
    · isplitl [Hx]; · iexact Hx
      isplitr [Ho]; swap; · iexact Ho
      iapply (pointsTo_share (ℓ := iLoc d) (f := ix) (I := Finset.univ) (PosShare.mem_left_op_right qi)).2
      isplitl [Hi0]
      · iexact Hi0
      · iexact Hi1
    isplitl [Hs0 Hs1 Hr0 Hr1 Hbufs]
    · isplitl [Hs0 Hs1]
      · iapply (slots_join (ℓ := (thr d L).loc cc1_scoped0) (A := (inS 0).view.set) (B := (inS 1).view.set) inS_disjoint inS_cover)
        isplitl [Hs0]
        · iexact Hs0
        · iexact Hs1
      isplitl [Hr0 Hr1]
      · iapply (slots_join (ℓ := (thr d L).loc cc1_scoped2) (A := (outS 0).view.set) (B := (outS 1).view.set) outS_disjoint outS_cover)
        isplitl [Hr0]
        · iexact Hr0
        · iexact Hr1
      iexact Hbufs
    isplitr [HO]; swap; · iexact HO
    isplitl [Ha0]; · iexact Ha0
    isplitl [Ha1]; · iexact Ha1
    isplitl [Hb0]; · iexact Hb0
    isplitl [Hb1]; · iexact Hb1
    isplitl [Hc] <;> iassumption

end Task

end Cert.Proof.Whole
-- ==== Proof.WholeLaunch.lean ====
module

public import proofs.«01_k».proof.Proof.WholeTask

@[expose] public section

/-!
# The launch

The TensorCore pads the table, reshapes the indices, and starts both SparseCores. Each core takes half the share of the
table, of the indices and of the output's write mode; each of its sixteen tiles takes a sixteenth of those rows and a
read share. When both are done the output holds its target, and the TensorCore cuts and reshapes it.
-/

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

open Idealize.ShloMosaic.StableHlo (held after wp_hlo_within)

/-! ## What is dealt out -/

section Deal

variable (tb : Dev nD → S8192x128.Idx → F .f32) (ix : Dev nD → S1x16384.Idx → BitVec 32) (f0 : Dev nD → S16384x128.Idx → F .f32)

/-- The share of SparseCore `c`, and of its tile `i`. -/
abbrev coreSh (c : Fin 2) : PosShare TreeShare := half fullShare c
abbrev tileSh (c : Fin 2) (i : Fin 16) : PosShare TreeShare := Transfers.shareTok (coreSh c) 16 i

/-- What SparseCore `c` is handed, and hands back: the output marked on `S`. -/
def CoreHolds (d : Dev nD) (c : Fin 2) (S : Finset S16384x128.Idx) : sProp 𝕄 :=
  iprop((xLoc d ↦{coreSh c} tb d) ∗ (iLoc d ↦{coreSh c} ix d) ∗ mkPts d (tb d) (ix d) (f0 d) (coreSh c) Finset.univ S)
/-- What its tile `i` is handed, and hands back. -/
abbrev TileHolds (d : Dev nD) (c : Fin 2) (i : Fin 16) (S : Finset S16384x128.Idx) : sProp 𝕄 :=
  Holds d (tb d) (ix d) (f0 d) (tileSh c i) (tileSh c i) (coreSh c) i.val S

def P : (K (F := F)).Pay (nD := nD) (Val := Elt F) (Name := ℕ) (U := UU F) where
  st := fun q d c => match q with | 0 => CoreHolds tb ix f0 d (Fin.cast nCore_zero c) ∅
  dn := fun q d c => match q with | 0 => CoreHolds tb ix f0 d (Fin.cast nCore_zero c) Finset.univ
  go := fun q d c i => match q with | 0 => TileHolds tb ix f0 d (Fin.cast nCore_zero c) (Fin.cast nSub_zero i) ∅
  td := fun q d c i => match q with | 0 => TileHolds tb ix f0 d (Fin.cast nCore_zero c) (Fin.cast nSub_zero i) Finset.univ
  x := fun _ _ => Mode F

instance core_storable (d : Dev nD) (c : Fin 2) (S : Finset S16384x128.Idx) :
    BI.Storable (upEmb : UEmb _ 𝕄) (CoreHolds tb ix f0 d c S) := by unfold CoreHolds; infer_instance
instance tile_storable (d : Dev nD) (c : Fin 2) (i : Fin 16) (S : Finset S16384x128.Idx) :
    BI.Storable (upEmb : UEmb _ 𝕄) (TileHolds tb ix f0 d c i S) := by unfold TileHolds Holds; infer_instance

instance P_storable : (P tb ix f0).IsStorable where
  st q d c := match q with | 0 => core_storable tb ix f0 d (Fin.cast nCore_zero c) ∅
  dn q d c := match q with | 0 => core_storable tb ix f0 d (Fin.cast nCore_zero c) Finset.univ
  go q d c i := match q with | 0 => tile_storable tb ix f0 d (Fin.cast nCore_zero c) (Fin.cast nSub_zero i) ∅
  td q d c i := match q with | 0 => tile_storable tb ix f0 d (Fin.cast nCore_zero c) (Fin.cast nSub_zero i) Finset.univ

/-! ## A tile's obligation -/

def coordsV (c : Fin (grid1.bound 0)) (s : Fin (grid1.bound 1)) : grid1.Coords :=
  fun | 0 => c | 1 => s | ⟨_ + 2, h⟩ => absurd h (Nat.not_lt.2 (Nat.le_add_left _ _))

section Obl
variable [FloatOps F]

theorem defs₀_vector (c : Fin τ.nSC) (s : Fin τ.nSub) :
    defs₀ (F := F) (.scVector c s) 1 ()
      = SparseCore.onTile hcore1 hsub1 (fun c s => cc1_gather_kernel (coordsV c s)
          xV (Memref.isWhole_whole _) iV (Memref.isWhole_whole _) oV (Memref.isWhole_whole _)
          sV (Memref.isWhole_whole _) cc1_scoped1 rV (Memref.isWhole_whole _) cc1_scoped3 cc1_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hix : ∀ d j, (ix d j).toNat < 8192) : (K (F := F)).TileObl (D (F := F)) 𝒱 (P tb ix f0) v₀ 0 := by
  intro d c i O W hO _ _
  simp only [show (P tb ix f0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task d (coordsV ⟨_, hci.1⟩ ⟨_, hci.2⟩) (tb d) (ix d) (f0 d) (tileSh (Fin.cast nCore_zero c) (Fin.cast nSub_zero i))
    (tileSh (Fin.cast nCore_zero c) (Fin.cast nSub_zero i)) (coreSh (Fin.cast nCore_zero c)) hF (hix d) O W hO).trans (wp_mono frame _ _ fun _ => obl_post)

end Obl

/-! ## A core's parts are its tiles' -/

theorem mk_share (d : Dev nD) (S : Finset S16384x128.Idx) :
    (mkPts d (tb d) (ix d) (f0 d) fullShare Finset.univ S : sProp 𝕄)
      ⊣⊢ iprop(mkPts d (tb d) (ix d) (f0 d) (coreSh 0) Finset.univ S ∗ mkPts d (tb d) (ix d) (f0 d) (coreSh 1) Finset.univ S) :=
  BI.Region.held_share (PosShare.mem_left_op_right fullShare) fun i _ => by
    have h := RA.Region.WB.mem_mk_op_mk (f0 d i) (some (tgt (tb d) (ix d) i)) (decide (i ∈ S)) (decide (i ∈ S))
    rw [Bool.or_self] at h; exact h

theorem bigSep_sep' {I : Type} (s : Finset I) (Φ Ψ : I → sProp 𝕄) :
    (bigSep s fun i => iprop(Φ i ∗ Ψ i)) = iprop(bigSep s Φ ∗ bigSep s Ψ) := bigSep_sep s Φ Ψ

theorem bigSep_two (Φ : Fin 2 → sProp 𝕄) : bigSep Finset.univ Φ = iprop(Φ 0 ∗ Φ 1) := bigSep_fin_two Φ

theorem mk_tiles (d : Dev nD) (c : Fin 2) (S : Finset S16384x128.Idx) :
    (mkPts d (tb d) (ix d) (f0 d) (coreSh c) Finset.univ S : sProp 𝕄)
      = bigSep Finset.univ fun i : Fin 16 => mkPts d (tb d) (ix d) (f0 d) (coreSh c) (rowsOf (1024 * i.val) (1024 * i.val + 1024)) S := by
  have key : ∀ n : ℕ, (mkPts d (tb d) (ix d) (f0 d) (coreSh c) (rowsOf 0 (1024 * n)) S : sProp 𝕄)
      = bigSep (Finset.range n) fun i => mkPts d (tb d) (ix d) (f0 d) (coreSh c) (rowsOf (1024 * i) (1024 * i + 1024)) S := by
    intro n
    induction n with
    | zero =>
      rw [Finset.range_zero, bigSep_empty, rowsOf_empty (by omega)]
      exact BI.Region.held_empty _
    | succ n ih =>
      have h := mk_split d (tb d) (ix d) (f0 d) (coreSh c) (a := 0) (b := 1024 * n) (c := 1024 * n + 1024) (Nat.zero_le _) (by omega) S
      rw [Finset.range_add_one, SparseCore.bigSep_insert' Finset.notMem_range_self, ← ih, show 1024 * (n + 1) = 1024 * n + 1024 by omega, BI.equiv_iff.mp ⟨h.1, h.2⟩]
      exact BI.equiv_iff.mp ⟨BI.sep_comm, BI.sep_comm⟩
  rw [← rowsOf_univ, show (16384 : ℕ) = 1024 * 16 from rfl, key 16, ← Nat.Iio_eq_range, ← Fin.map_valEmbedding_univ, BI.bigSep_map]
  rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem tiles_eq (d : Dev nD) (c : Fin 2) (S : Finset S16384x128.Idx) :
    (bigSep Finset.univ fun i : Fin 16 => TileHolds tb ix f0 d c i S : sProp 𝕄)
      = iprop((bigSep Finset.univ fun i : Fin 16 => xLoc d ↦{tileSh c i} tb d) ∗ (bigSep Finset.univ fun i : Fin 16 => iLoc d ↦{tileSh c i} ix d)
          ∗ mkPts d (tb d) (ix d) (f0 d) (coreSh c) Finset.univ S) := by
  rw [mk_tiles, ← bigSep_sep', ← bigSep_sep']
  rfl

theorem vecSplit : (K (F := F)).VecSplit' (P tb ix f0) 0 := by
  intro d c
  show CoreHolds tb ix f0 d (Fin.cast nCore_zero c) ∅ ⊢ |={Set.univ}=> iprop(
      (bigSep Finset.univ fun i : Fin ((K (F := F)).nSub 0) => TileHolds tb ix f0 d (Fin.cast nCore_zero c) (Fin.cast nSub_zero i) ∅)
      ∗ ((bigSep Finset.univ fun i : Fin ((K (F := F)).nSub 0) => TileHolds tb ix f0 d (Fin.cast nCore_zero c) (Fin.cast nSub_zero i) Finset.univ)
          -∗ CoreHolds tb ix f0 d (Fin.cast nCore_zero c) Finset.univ))
  rw [bigSep_tasks (F := F) (fun i => TileHolds tb ix f0 d (Fin.cast nCore_zero c) i ∅),
    bigSep_tasks (F := F) (fun i => TileHolds tb ix f0 d (Fin.cast nCore_zero c) i Finset.univ), tiles_eq, tiles_eq]
  generalize Fin.cast nCore_zero c = c
  unfold CoreHolds
  iintro ⟨Hx, Hi, Ho⟩
  ihave Hx' := (Transfers.pointsTo_toks_split (ℓ := xLoc d) (S := Finset.univ) (f := tb d) (coreSh c) 16) $$ Hx
  ihave Hi' := (Transfers.pointsTo_toks_split (ℓ := iLoc d) (S := Finset.univ) (f := ix d) (coreSh c) 16) $$ Hi
  icases Hx' with ⟨Hxr, Hx⟩
  icases Hi' with ⟨Hir, Hi⟩
  imodintro
  isplitl [Hx Hi Ho]
  · isplitl [Hx]; · iexact Hx
    isplitl [Hi] <;> iassumption
  iintro ⟨Hx, Hi, Ho⟩
  isplitl [Hxr Hx]
  · iapply (Transfers.pointsTo_toks_join (ℓ := xLoc d) (S := Finset.univ) (f := tb d) (coreSh c) 16)
    isplitl [Hxr] <;> iassumption
  isplitl [Hir Hi]
  · iapply (Transfers.pointsTo_toks_join (ℓ := iLoc d) (S := Finset.univ) (f := ix d) (coreSh c) 16)
    isplitl [Hir] <;> iassumption
  iexact Ho

/-! ## The arrays are the cores' parts -/

theorem cores_split (d : Dev nD) (S : Finset S16384x128.Idx) :
    iprop((xLoc d ↦{fullShare} tb d) ∗ (iLoc d ↦{fullShare} ix d) ∗ mkPts d (tb d) (ix d) (f0 d) fullShare Finset.univ S)
      ⊢ (bigSep Finset.univ fun c : Fin 2 => CoreHolds tb ix f0 d c S : sProp 𝕄) := by
  rw [bigSep_two]
  unfold CoreHolds
  iintro ⟨Hx, Hi, Ho⟩
  ihave Hx' := (pointsTo_share (ℓ := xLoc d) (f := tb d) (I := Finset.univ) (PosShare.mem_left_op_right fullShare)).1 $$ Hx
  ihave Hi' := (pointsTo_share (ℓ := iLoc d) (f := ix d) (I := Finset.univ) (PosShare.mem_left_op_right fullShare)).1 $$ Hi
  ihave Ho' := (mk_share tb ix f0 d S).1 $$ Ho
  icases Hx' with ⟨Hx0, Hx1⟩
  icases Hi' with ⟨Hi0, Hi1⟩
  icases Ho' with ⟨Ho0, Ho1⟩
  isplitl [Hx0 Hi0 Ho0]
  · isplitl [Hx0]; · iexact Hx0
    isplitl [Hi0]; · iexact Hi0
    iexact Ho0
  · isplitl [Hx1]; · iexact Hx1
    isplitl [Hi1]; · iexact Hi1
    iexact Ho1

theorem cores_join (d : Dev nD) (S : Finset S16384x128.Idx) :
    (bigSep Finset.univ fun c : Fin 2 => CoreHolds tb ix f0 d c S : sProp 𝕄)
      ⊢ iprop((xLoc d ↦{fullShare} tb d) ∗ (iLoc d ↦{fullShare} ix d) ∗ mkPts d (tb d) (ix d) (f0 d) fullShare Finset.univ S) := by
  rw [bigSep_two]
  unfold CoreHolds
  iintro ⟨⟨Hx0, Hi0, Ho0⟩, ⟨Hx1, Hi1, Ho1⟩⟩
  isplitl [Hx0 Hx1]
  · iapply (pointsTo_share (ℓ := xLoc d) (f := tb d) (I := Finset.univ) (PosShare.mem_left_op_right fullShare)).2
    isplitl [Hx0]
    · iexact Hx0
    · iexact Hx1
  isplitl [Hi0 Hi1]
  · iapply (pointsTo_share (ℓ := iLoc d) (f := ix d) (I := Finset.univ) (PosShare.mem_left_op_right fullShare)).2
    isplitl [Hi0]
    · iexact Hi0
    · iexact Hi1
  iapply (mk_share tb ix f0 d S).2
  isplitl [Ho0]
  · iexact Ho0
  · iexact Ho1

end Deal

end Cert.Proof.Whole
-- ==== Proof.WholeRegion.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.WholeSetup
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

/-!
# The region of the first call

The cells of the first call's pipeline (windows, carried scratch, outputs) as the proof names them, and the points of
its grid.
-/

noncomputable section

namespace Cert.Proof.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ (UU F) ℕ

variable (m : (c : Dev nD) → (b : Ref sig .tc) → Buf (Elt F) ((c : Thread nD τ).loc b))
/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (m c (Pipeline.arrRef spec0 w))

theorem before0_0_of {c : Dev nD} (dat : Dat τ (Elt F) (HIx 1) ℕ (UU F) ℕ cfg0 c) (hA : dat.A 0 = m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) (HIx 1) ℕ (UU F) ℕ cfg0 c) (hA : dat.A 1 = m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! ## The kernel body on any staging memrefs: a subtype the run finds -/

abbrev VO0_2 : View sig .tc .vmem S512x1 .i32 := (Memref.whole cc0_stg2_0 : Memref sig .tc .vmem S512x1 .i32).view
abbrev VO0_3 : View sig .tc .vmem S1x1 .f32 := (Memref.whole cc0_stg3_0 : Memref sig .tc .vmem S1x1 .f32).view
abbrev ms0_0 (t : Fin cfg0.N) : Memref sig .tc .vmem S512x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev scM0_0 : Memref sig .tc .vmem S8192x32 .f32 := Memref.whole cc0_scratch0
abbrev scM0_1 : Memref sig .tc .vmem S1x8192 .f32 := Memref.whole cc0_scratch1
abbrev VS0_0 : View sig .tc .vmem S8192x32 .f32 := scM0_0.view
abbrev VS0_1 : View sig .tc .vmem S1x8192 .f32 := scM0_1.view

/-- Beside the windows, a step holds the two scratch buffers and the generator register. -/
def ΦR (c : Dev nD) : sProp 𝕄 :=
  iprop(Pipeline.scopedRest (Ix := HIx 1) (Name := ℕ) (U := UU F) (Lvl := ℕ) (Val := Elt F) spec0 c ∗ ∃ r, prngReg c r)
theorem PhiA0_eq (c : Dev nD) :
    (ΦR c : sProp 𝕄)
      = iprop(iprop((∃ d, owns (c : Thread nD τ) scM0_0 fullShare d) ∗ (∃ d, owns (c : Thread nD τ) scM0_1 fullShare d)) ∗ (∃ r, prngReg c r)) := by
  unfold ΦR; rw [scopedRest0_eq]; simp only [scM0_0, scM0_1, owns_whole]; try rfl

end Cert.Proof.Whole

end
-- ==== Proof.WholeFirst.lean ====
module

public import proofs.«01_k».proof.Proof.WholeRegion

@[expose] public section

set_option maxRecDepth 16384

/-!
# The first point of the grid

What the body does where the grid index is 0: it fills the two scratch arrays from the table (the doubled negatives
and the squared norms), clears the sum, and then treats its block of 512 rows.
-/

noncomputable section

namespace Cert.Proof.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ (UU F) ℕ

variable (m : (c : Dev nD) → (b : Ref sig .tc) → Buf (Elt F) ((c : Thread nD τ).loc b))

set_option maxHeartbeats 1000000 in
noncomputable def kernelRun0_A (c : Dev nD) (i : grid0.Coords) (arg1 : Memref sig .tc .vmem S512x32 .f32) (harg1 : arg1.IsWhole) (arg2 : Memref sig .tc .vmem S8192x32 .f32) (harg2 : arg2.IsWhole) (arg3 : Memref sig .tc .vmem S512x1 .i32) (harg3 : arg3.IsWhole) (arg4 : Memref sig .tc .vmem S1x1 .f32) (harg4 : arg4.IsWhole) (arg5 : Memref sig .tc .vmem S8192x32 .f32) (harg5 : arg5.IsWhole) (arg6 : Memref sig .tc .vmem S1x8192 .f32) (harg6 : arg6.IsWhole) (hc0 : cond0_0 i)
    (x0 : Vec F S512x32 .f32) (x1 : Vec F S8192x32 .f32) :
    Σ' (L2 : List (View.Piece (Elt F) S512x1 .i32)), Σ' (L3 : List (View.Piece (Elt F) S1x1 .f32)), Σ' (LS0 : List (View.Piece (Elt F) S8192x32 .f32)), { LS1 : List (View.Piece (Elt F) S1x8192 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__vq_body i arg1 harg1 arg2 harg2 arg3 harg3 arg4 harg4 arg5 harg5 arg6 harg6) K } := by
  refine ⟨?_, ?_, ?_, ?_, fun E K => ?run⟩
  case run =>
    simp only [cc0__vq_body_eq_skeleton]; unfold cc0__vq_body_skel
    simp only [k0_part1_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Proof.Whole

end
-- ==== Proof.WholeLater.lean ====
module

public import proofs.«01_k».proof.Proof.WholeFirst

@[expose] public section

set_option maxRecDepth 16384

/-!
# The later points of the grid

What the body does where the grid index is not 0: the scratch arrays keep what the first point wrote, and the sum goes
on from what the point before left.
-/

noncomputable section

namespace Cert.Proof.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ (UU F) ℕ

variable (m : (c : Dev nD) → (b : Ref sig .tc) → Buf (Elt F) ((c : Thread nD τ).loc b))

set_option maxHeartbeats 1000000 in
noncomputable def kernelRun0_B (c : Dev nD) (i : grid0.Coords) (arg1 : Memref sig .tc .vmem S512x32 .f32) (harg1 : arg1.IsWhole) (arg2 : Memref sig .tc .vmem S8192x32 .f32) (harg2 : arg2.IsWhole) (arg3 : Memref sig .tc .vmem S512x1 .i32) (harg3 : arg3.IsWhole) (arg4 : Memref sig .tc .vmem S1x1 .f32) (harg4 : arg4.IsWhole) (arg5 : Memref sig .tc .vmem S8192x32 .f32) (harg5 : arg5.IsWhole) (arg6 : Memref sig .tc .vmem S1x8192 .f32) (harg6 : arg6.IsWhole) (hc0 : ¬cond0_0 i)
    (x0 : Vec F S512x32 .f32) (x1 : Vec F S8192x32 .f32) (xo3 : Vec F S1x1 .f32) (xs0 : Vec F S8192x32 .f32) (xs1 : Vec F S1x8192 .f32) :
    Σ' (L2 : List (View.Piece (Elt F) S512x1 .i32)), Σ' (L3 : List (View.Piece (Elt F) S1x1 .f32)), Σ' (LS0 : List (View.Piece (Elt F) S8192x32 .f32)), { LS1 : List (View.Piece (Elt F) S1x8192 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xs0 ∗ owns (c : Thread nD τ) arg6 fullShare xs1) -∗ K ⟨⟩))
          ⊢ wp frame (wpE (defs₀ (F := F)) Variants.none c none) E (cc0__vq_body i arg1 harg1 arg2 harg2 arg3 harg3 arg4 harg4 arg5 harg5 arg6 harg6) K } := by
  refine ⟨?_, ?_, [], [], fun E K => ?run⟩
  case run =>
    simp only [cc0__vq_body_eq_skeleton]; unfold cc0__vq_body_skel
    simp only [k0_part1_eq_skeleton]
    unfold owns
    iintro ⟨⟨%f0, %hf0, H0⟩, ⟨%f1, %hf1, H1⟩, ⟨%d2, %f2, -, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg4.eq_unread hf3; obtain rfl := harg5.eq_unread hfs0; obtain rfl := harg6.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]
    · iexists _; isplitr; · ipureintro; exact harg5.read_unread _
      iexact HS0
    iexists _; isplitr; · ipureintro; exact harg6.read_unread _
    iexact HS1

end Cert.Proof.Whole

end
-- ==== Proof.WholeBody.lean ====
module

public import proofs.«01_k».proof.Proof.WholeLater
public import Idealize.ShloMosaic.Lib.Claim

@[expose] public section

set_option maxRecDepth 16384

/-!
# The body at every point

The two cases put together: at each point of the grid the body takes the carried state to the next one.
-/

noncomputable section

namespace Cert.Proof.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ (UU F) ℕ

variable (m : (c : Dev nD) → (b : Ref sig .tc) → Buf (Elt F) ((c : Thread nD τ).loc b))
theorem cover0_A_2 (c : Dev nD) (i : grid0.Coords) (arg1 : Memref sig .tc .vmem S512x32 .f32) (harg1 : arg1.IsWhole) (arg2 : Memref sig .tc .vmem S8192x32 .f32) (harg2 : arg2.IsWhole) (arg3 : Memref sig .tc .vmem S512x1 .i32) (harg3 : arg3.IsWhole) (arg4 : Memref sig .tc .vmem S1x1 .f32) (harg4 : arg4.IsWhole) (arg5 : Memref sig .tc .vmem S8192x32 .f32) (harg5 : arg5.IsWhole) (arg6 : Memref sig .tc .vmem S1x8192 .f32) (harg6 : arg6.IsWhole) (hc0 : cond0_0 i)
    (x0 : Vec F S512x32 .f32) (x1 : Vec F S8192x32 .f32) (y : S512x1.Idx) :
    ∃ pc ∈ (kernelRun0_A c i arg1 harg1 arg2 harg2 arg3 harg3 arg4 harg4 arg5 harg5 arg6 harg6 hc0 x0 x1).1, y ∈ pc.1.set :=
  View.cover_of_tiledL (kernelRun0_A c i arg1 harg1 arg2 harg2 arg3 harg3 arg4 harg4 arg5 harg5 arg6 harg6 hc0 x0 x1).1 S512x1.size (by sl_kernel_rfl) y

def out0_A_2 (c : Dev nD) (i : grid0.Coords) (arg1 : Memref sig .tc .vmem S512x32 .f32) (harg1 : arg1.IsWhole) (arg2 : Memref sig .tc .vmem S8192x32 .f32) (harg2 : arg2.IsWhole) (arg3 : Memref sig .tc .vmem S512x1 .i32) (harg3 : arg3.IsWhole) (arg4 : Memref sig .tc .vmem S1x1 .f32) (harg4 : arg4.IsWhole) (arg5 : Memref sig .tc .vmem S8192x32 .f32) (harg5 : arg5.IsWhole) (arg6 : Memref sig .tc .vmem S1x8192 .f32) (harg6 : arg6.IsWhole) (hc0 : cond0_0 i)
    (x0 : Vec F S512x32 .f32) (x1 : Vec F S8192x32 .f32) : Vec F S512x1 .i32 :=
  VO0_2.read (Elt F) (VO0_2.writes (Elt F) VO0_2.junk (kernelRun0_A c i arg1 harg1 arg2 harg2 arg3 harg3 arg4 harg4 arg5 harg5 arg6 harg6 hc0 x0 x1).1)

theorem cover0_A_3 (c : Dev nD) (i : grid0.Coords) (arg1 : Memref sig .tc .vmem S512x32 .f32) (harg1 : arg1.IsWhole) (arg2 : Memref sig .tc .vmem S8192x32 .f32) (harg2 : arg2.IsWhole) (arg3 : Memref sig .tc .vmem S512x1 .i32) (harg3 : arg3.IsWhole) (arg4 : Memref sig .tc .vmem S1x1 .f32) (harg4 : arg4.IsWhole) (arg5 : Memref sig .tc .vmem S8192x32 .f32) (harg5 : arg5.IsWhole) (arg6 : Memref sig .tc .vmem S1x8192 .f32) (harg6 : arg6.IsWhole) (hc0 : cond0_0 i)
    (x0 : Vec F S512x32 .f32) (x1 : Vec F S8192x32 .f32) (y : S1x1.Idx) :
    ∃ pc ∈ (kernelRun0_A c i arg1 harg1 arg2 harg2 arg3 harg3 arg4 harg4 arg5 harg5 arg6 harg6 hc0 x0 x1).2.1, y ∈ pc.1.set :=
  View.cover_of_tiledL (kernelRun0_A c i arg1 harg1 arg2 harg2 arg3 harg3 arg4 harg4 arg5 harg5 arg6 harg6 hc0 x0 x1).2.1 S1x1.size (by sl_kernel_rfl) y

def out0_A_3 (c : Dev nD) (i : grid0.Coords) (arg1 : Memref sig .tc .vmem S512x32 .f32) (harg1 : arg1.IsWhole) (arg2 : Memref sig .tc .vmem S8192x32 .f32) (harg2 : arg2.IsWhole) (arg3 : Memref sig .tc .vmem S512x1 .i32) (harg3 : arg3.IsWhole) (arg4 : Memref sig .tc .vmem S1x1 .f32) (harg4 : arg4.IsWhole) (arg5 : Memref sig .tc .vmem S8192x32 .f32) (harg5 : arg5.IsWhole) (arg6 : Memref sig .tc .vmem S1x8192 .f32) (harg6 : arg6.IsWhole) (hc0 : cond0_0 i)
    (x0 : Vec F S512x32 .f32) (x1 : Vec F S8192x32 .f32) : Vec F S1x1 .f32 :=
  VO0_3.read (Elt F) (VO0_3.writes (Elt F) VO0_3.junk (kernelRun0_A c i arg1 harg1 arg2 harg2 arg3 harg3 arg4 harg4 arg5 harg5 arg6 harg6 hc0 x0 x1).2.1)

theorem scover0_A_0 (c : Dev nD) (i : grid0.Coords) (arg1 : Memref sig .tc .vmem S512x32 .f32) (harg1 : arg1.IsWhole) (arg2 : Memref sig .tc .vmem S8192x32 .f32) (harg2 : arg2.IsWhole) (arg3 : Memref sig .tc .vmem S512x1 .i32) (harg3 : arg3.IsWhole) (arg4 : Memref sig .tc .vmem S1x1 .f32) (harg4 : arg4.IsWhole) (arg5 : Memref sig .tc .vmem S8192x32 .f32) (harg5 : arg5.IsWhole) (arg6 : Memref sig .tc .vmem S1x8192 .f32) (harg6 : arg6.IsWhole) (hc0 : cond0_0 i)
    (x0 : Vec F S512x32 .f32) (x1 : Vec F S8192x32 .f32) (y : S8192x32.Idx) :
    ∃ pc ∈ (kernelRun0_A c i arg1 harg1 arg2 harg2 arg3 harg3 arg4 harg4 arg5 harg5 arg6 harg6 hc0 x0 x1).2.2.1, y ∈ pc.1.set :=
  View.cover_of_tiledL (kernelRun0_A c i arg1 harg1 arg2 harg2 arg3 harg3 arg4 harg4 arg5 harg5 arg6 harg6 hc0 x0 x1).2.2.1 S8192x32.size (by sl_kernel_rfl) y

def sout0_A_0 (c : Dev nD) (i : grid0.Coords) (arg1 : Memref sig .tc .vmem S512x32 .f32) (harg1 : arg1.IsWhole) (arg2 : Memref sig .tc .vmem S8192x32 .f32) (harg2 : arg2.IsWhole) (arg3 : Memref sig .tc .vmem S512x1 .i32) (harg3 : arg3.IsWhole) (arg4 : Memref sig .tc .vmem S1x1 .f32) (harg4 : arg4.IsWhole) (arg5 : Memref sig .tc .vmem S8192x32 .f32) (harg5 : arg5.IsWhole) (arg6 : Memref sig .tc .vmem S1x8192 .f32) (harg6 : arg6.IsWhole) (hc0 : cond0_0 i)
    (x0 : Vec F S512x32 .f32) (x1 : Vec F S8192x32 .f32) : Vec F S8192x32 .f32 :=
  VS0_0.read (Elt F) (VS0_0.writes (Elt F) VS0_0.junk (kernelRun0_A c i arg1 harg1 arg2 harg2 arg3 harg3 arg4 harg4 arg5 harg5 arg6 harg6 hc0 x0 x1).2.2.1)

theorem scover0_A_1 (c : Dev nD) (i : grid0.Coords) (arg1 : Memref sig .tc .vmem S512x32 .f32) (harg1 : arg1.IsWhole) (arg2 : Memref sig .tc .vmem S8192x32 .f32) (harg2 : arg2.IsWhole) (arg3 : Memref sig .tc .vmem S512x1 .i32) (harg3 : arg3.IsWhole) (arg4 : Memref sig .tc .vmem S1x1 .f32) (harg4 : arg4.IsWhole) (arg5 : Memref sig .tc .vmem S8192x32 .f32) (harg5 : arg5.IsWhole) (arg6 : Memref sig .tc .vmem S1x8192 .f32) (harg6 : arg6.IsWhole) (hc0 : cond0_0 i)
    (x0 : Vec F S512x32 .f32) (x1 : Vec F S8192x32 .f32) (y : S1x8192.Idx) :
    ∃ pc ∈ (kernelRun0_A c i arg1 harg1 arg2 harg2 arg3 harg3 arg4 harg4 arg5 harg5 arg6 harg6 hc0 x0 x1).2.2.2.1, y ∈ pc.1.set :=
  View.cover_of_tiledL (kernelRun0_A c i arg1 harg1 arg2 harg2 arg3 harg3 arg4 harg4 arg5 harg5 arg6 harg6 hc0 x0 x1).2.2.2.1 S1x8192.size (by sl_kernel_rfl) y

def sout0_A_1 (c : Dev nD) (i : grid0.Coords) (arg1 : Memref sig .tc .vmem S512x32 .f32) (harg1 : arg1.IsWhole) (arg2 : Memref sig .tc .vmem S8192x32 .f32) (harg2 : arg2.IsWhole) (arg3 : Memref sig .tc .vmem S512x1 .i32) (harg3 : arg3.IsWhole) (arg4 : Memref sig .tc .vmem S1x1 .f32) (harg4 : arg4.IsWhole) (arg5 : Memref sig .tc .vmem S8192x32 .f32) (harg5 : arg5.IsWhole) (arg6 : Memref sig .tc .vmem S1x8192 .f32) (harg6 : arg6.IsWhole) (hc0 : cond0_0 i)
    (x0 : Vec F S512x32 .f32) (x1 : Vec F S8192x32 .f32) : Vec F S1x8192 .f32 :=
  VS0_1.read (Elt F) (VS0_1.writes (Elt F) VS0_1.junk (kernelRun0_A c i arg1 harg1 arg2 harg2 arg3 harg3 arg4 harg4 arg5 harg5 arg6 harg6 hc0 x0 x1).2.2.2.1)

theorem cover0_B_2 (c : Dev nD) (i : grid0.Coords) (arg1 : Memref sig .tc .vmem S512x32 .f32) (harg1 : arg1.IsWhole) (arg2 : Memref sig .tc .vmem S8192x32 .f32) (harg2 : arg2.IsWhole) (arg3 : Memref sig .tc .vmem S512x1 .i32) (harg3 : arg3.IsWhole) (arg4 : Memref sig .tc .vmem S1x1 .f32) (harg4 : arg4.IsWhole) (arg5 : Memref sig .tc .vmem S8192x32 .f32) (harg5 : arg5.IsWhole) (arg6 : Memref sig .tc .vmem S1x8192 .f32) (harg6 : arg6.IsWhole) (hc0 : ¬cond0_0 i)
    (x0 : Vec F S512x32 .f32) (x1 : Vec F S8192x32 .f32) (xo3 : Vec F S1x1 .f32) (xs0 : Vec F S8192x32 .f32) (xs1 : Vec F S1x8192 .f32) (y : S512x1.Idx) :
    ∃ pc ∈ (kernelRun0_B c i arg1 harg1 arg2 harg2 arg3 harg3 arg4 harg4 arg5 harg5 arg6 harg6 hc0 x0 x1 xo3 xs0 xs1).1, y ∈ pc.1.set :=
  View.cover_of_tiledL (kernelRun0_B c i arg1 harg1 arg2 harg2 arg3 harg3 arg4 harg4 arg5 harg5 arg6 harg6 hc0 x0 x1 xo3 xs0 xs1).1 S512x1.size (by sl_kernel_rfl) y

def out0_B_2 (c : Dev nD) (i : grid0.Coords) (arg1 : Memref sig .tc .vmem S512x32 .f32) (harg1 : arg1.IsWhole) (arg2 : Memref sig .tc .vmem S8192x32 .f32) (harg2 : arg2.IsWhole) (arg3 : Memref sig .tc .vmem S512x1 .i32) (harg3 : arg3.IsWhole) (arg4 : Memref sig .tc .vmem S1x1 .f32) (harg4 : arg4.IsWhole) (arg5 : Memref sig .tc .vmem S8192x32 .f32) (harg5 : arg5.IsWhole) (arg6 : Memref sig .tc .vmem S1x8192 .f32) (harg6 : arg6.IsWhole) (hc0 : ¬cond0_0 i)
    (x0 : Vec F S512x32 .f32) (x1 : Vec F S8192x32 .f32) (xo3 : Vec F S1x1 .f32) (xs0 : Vec F S8192x32 .f32) (xs1 : Vec F S1x8192 .f32) : Vec F S512x1 .i32 :=
  VO0_2.read (Elt F) (VO0_2.writes (Elt F) VO0_2.junk (kernelRun0_B c i arg1 harg1 arg2 harg2 arg3 harg3 arg4 harg4 arg5 harg5 arg6 harg6 hc0 x0 x1 xo3 xs0 xs1).1)

theorem cover0_B_3 (c : Dev nD) (i : grid0.Coords) (arg1 : Memref sig .tc .vmem S512x32 .f32) (harg1 : arg1.IsWhole) (arg2 : Memref sig .tc .vmem S8192x32 .f32) (harg2 : arg2.IsWhole) (arg3 : Memref sig .tc .vmem S512x1 .i32) (harg3 : arg3.IsWhole) (arg4 : Memref sig .tc .vmem S1x1 .f32) (harg4 : arg4.IsWhole) (arg5 : Memref sig .tc .vmem S8192x32 .f32) (harg5 : arg5.IsWhole) (arg6 : Memref sig .tc .vmem S1x8192 .f32) (harg6 : arg6.IsWhole) (hc0 : ¬cond0_0 i)
    (x0 : Vec F S512x32 .f32) (x1 : Vec F S8192x32 .f32) (xo3 : Vec F S1x1 .f32) (xs0 : Vec F S8192x32 .f32) (xs1 : Vec F S1x8192 .f32) (y : S1x1.Idx) :
    ∃ pc ∈ (kernelRun0_B c i arg1 harg1 arg2 harg2 arg3 harg3 arg4 harg4 arg5 harg5 arg6 harg6 hc0 x0 x1 xo3 xs0 xs1).2.1, y ∈ pc.1.set :=
  View.cover_of_tiledL (kernelRun0_B c i arg1 harg1 arg2 harg2 arg3 harg3 arg4 harg4 arg5 harg5 arg6 harg6 hc0 x0 x1 xo3 xs0 xs1).2.1 S1x1.size (by sl_kernel_rfl) y

def out0_B_3 (c : Dev nD) (i : grid0.Coords) (arg1 : Memref sig .tc .vmem S512x32 .f32) (harg1 : arg1.IsWhole) (arg2 : Memref sig .tc .vmem S8192x32 .f32) (harg2 : arg2.IsWhole) (arg3 : Memref sig .tc .vmem S512x1 .i32) (harg3 : arg3.IsWhole) (arg4 : Memref sig .tc .vmem S1x1 .f32) (harg4 : arg4.IsWhole) (arg5 : Memref sig .tc .vmem S8192x32 .f32) (harg5 : arg5.IsWhole) (arg6 : Memref sig .tc .vmem S1x8192 .f32) (harg6 : arg6.IsWhole) (hc0 : ¬cond0_0 i)
    (x0 : Vec F S512x32 .f32) (x1 : Vec F S8192x32 .f32) (xo3 : Vec F S1x1 .f32) (xs0 : Vec F S8192x32 .f32) (xs1 : Vec F S1x8192 .f32) : Vec F S1x1 .f32 :=
  VO0_3.read (Elt F) (VO0_3.writes (Elt F) VO0_3.junk (kernelRun0_B c i arg1 harg1 arg2 harg2 arg3 harg3 arg4 harg4 arg5 harg5 arg6 harg6 hc0 x0 x1 xo3 xs0 xs1).2.1)

def sout0_B_0 (c : Dev nD) (i : grid0.Coords) (arg1 : Memref sig .tc .vmem S512x32 .f32) (harg1 : arg1.IsWhole) (arg2 : Memref sig .tc .vmem S8192x32 .f32) (harg2 : arg2.IsWhole) (arg3 : Memref sig .tc .vmem S512x1 .i32) (harg3 : arg3.IsWhole) (arg4 : Memref sig .tc .vmem S1x1 .f32) (harg4 : arg4.IsWhole) (arg5 : Memref sig .tc .vmem S8192x32 .f32) (harg5 : arg5.IsWhole) (arg6 : Memref sig .tc .vmem S1x8192 .f32) (harg6 : arg6.IsWhole) (hc0 : ¬cond0_0 i)
    (x0 : Vec F S512x32 .f32) (x1 : Vec F S8192x32 .f32) (xo3 : Vec F S1x1 .f32) (xs0 : Vec F S8192x32 .f32) (xs1 : Vec F S1x8192 .f32) : Vec F S8192x32 .f32 := xs0

def sout0_B_1 (c : Dev nD) (i : grid0.Coords) (arg1 : Memref sig .tc .vmem S512x32 .f32) (harg1 : arg1.IsWhole) (arg2 : Memref sig .tc .vmem S8192x32 .f32) (harg2 : arg2.IsWhole) (arg3 : Memref sig .tc .vmem S512x1 .i32) (harg3 : arg3.IsWhole) (arg4 : Memref sig .tc .vmem S1x1 .f32) (harg4 : arg4.IsWhole) (arg5 : Memref sig .tc .vmem S8192x32 .f32) (harg5 : arg5.IsWhole) (arg6 : Memref sig .tc .vmem S1x8192 .f32) (harg6 : arg6.IsWhole) (hc0 : ¬cond0_0 i)
    (x0 : Vec F S512x32 .f32) (x1 : Vec F S8192x32 .f32) (xo3 : Vec F S1x1 .f32) (xs0 : Vec F S8192x32 .f32) (xs1 : Vec F S1x8192 .f32) : Vec F S1x8192 .f32 := xs1

/-! ## What the outputs hold after each point -/

def outsAt0 (c : Dev nD) : (n : ℕ) → n < cfg0.N → Vec F S512x1 .i32 × Vec F S1x1 .f32 × Vec F S8192x32 .f32 × Vec F S1x8192 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩))
  | n + 1, hn =>
    if h0 : (n + 1) % 32 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 32 = 0) :
    outsAt0 m c t.val t.isLt = (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t)) := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => ΦR c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = ΦR c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

def dats (_ : Fin 1) (c : Dev nD) : Dat τ (Elt F) (HIx 1) ℕ (UU F) ℕ cfg0 c where
  A w := m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := (K (F := F)).Otc c 0
  recorded _ := {p | (K (F := F)).lev ((c : Thread nD τ), p.1) p.2 ≤ 0}

theorem A_eq (c : Dev nD) (w : Fin cfg0.W) : (dats m 0 c).A w = m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_3_B (c : Dev nD) (t : Fin cfg0.N) (h0 : ¬t.val % 32 = 0) (d) :
    (dats m 0 c).before 3 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt none t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt none t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt none t.succ = (dats m 0 c).owesAt none t.castSucc from rfl,
    after0_0, after0_1, after0_2, after0_3]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold out0_A_2 out0_A_3 sout0_A_0 sout0_A_1; (try dsimp only)
      iintro ⟨⟨⟨HS0, HS1⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (iblk m c 0 t) (iblk m c 1 t)).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _)
      unfold owns; iexists _; isplitr
      swap; · iexact H3
      ipureintro; exact View.read_writes_of_cover _ _ _ _ _ (cover0_A_3 c _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_3_B m c t h0]
      unfold out0_B_2 out0_B_3 sout0_B_0 sout0_B_1; (try dsimp only)
      iintro ⟨⟨⟨HS0, HS1⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (iblk m c 0 t) (iblk m c 1 t) _ _ _).2.2.2.2 Set.univ _)
      isplitl [H0]; · iexact H0
      isplitl [H1]; · iexact H1
      isplitl [H2]; · iexists _; iexact H2
      isplitl [H3]; · iexact H3
      isplitl [HS0]; · iexact HS0
      isplitl [HS1]; · iexact HS1
      iintro ⟨H0, H1, ⟨%e2, H2⟩, ⟨%e3, H3⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _)
      unfold owns; iexists _; isplitr
      swap; · iexact H3
      ipureintro; exact View.read_writes_of_cover _ _ _ _ _ (cover0_B_3 c _ _ _ _ _ _ _ _ _ _ _ _ _ _ _ _ _ _ _)

theorem defs₀_row (t : Fin cfg0.N) :
    defs₀ (F := F) .tc cfg0.body (cfg0.bodyArgs t (cfg0.slots t)) = bodyAt0 t := by
  rfl

theorem body_obligation (c : Dev nD) : BodyObligation (dats (F := F) m 0 c) (defs₀ (F := F)) Variants.none none Set.univ := fun t => by
  rw [bigSep_W0, bigSep_W0, defs₀_row]
  exact triple_restated (sound_body m c t) rfl .rfl fun _ => .rfl

theorem hin (c : Dev nD) : ΦR c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ ΦR c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ ΦR c :=
  Phi_out m c _ (by rw [Fin.val_last]; have : cfg0.N = 32 := N_0; omega)

end Cert.Proof.Whole
-- ==== Proof.WholeSweep.lean ====
module

public import proofs.«01_k».proof.Proof.WholeBody
public import Idealize.ShloMosaic.Lib.Pipeline.Value

@[expose] public section

/-!
# The whole grid

The state that each point hands to the next as one fold from the first point, and what the two output arrays hold
after the last.
-/

noncomputable section

namespace Cert.Proof.Whole

open Cert.KernelIdeal Cert.KernelIdeal.Gen

open Idealize.ShloMosaic Idealize.ShloMosaic.TcCoe Idealize.SL.Sem
open Idealize.ShloMosaic.Pipeline (Dat)
open Idealize.ShloMosaic.SparseCore.Cfg (HIx)

variable {F : FTy → Type} [FloatOps F]
variable (m : (c : Dev nD) → (b : Ref sig .tc) → Buf (Elt F) ((c : Thread nD τ).loc b))

/-! ## Blockwise: what each point writes back, and the final array block by block -/

/-! ## The carried state as one fold: the named outputs and the carried scratch, from the first point -/

def junk0 : Vec F S512x1 .i32 × Vec F S1x1 .f32 × Vec F S8192x32 .f32 × Vec F S1x8192 .f32 :=
  ((VO0_2.read (Elt F) VO0_2.junk, VO0_3.read (Elt F) VO0_3.junk, VS0_0.read (Elt F) VS0_0.junk, VS0_1.read (Elt F) VS0_1.junk) : Vec F S512x1 .i32 × Vec F S1x1 .f32 × Vec F S8192x32 .f32 × Vec F S1x8192 .f32)

def stAt0 (c : Dev nD) (n : ℕ) (hb : n < cfg0.N) (acc : Vec F S512x1 .i32 × Vec F S1x1 .f32 × Vec F S8192x32 .f32 × Vec F S1x8192 .f32) : Vec F S512x1 .i32 × Vec F S1x1 .f32 × Vec F S8192x32 .f32 × Vec F S1x8192 .f32 :=
  if h0 : n % 32 = 0 then
    (out0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)), out0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)))
  else
    (out0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc.2.1 acc.2.2.1 acc.2.2.2, out0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc.2.1 acc.2.2.1 acc.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc.2.1 acc.2.2.1 acc.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc.2.1 acc.2.2.1 acc.2.2.2)

theorem stAt0_A (c : Dev nD) (t : Fin cfg0.N) (acc : Vec F S512x1 .i32 × Vec F S1x1 .f32 × Vec F S8192x32 .f32 × Vec F S1x8192 .f32) (h0 : t.val % 32 = 0) :
    stAt0 m c t.val t.isLt acc = (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t)) :=
  (dif_pos h0).trans rfl

theorem stAt0_B (c : Dev nD) (t : Fin cfg0.N) (acc : Vec F S512x1 .i32 × Vec F S1x1 .f32 × Vec F S8192x32 .f32 × Vec F S1x8192 .f32) (h0 : ¬t.val % 32 = 0) :
    stAt0 m c t.val t.isLt acc = (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) acc.2.1 acc.2.2.1 acc.2.2.2, out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) acc.2.1 acc.2.2.1 acc.2.2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) acc.2.1 acc.2.2.1 acc.2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) acc.2.1 acc.2.2.1 acc.2.2.2) :=
  (dif_neg h0).trans rfl

theorem outsAt0_succ (c : Dev nD) (n : ℕ) (hn : n + 1 < cfg0.N) :
    outsAt0 m c (n + 1) hn = stAt0 m c (n + 1) hn (outsAt0 m c n (Nat.lt_of_succ_lt hn)) := rfl

theorem outsAt0_zero (c : Dev nD) (hn : 0 < cfg0.N) : outsAt0 m c 0 hn = stAt0 m c 0 hn junk0 := by
  rw [stAt0_A m c ⟨0, hn⟩ _ (Nat.zero_mod _)]
  rfl

theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 32 from N_0)
  have e := Pipeline.eq_accAt_of_mod (fun n h => outsAt0 m c n h) 32 (fun n h => stAt0 m c n h junk0) (stAt0 m c)
    (fun n h _ => by
      have hN := lt_of_lt_of_eq h (show cfg0.N = 32 from N_0)
      obtain rfl : n = 0 := by omega
      exact outsAt0_zero m c h)
    (fun n h _ => outsAt0_succ m c n h)
    (by decide) n hn (by have := Nat.div_add_mod n 32; omega)
  have hd : n / 32 = 0 := Nat.div_eq_of_lt hN
  have hm : n % 32 = n := Nat.mod_eq_of_lt hN
  simpa only [hd, hm, Nat.mul_zero] using e

/-! ## Accumulated: each named output's array, the carried state's fold read at the window's flushing points -/

theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 2 -/

abbrev run2Of (i : S16384x1.Idx) : ℕ := 1 * ((i 0).val / 512 - 0) + 1 * ((i 1).val / 1 - 0)
set_option backward.proofsInPublic true in
abbrev loc2Of (i : S16384x1.Idx) : S512x1.Idx := fun a => match a with
  | ⟨0, _⟩ => ⟨(i 0).val % 512, Nat.mod_lt _ (by decide)⟩
  | ⟨1, _⟩ => ⟨(i 1).val % 1, Nat.mod_lt _ (by decide)⟩
abbrev pt2Of (i : S16384x1.Idx) : ℕ := run2Of i

def G2 (c : Dev nD) : Buf (Elt F) ((c : Thread nD τ).loc main_v1_0) := fun i =>
  if h : pt2Of i < cfg0.N then
    (Pipeline.accAt (fun n h => stAt0 m c n h junk0) (stAt0 m c) 0 (pt2Of i) (by omega)).1 (loc2Of i)
  else m c (Pipeline.arrRef spec0 2) i

theorem idx_facts2 : ∀ t : Fin cfg0.N, 0 ≤ win0_2.index t (0 : Fin 2) ∧ win0_2.index t (0 : Fin 2) ≤ 31
    ∧ 0 ≤ win0_2.index t (1 : Fin 2) ∧ win0_2.index t (1 : Fin 2) ≤ 0
    ∧ 1 * (win0_2.index t (0 : Fin 2) - 0) + 1 * (win0_2.index t (1 : Fin 2) - 0) = t.val :=
  (by decide +kernel : ∀ t : Fin grid0.N, _)

abbrev onto2Pt (q0 : Fin 32) (q1 : Fin 1) : Fin grid0.N :=
  ⟨1 * q0.val + 1 * q1.val, lt_of_lt_of_eq (by omega) N_0.symm⟩
theorem idx_onto2 : ∀ (q0 : Fin 32) (q1 : Fin 1), ∃ t : Fin cfg0.N, (cfg0.win 2).flush t = true ∧ win0_2.index t = ![q0.val + 0, q1.val + 0] :=
  fun q0 q1 => ⟨onto2Pt q0 q1, (by decide +kernel : ∀ (q0 : Fin 32) (q1 : Fin 1), win0_2.flush (onto2Pt q0 q1) = true ∧ win0_2.index (onto2Pt q0 q1) = ![q0.val + 0, q1.val + 0]) q0 q1⟩

theorem flushed2_eq (c : Dev nD) (t : Fin cfg0.N) (hf : (cfg0.win 2).flush t = true) :
    (dats m 0 c).flushed 2 t = ((cfg0.win 2).blk t).view.read (Elt F) (G2 m c) := by
  show (cfg0.win 2).cut (grid0.coords t) ((dats m 0 c).after 2 t) = _
  rw [after0_2, outsAt0_sweep]
  obtain ⟨e0, e1, e2⟩ := idx_facts2 t
  funext y
  have hy0 : (y 0).val < 512 := (y 0).isLt
  have hy1 : (y 1).val < 1 := (y 1).isLt
  have hb0 : (((cfg0.win 2).blk t).view.emb y 0).val = win0_2.index t (0 : Fin 2) * 512 + 1 * (y 0).val := rfl
  have hb1 : (((cfg0.win 2).blk t).view.emb y 1).val = win0_2.index t (1 : Fin 2) * 1 + 1 * (y 1).val := rfl
  have hr : run2Of (((cfg0.win 2).blk t).view.emb y) = t.val := by
    show 1 * ((((cfg0.win 2).blk t).view.emb y 0).val / 512 - 0) + 1 * ((((cfg0.win 2).blk t).view.emb y 1).val / 1 - 0) = _
    rw [hb0, hb1]
    rw [show (win0_2.index t (0 : Fin 2) * 512 + 1 * (y 0).val) / 512 = win0_2.index t (0 : Fin 2) from by omega]; rw [show (win0_2.index t (1 : Fin 2) * 1 + 1 * (y 1).val) / 1 = win0_2.index t (1 : Fin 2) from by omega]
    omega
  have hl : loc2Of (((cfg0.win 2).blk t).view.emb y) = (cfg0.win 2).xinj (grid0.coords t) y := by
    funext a; apply Fin.ext
    match a with
    | ⟨0, _⟩ => show (((cfg0.win 2).blk t).view.emb y 0).val % 512 = (y 0).val; rw [hb0]; omega
    | ⟨1, _⟩ => show (((cfg0.win 2).blk t).view.emb y 1).val % 1 = (y 1).val; rw [hb1]; omega
  have hp : pt2Of (((cfg0.win 2).blk t).view.emb y) = t.val := by
    exact hr
  show (Pipeline.accAt (fun n h => stAt0 m c n h junk0) (stAt0 m c) 0 t.val _).1 ((cfg0.win 2).xinj (grid0.coords t) y) = G2 m c (((cfg0.win 2).blk t).view.emb y)
  unfold G2
  rw [dif_pos (by rw [hp]; exact t.isLt), hl, fold0_congr m c _ _ _ _ hp.symm]

theorem mem_blk2 (t : Fin cfg0.N) (i : S16384x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v1_0).slice (win0_2.rect t)).set ↔ _
  rw [View.set_slice_whole, Rect.mem_set_unit]
  exact Iff.rfl

theorem covered_iff2 (i : S16384x1.Idx) :
    (∃ t : Fin cfg0.N, (cfg0.win 2).flush t = true ∧ i ∈ ((cfg0.win 2).blk t).view.set) ↔ 0 ≤ (i 0).val ∧ (i 0).val < 16384 ∧ 0 ≤ (i 1).val ∧ (i 1).val < 1 := by
  constructor
  · rintro ⟨t, -, hi⟩
    rw [mem_blk2] at hi
    have b0 : win0_2.index t (0 : Fin 2) * 512 ≤ (i 0).val ∧ (i 0).val < win0_2.index t (0 : Fin 2) * 512 + 512 := hi 0
    have b1 : win0_2.index t (1 : Fin 2) * 1 ≤ (i 1).val ∧ (i 1).val < win0_2.index t (1 : Fin 2) * 1 + 1 := hi 1
    obtain ⟨e0, e1, e2⟩ := idx_facts2 t
    omega
  · intro h
    have hi0 : (i 0).val < 16384 := (i 0).isLt
    have hi1 : (i 1).val < 1 := (i 1).isLt
    obtain ⟨t, hft, ht⟩ := idx_onto2 ⟨(i 0).val / 512 - 0, by omega⟩ ⟨(i 1).val / 1 - 0, by omega⟩
    have q0 : win0_2.index t (0 : Fin 2) = (i 0).val / 512 - 0 + 0 := congrFun ht 0
    have q1 : win0_2.index t (1 : Fin 2) = (i 1).val / 1 - 0 + 0 := congrFun ht 1
    refine ⟨t, hft, ?_⟩
    rw [mem_blk2]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 1 ≤ (i 1).val ∧ (i 1).val < win0_2.index t (1 : Fin 2) * 1 + 1; omega

theorem final2 (c : Dev nD) : (dats m 0 c).arrAt 2 cfg0.N = G2 m c :=
  (dats m 0 c).arrAt_eq_of_cover 2 _ (fun t hf => flushed2_eq m c t hf) (fun i => (covered_iff2 i).2 (by
    have h0 : (i 0).val < 16384 := (i 0).isLt; have h1 : (i 1).val < 1 := (i 1).isLt; omega))

/-! ## Output window 3 -/

abbrev run3Of (i : S1x1.Idx) : ℕ := 1 * ((i 0).val / 1 - 0) + 1 * ((i 1).val / 1 - 0)
set_option backward.proofsInPublic true in
abbrev loc3Of (i : S1x1.Idx) : S1x1.Idx := fun a => match a with
  | ⟨0, _⟩ => ⟨(i 0).val % 1, Nat.mod_lt _ (by decide)⟩
  | ⟨1, _⟩ => ⟨(i 1).val % 1, Nat.mod_lt _ (by decide)⟩
abbrev pt3Of (i : S1x1.Idx) : ℕ := 32 * run3Of i + 31

def G3 (c : Dev nD) : Buf (Elt F) ((c : Thread nD τ).loc main_v1_1) := fun i =>
  if h : pt3Of i < cfg0.N then
    (Pipeline.accAt (fun n h => stAt0 m c n h junk0) (stAt0 m c) 0 (pt3Of i) (by omega)).2.1 (loc3Of i)
  else m c (Pipeline.arrRef spec0 3) i

theorem idx_facts3 : ∀ t : Fin cfg0.N, 0 ≤ win0_3.index t (0 : Fin 2) ∧ win0_3.index t (0 : Fin 2) ≤ 0
    ∧ 0 ≤ win0_3.index t (1 : Fin 2) ∧ win0_3.index t (1 : Fin 2) ≤ 0
    ∧ 1 * (win0_3.index t (0 : Fin 2) - 0) + 1 * (win0_3.index t (1 : Fin 2) - 0) = t.val / 32 :=
  (by decide +kernel : ∀ t : Fin grid0.N, _)

abbrev onto3Pt (q0 : Fin 1) (q1 : Fin 1) : Fin grid0.N :=
  ⟨32 * (1 * q0.val + 1 * q1.val) + 31, lt_of_lt_of_eq (by omega) N_0.symm⟩
theorem idx_onto3 : ∀ (q0 : Fin 1) (q1 : Fin 1), ∃ t : Fin cfg0.N, (cfg0.win 3).flush t = true ∧ win0_3.index t = ![q0.val + 0, q1.val + 0] :=
  fun q0 q1 => ⟨onto3Pt q0 q1, (by decide +kernel : ∀ (q0 : Fin 1) (q1 : Fin 1), win0_3.flush (onto3Pt q0 q1) = true ∧ win0_3.index (onto3Pt q0 q1) = ![q0.val + 0, q1.val + 0]) q0 q1⟩

theorem flushed3_eq (c : Dev nD) (t : Fin cfg0.N) (hf : (cfg0.win 3).flush t = true) :
    (dats m 0 c).flushed 3 t = ((cfg0.win 3).blk t).view.read (Elt F) (G3 m c) := by
  show (cfg0.win 3).cut (grid0.coords t) ((dats m 0 c).after 3 t) = _
  rw [after0_3, outsAt0_sweep]
  have hm : t.val % 32 = 31 := (flush0_3 t).mp hf
  obtain ⟨e0, e1, e2⟩ := idx_facts3 t
  funext y
  have hy0 : (y 0).val < 1 := (y 0).isLt
  have hy1 : (y 1).val < 1 := (y 1).isLt
  have hb0 : (((cfg0.win 3).blk t).view.emb y 0).val = win0_3.index t (0 : Fin 2) * 1 + 1 * (y 0).val := rfl
  have hb1 : (((cfg0.win 3).blk t).view.emb y 1).val = win0_3.index t (1 : Fin 2) * 1 + 1 * (y 1).val := rfl
  have hr : run3Of (((cfg0.win 3).blk t).view.emb y) = t.val / 32 := by
    show 1 * ((((cfg0.win 3).blk t).view.emb y 0).val / 1 - 0) + 1 * ((((cfg0.win 3).blk t).view.emb y 1).val / 1 - 0) = _
    rw [hb0, hb1]
    rw [show (win0_3.index t (0 : Fin 2) * 1 + 1 * (y 0).val) / 1 = win0_3.index t (0 : Fin 2) from by omega]; rw [show (win0_3.index t (1 : Fin 2) * 1 + 1 * (y 1).val) / 1 = win0_3.index t (1 : Fin 2) from by omega]
    omega
  have hl : loc3Of (((cfg0.win 3).blk t).view.emb y) = (cfg0.win 3).xinj (grid0.coords t) y := by
    funext a; apply Fin.ext
    match a with
    | ⟨0, _⟩ => show (((cfg0.win 3).blk t).view.emb y 0).val % 1 = (y 0).val; rw [hb0]; omega
    | ⟨1, _⟩ => show (((cfg0.win 3).blk t).view.emb y 1).val % 1 = (y 1).val; rw [hb1]; omega
  have hp : pt3Of (((cfg0.win 3).blk t).view.emb y) = t.val := by
    show 32 * run3Of (((cfg0.win 3).blk t).view.emb y) + 31 = _
    rw [hr]; have := Nat.div_add_mod t.val 32; omega
  show (Pipeline.accAt (fun n h => stAt0 m c n h junk0) (stAt0 m c) 0 t.val _).2.1 ((cfg0.win 3).xinj (grid0.coords t) y) = G3 m c (((cfg0.win 3).blk t).view.emb y)
  unfold G3
  rw [dif_pos (by rw [hp]; exact t.isLt), hl, fold0_congr m c _ _ _ _ hp.symm]

theorem mem_blk3 (t : Fin cfg0.N) (i : S1x1.Idx) :
    i ∈ ((cfg0.win 3).blk t).view.set ↔ ∀ a : Fin 2, win0_3.index t a * S1x1.size a ≤ (i a).val ∧ (i a).val < win0_3.index t a * S1x1.size a + S1x1.size a := by
  show i ∈ ((View.whole main_v1_1).slice (win0_3.rect t)).set ↔ _
  rw [View.set_slice_whole, Rect.mem_set_unit]
  exact Iff.rfl

theorem covered_iff3 (i : S1x1.Idx) :
    (∃ t : Fin cfg0.N, (cfg0.win 3).flush t = true ∧ i ∈ ((cfg0.win 3).blk t).view.set) ↔ 0 ≤ (i 0).val ∧ (i 0).val < 1 ∧ 0 ≤ (i 1).val ∧ (i 1).val < 1 := by
  constructor
  · rintro ⟨t, -, hi⟩
    rw [mem_blk3] at hi
    have b0 : win0_3.index t (0 : Fin 2) * 1 ≤ (i 0).val ∧ (i 0).val < win0_3.index t (0 : Fin 2) * 1 + 1 := hi 0
    have b1 : win0_3.index t (1 : Fin 2) * 1 ≤ (i 1).val ∧ (i 1).val < win0_3.index t (1 : Fin 2) * 1 + 1 := hi 1
    obtain ⟨e0, e1, e2⟩ := idx_facts3 t
    omega
  · intro h
    have hi0 : (i 0).val < 1 := (i 0).isLt
    have hi1 : (i 1).val < 1 := (i 1).isLt
    obtain ⟨t, hft, ht⟩ := idx_onto3 ⟨(i 0).val / 1 - 0, by omega⟩ ⟨(i 1).val / 1 - 0, by omega⟩
    have q0 : win0_3.index t (0 : Fin 2) = (i 0).val / 1 - 0 + 0 := congrFun ht 0
    have q1 : win0_3.index t (1 : Fin 2) = (i 1).val / 1 - 0 + 0 := congrFun ht 1
    refine ⟨t, hft, ?_⟩
    rw [mem_blk3]
    intro a
    match a with
    | ⟨0, _⟩ => show win0_3.index t (0 : Fin 2) * 1 ≤ (i 0).val ∧ (i 0).val < win0_3.index t (0 : Fin 2) * 1 + 1; omega
    | ⟨1, _⟩ => show win0_3.index t (1 : Fin 2) * 1 ≤ (i 1).val ∧ (i 1).val < win0_3.index t (1 : Fin 2) * 1 + 1; omega

theorem final3 (c : Dev nD) : (dats m 0 c).arrAt 3 cfg0.N = G3 m c :=
  (dats m 0 c).arrAt_eq_of_cover 3 _ (fun t hf => flushed3_eq m c t hf) (fun i => (covered_iff3 i).2 (by
    have h0 : (i 0).val < 1 := (i 0).isLt; have h1 : (i 1).val < 1 := (i 1).isLt; omega))

theorem G3_last (c : Dev nD) :
    G3 m c = (Pipeline.accAt (fun n h => stAt0 m c n h junk0) (stAt0 m c) 0 31 (lt_of_lt_of_eq (by decide) N_0.symm)).2.1 := by
  funext i
  have hi0 : (i 0).val < 1 := (i 0).isLt
  have hi1 : (i 1).val < 1 := (i 1).isLt
  have hp : pt3Of i = 31 := by
    show 32 * (1 * ((i 0).val / 1 - 0) + 1 * ((i 1).val / 1 - 0)) + 31 = _
    omega
  have hl : loc3Of i = i := by
    funext a; apply Fin.ext
    match a with
    | ⟨0, _⟩ => show (i 0).val % 1 = (i 0).val; omega
    | ⟨1, _⟩ => show (i 1).val % 1 = (i 1).val; omega
  unfold G3
  rw [dif_pos (by rw [hp]; exact lt_of_lt_of_eq (by decide) N_0.symm), hl, fold0_congr m c _ _ _ _ hp]

end Cert.Proof.Whole
-- ==== Proof.WholeCall.lean ====
module

public import proofs.«01_k».proof.Proof.WholeSweep

@[expose] public section

/-!
# The first call inside the program

The TensorCore enters the first call owing the start signals of the second and having recorded nothing above level
zero. It holds its arrays at some contents, lends the call the four it works on, and gets back the words of the
nearest rows and the sum.
-/

noncomputable section

namespace Cert.Proof.Whole

open Cert.KernelIdeal Cert.KernelIdeal.Gen

open Idealize.ShloMosaic Idealize.ShloMosaic.TcCoe
open Idealize.ShloMosaic.SparseCore.Cfg (HIx)
open Idealize.ShloMosaic.Pipeline (Dat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ (UU F) ℕ

variable (m : (c : Dev nD) → (b : Ref sig .tc) → Buf (Elt F) ((c : Thread nD τ).loc b))

/-- No table is fetched ahead of the grid. -/
abbrev adm : (p : Fin 1) → (pcfgs (F := F) p).Adm := fun p => (cfgs p).toPCfg_adm

def pdats : (p : Fin 1) → (c : Dev nD) → Dat τ (Elt F) (HIx 1) ℕ (UU F) ℕ (Pipeline.pin (pcfgs (F := F)) adm p) c
  | ⟨0, _⟩ => fun c => dats m 0 c

/-- What the TensorCore owes through the call. -/
abbrev dues (c : Dev nD) : sProp 𝕄 :=
  iprop(∃ W, ⌜(K (F := F)).WBelow (SparseCore.T c) W 0⌝ ∗ owes (SparseCore.T c) ((K (F := F)).Otc c 0) W)

theorem due_none (c : Dev nD) (g : GSem nD τ sig) : (K (F := F)).Otc c 0 g none = 0 := by
  by_contra h
  have := SparseCore.Cfg.lev_of_Otc_pos (K := K (F := F)) (Nat.pos_of_ne_zero h)
  simp at this

variable (Vp : (c : Dev nD) → (b : Ref sig .tc) → Buf (Elt F) ((c : Thread nD τ).loc b))

set_option backward.isDefEq.respectTransparency.types false in
/-- The call, from every array at `m` to every array at `Vp`. -/
def reg (R : Dev nD → sProp 𝕄) (h2 : ∀ c, Vp c main_v1_0 = G2 m c) (h3 : ∀ c, Vp c main_v1_1 = G3 m c)
    (hne : ∀ c (b : Ref sig .tc), b ≠ main_v1_0 → b ≠ main_v1_1 → Vp c b = m c b) :
    Pipeline.RegionSeg (pcfgs (F := F)) adm (pdats m) none defs₀ 𝒱₀ (K (F := F)).L (K (F := F)).lev 0 where
  win := winFacts0.to₀
  block_pos := block_pos0
  stage_whole := stage_whole0
  K := PEmpty
  osem k := k.elim
  ho := Pipeline.OwnSemFacts.none _
  hbody c := (body_obligation m c).loose
  hwaits c := Pipeline.cellsWaits_intro _ _ _ _ _ fun w s t => (K (F := F)).mayWait_none _ (due_none c)
  pre c := iprop(unscopedBufs c (m c) ∗ R c ∗ (∃ r, prngReg c r) ∗ dues c)
  post c := iprop(unscopedBufs c (Vp c) ∗ R c ∗ (∃ r, prngReg c r) ∗ dues c)
  X c := iprop(∃ r, prngReg c r)
  Y c := iprop(∃ r, prngReg c r)
  Z c := iprop(Pipeline.unscopedRest (Ix := HIx 1) (Name := ℕ) (U := UU F) (Lvl := ℕ) spec0 c (m c) ∗ R c)
  hentry c := by
    rw [Pipeline.ownSems0_none]
    have hsplit := Pipeline.arrays_of_unscopedBufs (p := 0) (pcfgs (F := F)) adm (pdats m) winFacts0 arr_whole0 c
      ((pdats m 0 c).share_full fun _ => rfl) (m c) fun _ => rfl
    iintro ⟨⟨Hub, HR, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    isplitl [Hrest] <;> iassumption
  hin c := by
    refine BI.Entails.trans (?_ : _ ⊢ ΦR c) (hin m c)
    unfold ΦR
    iintro ⟨Hp, -, Hr⟩
    isplitl [Hr]; · iexact Hr
    iexact Hp
  hout c := by
    rw [Pipeline.ownSems0_none]
    refine (hout m c).trans ?_
    unfold ΦR
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU F) (Lvl := ℕ) winFacts0 arr_whole0 c
      (pdats m) ((pdats m 0 c).share_full fun _ => rfl) (m c) (Vp c) ((pdats m 0 c).arrAt · cfg0.N)
      (fun w => by
        fin_cases w
        · exact ((pdats m 0 c).arrAt_in 0 rfl _).trans (hne c main_v0 (by decide) (by decide)).symm
        · exact ((pdats m 0 c).arrAt_in 1 rfl _).trans (hne c main_arg1 (by decide) (by decide)).symm
        · exact (final2 m c).trans (h2 c).symm
        · exact (final3 m c).trans (h3 c).symm)
      (fun b hb => hne c b (fun h => hb (h ▸ Finset.mem_image.mpr ⟨2, Finset.mem_univ _, rfl⟩)) (fun h => hb (h ▸ Finset.mem_image.mpr ⟨3, Finset.mem_univ _, rfl⟩)))
    iintro ⟨Ha, HO, Hp, Hrest, HR⟩
    imodintro
    isplitl [Ha Hrest]
    · iapply hjoin; isplitl [Ha] <;> iassumption
    isplitl [HR]; · iexact HR
    isplitl [Hp]; · iexact Hp
    unfold Pipeline.Dat.owesAt Pipeline.owesWithin
    icases HO with ⟨%W, %hW, HO⟩; iexists W
    isplitr
    · ipureintro
      intro p hp
      rcases hW hp with h | ⟨w, s, rfl⟩
      · exact h
      · exact le_of_eq rfl
    iexact HO

end Cert.Proof.Whole

end
-- ==== Proof.WholeMain.lean ====
module

public import proofs.«01_k».proof.Proof.WholeLaunch
public import proofs.«01_k».proof.Proof.WholeCall

@[expose] public section

/-!
# The program's run

The seventeen arrays of the TensorCore are followed from the launch to the end, through both calls and the operations
before, between and after them.
-/

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

open Idealize.ShloMosaic.StableHlo (held after wp_hlo_within)

/-! ## The host operations -/

section Ops

abbrev dv (b : Ref sig .tc) : DevRef τ sig := Proc.devRef .tc b

variable [FloatOps F]

def opFlat : HloOp τ sig (Elt F) := StableHlo.reshape main_arg0 main_v0 (rfl : (.f32 : EltTy) = .f32) shapeCasts_S16x1024x32_S16384x32
def opZero : HloOp τ sig (Elt F) := StableHlo.nullary main_c (constantI S_ 32 0#32)
def opConv : HloOp τ sig (Elt F) := StableHlo.TRef.unary (.of main_c : StableHlo.TRef sig ⟨S_, .i32⟩) main_call0.v0 (sitofp .f32)
def opPad : HloOp τ sig (Elt F) :=
  StableHlo.TRef.binary (.of main_arg1 : StableHlo.TRef sig ⟨S8192x32, .f32⟩) main_call0.v0 main_call0.v1 (fun x v => pad S8192x128 ![0, 0] ![0, 96] ![0, 0] x v pads_S8192x32_S8192x128_000_0960 h_S_)
def opIdx : HloOp τ sig (Elt F) := StableHlo.reshape main_v1_0 main_v3 (rfl : (.i32 : EltTy) = .i32) shapeCasts_S16384x1_S1x16384
def opCut : HloOp τ sig (Elt F) :=
  StableHlo.unary main_v4 main_v5 ((extractStridedSlice S16384x32 ![0, 0] · slices_S16384x128_S16384x32_0_0) : (⟨S16384x128, .f32⟩ : BufTy).Contents (Elt F) → (⟨S16384x32, .f32⟩ : BufTy).Contents (Elt F))
def opNone : HloOp τ sig (Elt F) := StableHlo.nullary main_cst (constant S_ .f32 0x00000000#32)
def opSum : HloOp τ sig (Elt F) :=
  StableHlo.binary main_v1_1 main_cst main_v6 ((fun x v => Host.reduceAdd x v reducesTo_S1x1_S_d0_1 h_S_) : (⟨S1x1, .f32⟩ : BufTy).Contents (Elt F) → (⟨S_, .f32⟩ : BufTy).Contents (Elt F) → (⟨S_, .f32⟩ : BufTy).Contents (Elt F))
def opMany : HloOp τ sig (Elt F) := StableHlo.nullary main_cst_0 (constant S_ .f32 0x49000000#32)
def opMean : HloOp τ sig (Elt F) :=
  StableHlo.binary main_v6 main_cst_0 main_v7 (Host.divf : (⟨S_, .f32⟩ : BufTy).Contents (Elt F) → (⟨S_, .f32⟩ : BufTy).Contents (Elt F) → (⟨S_, .f32⟩ : BufTy).Contents (Elt F))
def opWords : HloOp τ sig (Elt F) := StableHlo.reshape main_v1_0 main_v8 (rfl : (.i32 : EltTy) = .i32) shapeCasts_S16384x1_S16x1024
def opFold : HloOp τ sig (Elt F) := StableHlo.reshape main_v5 main_v9 (rfl : (.f32 : EltTy) = .f32) shapeCasts_S16384x32_S16x1024x32

/-- The TensorCore's arrays. -/
def arrays : Finset (DevRef τ sig) :=
  {dv main_arg0, dv main_arg1, dv main_v0, dv main_v1_0, dv main_v1_1, dv main_c, dv main_call0_v0, dv main_v2, dv main_v3, dv main_v4,
    dv main_v5, dv main_cst, dv main_v6, dv main_cst_0, dv main_v7, dv main_v8, dv main_v9}

theorem sub_flat : (opFlat (F := F)).bufs ⊆ arrays := show ({dv main_arg0, dv main_v0} : Finset (DevRef τ sig)) ⊆ arrays by decide
theorem sub_zero : (opZero (F := F)).bufs ⊆ arrays := show ({dv main_c} : Finset (DevRef τ sig)) ⊆ arrays by decide
theorem sub_conv : (opConv (F := F)).bufs ⊆ arrays := show ({dv main_c, dv main_call0_v0} : Finset (DevRef τ sig)) ⊆ arrays by decide
theorem sub_pad : (opPad (F := F)).bufs ⊆ arrays := show ({dv main_arg1, dv main_call0_v0, dv main_v2} : Finset (DevRef τ sig)) ⊆ arrays by decide
theorem sub_idx : (opIdx (F := F)).bufs ⊆ arrays := show ({dv main_v1_0, dv main_v3} : Finset (DevRef τ sig)) ⊆ arrays by decide
theorem sub_cut : (opCut (F := F)).bufs ⊆ arrays := show ({dv main_v4, dv main_v5} : Finset (DevRef τ sig)) ⊆ arrays by decide
theorem sub_none : (opNone (F := F)).bufs ⊆ arrays := show ({dv main_cst} : Finset (DevRef τ sig)) ⊆ arrays by decide
theorem sub_sum : (opSum (F := F)).bufs ⊆ arrays := show ({dv main_v1_1, dv main_cst, dv main_v6} : Finset (DevRef τ sig)) ⊆ arrays by decide
theorem sub_many : (opMany (F := F)).bufs ⊆ arrays := show ({dv main_cst_0} : Finset (DevRef τ sig)) ⊆ arrays by decide
theorem sub_mean : (opMean (F := F)).bufs ⊆ arrays := show ({dv main_v6, dv main_cst_0, dv main_v7} : Finset (DevRef τ sig)) ⊆ arrays by decide
theorem sub_words : (opWords (F := F)).bufs ⊆ arrays := show ({dv main_v1_0, dv main_v8} : Finset (DevRef τ sig)) ⊆ arrays by decide
theorem sub_fold : (opFold (F := F)).bufs ⊆ arrays := show ({dv main_v5, dv main_v9} : Finset (DevRef τ sig)) ⊆ arrays by decide

end Ops

section Main

variable [FloatOps F]
variable (m : (ℓ : Loc nD τ sig) → Buf (Elt F) ℓ) (ρ : Dev nD → PrngReg)

/-- What the arrays hold at the launch, at the first call and after it, at the second call and after it, at the end. -/
def V0 (d : Dev nD) : Valuation τ sig (Elt F) := fun b => m (d, b)
def V1 (d : Dev nD) : Valuation τ sig (Elt F) := after [opFlat] (V0 m d)
abbrev mid (c : Dev nD) (b : Ref sig .tc) : Buf (Elt F) ((SparseCore.T c : Thread nD τ).loc b) := V1 m c (dv b)
def V2 (d : Dev nD) : Valuation τ sig (Elt F) :=
  Function.update (Function.update (V1 m d) (dv main_v1_0) (G2 (mid m) d)) (dv main_v1_1) (G3 (mid m) d)
def V3 (d : Dev nD) : Valuation τ sig (Elt F) := after [opZero, opConv, opPad, opIdx] (V2 m d)
abbrev tbOf (d : Dev nD) : S8192x128.Idx → F .f32 := V3 m d (dv main_v2)
abbrev ixOf (d : Dev nD) : S1x16384.Idx → BitVec 32 := V3 m d (dv main_v3)
abbrev f0Of (d : Dev nD) : S16384x128.Idx → F .f32 := V3 m d (dv main_v4)
def V4 (d : Dev nD) : Valuation τ sig (Elt F) := Function.update (V3 m d) (dv main_v4) (tgt (tbOf m d) (ixOf m d))
def V5 (d : Dev nD) : Valuation τ sig (Elt F) := after [opCut, opNone, opSum, opMany, opMean, opWords, opFold] (V4 m d)

abbrev PM : (K (F := F)).Pay (nD := nD) (Val := Elt F) (Name := ℕ) (U := UU F) := P (tbOf m) (ixOf m) (f0Of m)

/-! ## The ghost state at the launch -/

abbrev pipeCells : Finset (GSem nD τ sig) := Pipeline.cells (Pipeline.pin (pcfgs (F := F)) adm) cellOf_inj
abbrev pipeToks : Finset (GSem nD τ sig × ℕ × Unit) := Pipeline.launchToks (Pipeline.pin (pcfgs (F := F)) adm) cellOf_inj

def u₀ : UU F :=
  (initOf (K (F := F)).hsCells (K (F := F)).hsToks, (wm₀ nD τ sig (Elt F), (initOf (pipeCells (F := F)) (pipeToks (F := F)), 1)))

/-- What the launch gives each TensorCore: the write mode, and the rounds of its pipeline. -/
abbrev Deal (d : Dev nD) : sProp 𝕄 :=
  iprop(Mode F ∗ Pipeline.cellsGhost (Pipeline.pin (pcfgs (F := F)) adm) EP 0 d ∗ Pipeline.toksInit (Pipeline.pin (pcfgs (F := F)) adm) EP 0 d)

theorem bigSep_all {I : Type} (s : Finset I) (A : sProp 𝕄) [BI.Persistent A] : A ⊢ bigSep s fun _ => A := by
  classical
  induction s using Finset.induction_on with
  | empty => rw [bigSep_empty]; iintro -; iempintro
  | insert a s ha ih =>
    rw [SparseCore.bigSep_insert' ha]
    iintro #H
    isplitr; · iexact H
    iapply ih; iexact H

theorem hu₀ : (ownU (u₀ (F := F)) : sProp 𝕄)
    ⊢ |={Set.univ}=> iprop(BI.own (EH (initOf (K (F := F)).hsCells (K (F := F)).hsToks)) ∗ (bigSep Finset.univ fun d : Dev nD => Deal (F := F) d)
        ∗ bigSep Finset.univ fun thr : Thread nD τ => bigSep Finset.univ fun q : Fin 1 => (PM m).x q thr) := by
  unfold u₀
  iintro Hu
  ihave H := (ownU_pair (initOf (K (F := F)).hsCells (K (F := F)).hsToks)
    ((wm₀ nD τ sig (Elt F), (initOf (pipeCells (F := F)) (pipeToks (F := F)), 1)) : UW F × (UP × Counters))) $$ Hu
  icases H with ⟨HH, HW⟩
  ihave HW' := (own_pair_emb embR (wm₀ nD τ sig (Elt F)) ((initOf (pipeCells (F := F)) (pipeToks (F := F)), 1) : UP × Counters)) $$ HW
  icases HW' with ⟨HW, HP⟩
  ihave HP' := (own_pair_emb (((Emb.inr : Emb (UP × Counters) (UW F × (UP × Counters)))).trans embR) (initOf (pipeCells (F := F)) (pipeToks (F := F))) (1 : Counters)) $$ HP
  icases HP' with ⟨HP, -⟩
  ihave HW := (show (BI.own (((Emb.inl : Emb (UW F) (UW F × (UP × Counters))).trans embR) (wm₀ nD τ sig (Elt F))) : sProp 𝕄)
    ⊢ ownU (wemb F (wm₀ nD τ sig (Elt F))) from .rfl) $$ HW
  ihave HP := (show (BI.own (((Emb.inl : Emb UP (UP × Counters)).trans ((Emb.inr : Emb (UP × Counters) (UW F × (UP × Counters))).trans embR)) (initOf (pipeCells (F := F)) (pipeToks (F := F)))) : sProp 𝕄)
    ⊢ BI.own (EP (initOf (pipeCells (F := F)) (pipeToks (F := F)))) from .rfl) $$ HP
  imod (Pipeline.fund_ghost (Pipeline.pin (pcfgs (F := F)) adm) EP cellOf_inj) $$ HP with ⟨Hcg, Htk⟩
  imod (wmInv_alloc (emb := wemb F) (Ix := HIx 1) (Name := ℕ) (Lvl := ℕ) (⟨m, fun _ => 0, fun _ => default⟩ : MemSt nD τ sig (Elt F)) ∅ (E := Set.univ)) $$ HW with ⟨%ιwm, -, #Hinv⟩
  imodintro
  isplitl [HH]; · iexact HH
  isplitl
  · rw [bigSep_sep', bigSep_sep']
    isplitr; · iapply (bigSep_all Finset.univ (Mode F)); iexists ιwm; iexact Hinv
    isplitl [Hcg]
    · iapply (Entails.of_eq (bigSep_congr fun d _ => (bigSep_univ_of_subsingleton (0 : Fin 1)))) $$ Hcg
    · iapply (Entails.of_eq (bigSep_congr fun d _ => (bigSep_univ_of_subsingleton (0 : Fin 1)))) $$ Htk
  · rw [show (bigSep Finset.univ fun thr : Thread nD τ => bigSep Finset.univ fun q : Fin 1 => (PM m).x q thr) = bigSep Finset.univ fun _ => Mode F from
      bigSep_congr fun _ _ => bigSep_univ_of_subsingleton (0 : Fin 1)]
    iapply (bigSep_all Finset.univ (Mode F)); iexists ιwm; iexact Hinv

/-! ## The TensorCore -/

theorem held_arrays (d : Dev nD) (V : Valuation τ sig (Elt F)) :
    (held (SparseCore.T d) arrays V : sProp 𝕄)
      = iprop(((d, dv main_arg0) ↦{fullShare} V (dv main_arg0))
          ∗ ((d, dv main_arg1) ↦{fullShare} V (dv main_arg1))
          ∗ ((d, dv main_v0) ↦{fullShare} V (dv main_v0))
          ∗ ((d, dv main_v1_0) ↦{fullShare} V (dv main_v1_0))
          ∗ ((d, dv main_v1_1) ↦{fullShare} V (dv main_v1_1))
          ∗ ((d, dv main_c) ↦{fullShare} V (dv main_c))
          ∗ ((d, dv main_call0_v0) ↦{fullShare} V (dv main_call0_v0))
          ∗ (xLoc d ↦{fullShare} V (dv main_v2))
          ∗ (iLoc d ↦{fullShare} V (dv main_v3))
          ∗ (oLoc d ↦{fullShare} V (dv main_v4))
          ∗ ((d, dv main_v5) ↦{fullShare} V (dv main_v5))
          ∗ ((d, dv main_cst) ↦{fullShare} V (dv main_cst))
          ∗ ((d, dv main_v6) ↦{fullShare} V (dv main_v6))
          ∗ ((d, dv main_cst_0) ↦{fullShare} V (dv main_cst_0))
          ∗ ((d, dv main_v7) ↦{fullShare} V (dv main_v7))
          ∗ ((d, dv main_v8) ↦{fullShare} V (dv main_v8))
          ∗ ((d, dv main_v9) ↦{fullShare} V (dv main_v9))) := by
  unfold held arrays
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscoped_held (d : Dev nD) (V : Valuation τ sig (Elt F)) :
    (unscopedBufs d (fun b => V (dv b)) : sProp 𝕄) = held (SparseCore.T d) arrays V := by
  rw [held_arrays]
  unfold unscopedBufs
  rw [show (Finset.univ.filter fun b : Ref sig .tc => ¬ b.isScoped)
      = {main_arg0, main_arg1, main_v0, main_v1_0, main_v1_1, main_c, main_call0_v0, main_v2, main_v3, main_v4, main_v5, main_cst, main_v6, main_cst_0, main_v7, main_v8, main_v9} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem V4_ne (d : Dev nD) {b : DevRef τ sig} (h : b ≠ dv main_v4) : V4 m d b = V3 m d b := Function.update_of_ne h _ _
theorem V4_out (d : Dev nD) : V4 m d (dv main_v4) = tgt (tbOf m d) (ixOf m d) := Function.update_self _ _ _

theorem held_V4 (d : Dev nD) :
    (held (SparseCore.T d) arrays (V4 m d) : sProp 𝕄)
      = iprop(((d, dv main_arg0) ↦{fullShare} V3 m d (dv main_arg0))
          ∗ ((d, dv main_arg1) ↦{fullShare} V3 m d (dv main_arg1))
          ∗ ((d, dv main_v0) ↦{fullShare} V3 m d (dv main_v0))
          ∗ ((d, dv main_v1_0) ↦{fullShare} V3 m d (dv main_v1_0))
          ∗ ((d, dv main_v1_1) ↦{fullShare} V3 m d (dv main_v1_1))
          ∗ ((d, dv main_c) ↦{fullShare} V3 m d (dv main_c))
          ∗ ((d, dv main_call0_v0) ↦{fullShare} V3 m d (dv main_call0_v0))
          ∗ (xLoc d ↦{fullShare} tbOf m d)
          ∗ (iLoc d ↦{fullShare} ixOf m d)
          ∗ (oLoc d ↦{fullShare} tgt (tbOf m d) (ixOf m d))
          ∗ ((d, dv main_v5) ↦{fullShare} V3 m d (dv main_v5))
          ∗ ((d, dv main_cst) ↦{fullShare} V3 m d (dv main_cst))
          ∗ ((d, dv main_v6) ↦{fullShare} V3 m d (dv main_v6))
          ∗ ((d, dv main_cst_0) ↦{fullShare} V3 m d (dv main_cst_0))
          ∗ ((d, dv main_v7) ↦{fullShare} V3 m d (dv main_v7))
          ∗ ((d, dv main_v8) ↦{fullShare} V3 m d (dv main_v8))
          ∗ ((d, dv main_v9) ↦{fullShare} V3 m d (dv main_v9))) := by
  rw [held_arrays, V4_out, V4_ne m d (show dv main_arg0 ≠ dv main_v4 by decide), V4_ne m d (show dv main_arg1 ≠ dv main_v4 by decide), V4_ne m d (show dv main_v0 ≠ dv main_v4 by decide), V4_ne m d (show dv main_v1_0 ≠ dv main_v4 by decide), V4_ne m d (show dv main_v1_1 ≠ dv main_v4 by decide), V4_ne m d (show dv main_c ≠ dv main_v4 by decide), V4_ne m d (show dv main_call0_v0 ≠ dv main_v4 by decide), V4_ne m d (show dv main_v2 ≠ dv main_v4 by decide), V4_ne m d (show dv main_v3 ≠ dv main_v4 by decide), V4_ne m d (show dv main_v5 ≠ dv main_v4 by decide), V4_ne m d (show dv main_cst ≠ dv main_v4 by decide), V4_ne m d (show dv main_v6 ≠ dv main_v4 by decide), V4_ne m d (show dv main_cst_0 ≠ dv main_v4 by decide), V4_ne m d (show dv main_v7 ≠ dv main_v4 by decide), V4_ne m d (show dv main_v8 ≠ dv main_v4 by decide), V4_ne m d (show dv main_v9 ≠ dv main_v4 by decide)]

theorem V2_words (d : Dev nD) : V2 m d (dv main_v1_0) = G2 (mid m) d :=
  (Function.update_of_ne (by decide) _ _).trans (Function.update_self _ _ _)
theorem V2_sum (d : Dev nD) : V2 m d (dv main_v1_1) = G3 (mid m) d := Function.update_self _ _ _
theorem V2_ne (d : Dev nD) {b : DevRef τ sig} (h : b ≠ dv main_v1_0) (h' : b ≠ dv main_v1_1) : V2 m d b = V1 m d b :=
  (Function.update_of_ne h' _ _).trans (Function.update_of_ne h _ _)

theorem st0_eq (d : Dev nD) : (bigSep Finset.univ fun c : Fin ((K (F := F)).nCore 0) => (PM m).st 0 d c)
    = bigSep Finset.univ fun c : Fin 2 => CoreHolds (tbOf m) (ixOf m) (f0Of m) d c ∅ :=
  bigSep_congr fun _ _ => rfl
theorem dn0_eq (d : Dev nD) : (bigSep Finset.univ fun c : Fin ((K (F := F)).nCore 0) => (PM m).dn 0 d c)
    = bigSep Finset.univ fun c : Fin 2 => CoreHolds (tbOf m) (ixOf m) (f0Of m) d c Finset.univ :=
  bigSep_congr fun _ _ => rfl

/-- The first call, over the arrays at `V1`. -/
def call0 : Pipeline.RegionSeg (pcfgs (F := F)) adm (pdats (mid m)) none defs₀ 𝒱₀ (K (F := F)).L (K (F := F)).lev 0 :=
  reg (mid m) (fun c b => V2 m c (dv b)) (fun _ => BI.emp) (fun c => V2_words m c) (fun c => V2_sum m c)
    (fun c b h h' => V2_ne m c (fun e => h (Proc.devRef_injective _ e)) (fun e => h' (Proc.devRef_injective _ e)))

theorem wp_call0 [∀ e, Nonempty (Elt F e)] (d : Dev nD) (Q : PUnit → sProp 𝕄) :
    iprop((iprop(boundary (SparseCore.T d) ∗ iprop(unscopedBufs d (fun b => V2 m d (dv b)) ∗ BI.emp ∗ (∃ r, prngReg d r) ∗ dues d)) -∗ Q ⟨⟩)
        ∗ boundary (SparseCore.T d) ∗ iprop(unscopedBufs d (mid m d) ∗ BI.emp ∗ (∃ r, prngReg d r) ∗ dues d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ
          (Prog.lift (.customCall (SparseCore.inner (Pipeline.entry 0)) ())) Q := by
  have h := Pipeline.RegionSeg.wp (pcfgs (F := F)) adm (pdats (mid m)) none cellOf_inj EP defs₀ 𝒱₀
    (K (F := F)).L (K (F := F)).lev (call0 m) d none (fun _ h => nomatch h) .ret Q
  have e : (call0 m).pre d = iprop(unscopedBufs d (mid m d) ∗ BI.emp ∗ (∃ r, prngReg d r) ∗ dues d) := rfl
  have e' : (call0 m).post d = iprop(unscopedBufs d (fun b => V2 m d (dv b)) ∗ BI.emp ∗ (∃ r, prngReg d r) ∗ dues d) := rfl
  rw [e, e'] at h
  refine BI.Entails.trans (BI.Entails.trans ?_ h) ((K (F := F)).wp_liftProg (D (F := F)) 𝒱 (SparseCore.T d) Set.univ none (.op (.customCall (Pipeline.entry 0) ()) .ret) Q)
  change (_ : sProp 𝕄) ⊢ _
  iintro ⟨Hk, H⟩
  isplitl [Hk]
  · iintro Hp
    rw [wp_ret]; imodintro
    iapply Hk; iexact Hp
  iexact H

theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ Deal (F := F) d)
      ⊢ wp frame (wpE ((K (F := F)).defs (D (F := F))) 𝒱 (SparseCore.T d) none) Set.univ (main d)
          fun _ => iprop((K (F := F)).tcSt EH d 1 ∗ held (SparseCore.T d) arrays (V5 m d) ∗ (K (F := F)).tcEnd d) := by
  unfold SparseCore.Cfg.tcRes SparseCore.Cfg.tcEnd
  rw [show (unscopedBufs d (fun b => m ((SparseCore.T d).loc b)) : sProp 𝕄) = held (SparseCore.T d) arrays (V0 m d) from unscoped_held d (V0 m d)]
  simp only [main, fn_pad.body, wp_bind, wp_pure]
  iintro ⟨#Hctx, Hst, ⟨Hb, Hheld, Hts, Hprng⟩, ⟨%ιwm, #Hinv⟩, Hcg, Htk⟩
  ihave #Hlev := (SparseCore.Cfg.ctx_levAts (K := K (F := F)) (EH := EH) (P := PM m) κ) $$ Hctx
  iapply (wp_hlo_within 𝒱 (SparseCore.T d) none Set.univ (op := opFlat) (S := arrays) sub_flat (V := V0 m d)) $$ [Hb Hheld]
  · isplitl [Hb]; · iexact Hb
    iexact Hheld
  iintro ⟨Hb, Hheld⟩
  rw [wp_ret]; imodintro
  ihave Hst' := (show ((K (F := F)).tcSt EH d 0 : sProp 𝕄) ⊢ iprop(dues d ∗ _) from .rfl) $$ Hst
  icases Hst' with ⟨Hdue, Hst⟩
  iapply (wp_call0 m d)
  isplitr [Hb Hheld Hprng Hdue Hcg Htk]
  rotate_left
  · isplitl [Hb]; · iexact Hb
    isplitl [Hheld Hprng Hdue]
    · isplitl [Hheld]
      · iapply (Entails.of_eq (show (held (SparseCore.T d) arrays ((opFlat (F := F)).result (V0 m d)) : sProp 𝕄) = unscopedBufs d (mid m d) from
          (unscoped_held d (V1 m d)).symm)) $$ Hheld
      isplitr; · iempintro
      isplitl [Hprng]; · iexists _; iexact Hprng
      iexact Hdue
    isplitr; · iexact Hlev
    isplitl [Hcg] <;> iassumption
  iintro ⟨Hb, Hub, -, Hprng, Hdue⟩
  ihave Hheld := (Entails.of_eq (show (unscopedBufs d (fun b => V2 m d (dv b)) : sProp 𝕄) = held (SparseCore.T d) arrays (V2 m d) from
    unscoped_held d (V2 m d))) $$ Hub
  ihave Hst := (show iprop(dues d ∗ _) ⊢ ((K (F := F)).tcSt EH d 0 : sProp 𝕄) from .rfl) $$ [Hdue Hst]
  · isplitl [Hdue] <;> iassumption
  iapply (wp_hlo_within 𝒱 (SparseCore.T d) none Set.univ (op := opZero) (S := arrays) sub_zero (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := opConv) (S := arrays) sub_conv (V := after [opZero] (V2 m d))) $$ [Hb Hheld]
  · isplitl [Hb]; · iexact Hb
    iexact Hheld
  iintro ⟨Hb, Hheld⟩
  rw [wp_ret]; imodintro
  iapply (wp_hlo_within 𝒱 (SparseCore.T d) none Set.univ (op := opPad) (S := arrays) sub_pad (V := after [opZero, opConv] (V2 m d))) $$ [Hb Hheld]
  · isplitl [Hb]; · iexact Hb
    iexact Hheld
  iintro ⟨Hb, Hheld⟩
  rw [wp_ret]; imodintro; imodintro
  iapply (wp_hlo_within 𝒱 (SparseCore.T d) none Set.univ (op := opIdx) (S := arrays) sub_idx (V := after [opZero, opConv, opPad] (V2 m d))) $$ [Hb Hheld]
  · isplitl [Hb]; · iexact Hb
    iexact Hheld
  iintro ⟨Hb, Hheld⟩
  rw [wp_ret]; imodintro
  ihave Hh := (Entails.of_eq ((show (held (SparseCore.T d) arrays ((opIdx (F := F)).result (after [opZero, opConv, opPad] (V2 m d))) : sProp 𝕄)
      = held (SparseCore.T d) arrays (V3 m d) from rfl).trans (held_arrays d (V3 m d)))) $$ Hheld
  icases Hh with ⟨Harg0, Harg1, Hv0, Hv10, Hv11, Hc, Hcall0v0, Hv2, Hv3, Hv4, Hv5, Hcst, Hv6, Hcst0, Hv7, Hv8, Hv9⟩
  imod (pointsTo_castIn (emb := wemb F) (ℓ := oLoc d) (I := Finset.univ) (f := f0Of m d) (E := Set.univ) (fun j => some (tgt (tbOf m d) (ixOf m d) j))) $$ [Hv4] with Hv4
  · isplitr; · iexact Hinv
    iexact Hv4
  iapply ((K (F := F)).wp_run (D (F := F)) 𝒱 (EH := EH) (P := PM m) κ d 0)
  isplitr; · iexact Hctx
  isplitl [Hst]; · iexact Hst
  isplitl [Hv2 Hv3 Hv4]
  · rw [st0_eq]
    iapply (cores_split (tbOf m) (ixOf m) (f0Of m) d ∅)
    isplitl [Hv2]; · iexact Hv2
    isplitl [Hv3] <;> iassumption
  iintro ⟨Hst, Hdn⟩
  ihave Hdn' := ((Entails.of_eq (dn0_eq m d)).trans (cores_join (tbOf m) (ixOf m) (f0Of m) d Finset.univ)) $$ Hdn
  icases Hdn' with ⟨Hv2, Hv3, Hv4⟩
  imod (willBeTo_castOut_some (emb := wemb F) (ℓ := oLoc d) (I := Finset.univ) (f := f0Of m d) (E := Set.univ) (g := tgt (tbOf m d) (ixOf m d))) $$ [Hv4] with Hv4
  · isplitr; · iexact Hinv
    iexact Hv4
  ihave Hheld := (Entails.of_eq (held_V4 m d).symm) $$ [Harg0 Harg1 Hv0 Hv10 Hv11 Hc Hcall0v0 Hv2 Hv3 Hv4 Hv5 Hcst Hv6 Hcst0 Hv7 Hv8 Hv9]
  · isplitl [Harg0]; · iexact Harg0
    isplitl [Harg1]; · iexact Harg1
    isplitl [Hv0]; · iexact Hv0
    isplitl [Hv10]; · iexact Hv10
    isplitl [Hv11]; · iexact Hv11
    isplitl [Hc]; · iexact Hc
    isplitl [Hcall0v0]; · iexact Hcall0v0
    isplitl [Hv2]; · iexact Hv2
    isplitl [Hv3]; · iexact Hv3
    isplitl [Hv4]
    · iapply (Entails.of_eq (show (oLoc d ↦{fullShare} Finset.univ.piecewise (tgt (tbOf m d) (ixOf m d)) (f0Of m d) : sProp 𝕄)
        = oLoc d ↦{fullShare} tgt (tbOf m d) (ixOf m d) by rw [Finset.piecewise_univ])) $$ Hv4
    isplitl [Hv5]; · iexact Hv5
    isplitl [Hcst]; · iexact Hcst
    isplitl [Hv6]; · iexact Hv6
    isplitl [Hcst0]; · iexact Hcst0
    isplitl [Hv7]; · iexact Hv7
    isplitl [Hv8] <;> iassumption
  iapply (wp_hlo_within 𝒱 (SparseCore.T d) none Set.univ (op := opCut) (S := arrays) sub_cut (V := V4 m d)) $$ [Hb Hheld]
  · isplitl [Hb]; · iexact Hb
    iexact Hheld
  iintro ⟨Hb, Hheld⟩
  rw [wp_ret]; imodintro
  iapply (wp_hlo_within 𝒱 (SparseCore.T d) none Set.univ (op := opNone) (S := arrays) sub_none (V := after [opCut] (V4 m d))) $$ [Hb Hheld]
  · isplitl [Hb]; · iexact Hb
    iexact Hheld
  iintro ⟨Hb, Hheld⟩
  rw [wp_ret]; imodintro
  iapply (wp_hlo_within 𝒱 (SparseCore.T d) none Set.univ (op := opSum) (S := arrays) sub_sum (V := after [opCut, opNone] (V4 m d))) $$ [Hb Hheld]
  · isplitl [Hb]; · iexact Hb
    iexact Hheld
  iintro ⟨Hb, Hheld⟩
  rw [wp_ret]; imodintro
  iapply (wp_hlo_within 𝒱 (SparseCore.T d) none Set.univ (op := opMany) (S := arrays) sub_many (V := after [opCut, opNone, opSum] (V4 m d))) $$ [Hb Hheld]
  · isplitl [Hb]; · iexact Hb
    iexact Hheld
  iintro ⟨Hb, Hheld⟩
  rw [wp_ret]; imodintro
  iapply (wp_hlo_within 𝒱 (SparseCore.T d) none Set.univ (op := opMean) (S := arrays) sub_mean (V := after [opCut, opNone, opSum, opMany] (V4 m d))) $$ [Hb Hheld]
  · isplitl [Hb]; · iexact Hb
    iexact Hheld
  iintro ⟨Hb, Hheld⟩
  rw [wp_ret]; imodintro
  iapply (wp_hlo_within 𝒱 (SparseCore.T d) none Set.univ (op := opWords) (S := arrays) sub_words (V := after [opCut, opNone, opSum, opMany, opMean] (V4 m d))) $$ [Hb Hheld]
  · isplitl [Hb]; · iexact Hb
    iexact Hheld
  iintro ⟨Hb, Hheld⟩
  rw [wp_ret]; imodintro
  iapply (wp_hlo_within 𝒱 (SparseCore.T d) none Set.univ (op := opFold) (S := arrays) sub_fold (V := after [opCut, opNone, opSum, opMany, opMean, opWords] (V4 m d))) $$ [Hb Hheld]
  · isplitl [Hb]; · iexact Hb
    iexact Hheld
  iintro ⟨Hb, Hheld⟩
  rw [wp_ret]; imodintro; imodintro
  isplitl [Hst]; · iexact Hst
  isplitl [Hheld]; · iexact Hheld
  isplitl [Hb] <;> iassumption

/-! ## The run -/

/-- What is read of device `d`'s end. -/
def fq (d : Dev nD) (s' : Phys nD τ sig (Elt F)) : Prop :=
  ((s'.mem.mem (d, dv main_arg0) = V5 m d (dv main_arg0) ∧ s'.mem.mem (d, dv main_arg1) = V5 m d (dv main_arg1))
    ∧ s'.mem.mem (d, dv main_v7) = V5 m d (dv main_v7)) ∧ s'.mem.mem (d, dv main_v8) = V5 m d (dv main_v8)
    ∧ s'.mem.mem (d, dv main_v9) = V5 m d (dv main_v9)

/-- An array held is an array read. -/
theorem reads (d : Dev nD) (s' : Phys nD τ sig (Elt F)) (b : DevRef τ sig) (f : Buf (Elt F) (d, b)) :
    iprop(SI s' ∗ ((d, b) ↦{fullShare} f)) ⊢ (iprop(⌜s'.mem.mem (d, b) = f⌝ ∗ SI s') : sProp 𝕄) := by
  iintro ⟨HSI, H⟩
  ihave H := (persistent_entails_right (SI_pointsTo_agree (st := s') (ℓ := (d, b)) (I := Finset.univ) (q := fullShare) (f := f))) $$ [HSI H]
  · isplitl [HSI] <;> iassumption
  icases H with ⟨%h, HSI, -⟩
  isplitr; · ipureintro; exact funext fun i => h i (Finset.mem_univ i)
  iexact HSI

set_option maxRecDepth 16384 in
theorem hfin (d : Dev nD) (s' : Phys nD τ sig (Elt F)) :
    iprop(held (SparseCore.T d) arrays (V5 m d) ∗ SI s') ⊢ (⌜fq m d s'⌝ : sProp 𝕄) := by
  rw [held_arrays]
  iintro ⟨⟨H0, H1, -, -, -, -, -, -, -, -, -, -, -, -, H7, H8, H9⟩, HSI⟩
  ihave H := (reads d s' (dv main_arg0) (V5 m d (dv main_arg0))) $$ [HSI H0]
  · isplitl [HSI] <;> iassumption
  icases H with ⟨%h0, HSI⟩
  ihave H := (reads d s' (dv main_arg1) (V5 m d (dv main_arg1))) $$ [HSI H1]
  · isplitl [HSI] <;> iassumption
  icases H with ⟨%h1, HSI⟩
  ihave H := (reads d s' (dv main_v7) (V5 m d (dv main_v7))) $$ [HSI H7]
  · isplitl [HSI] <;> iassumption
  icases H with ⟨%h7, HSI⟩
  ihave H := (reads d s' (dv main_v8) (V5 m d (dv main_v8))) $$ [HSI H8]
  · isplitl [HSI] <;> iassumption
  icases H with ⟨%h8, HSI⟩
  ihave H := (reads d s' (dv main_v9) (V5 m d (dv main_v9))) $$ [HSI H9]
  · isplitl [HSI] <;> iassumption
  icases H with ⟨%h9, HSI⟩
  ipureintro
  exact ⟨⟨⟨h0, h1⟩, h7⟩, h8, h9⟩

def QC : PUnit × MemSt nD τ sig (Elt F) → Prop := fun r =>
  (∀ c : Dev nD, ((r.2.mem (c, dv main_arg0) = V5 m c (dv main_arg0) ∧ r.2.mem (c, dv main_arg1) = V5 m c (dv main_arg1))
    ∧ r.2.mem (c, dv main_v7) = V5 m c (dv main_v7)) ∧ r.2.mem (c, dv main_v8) = V5 m c (dv main_v8)
    ∧ r.2.mem (c, dv main_v9) = V5 m c (dv main_v9)) ∧ r.2.sem = fun _ => 0

theorem run_main [∀ e, Nonempty (Elt F e)] (hix : ∀ d j, (ixOf m d j).toNat < 8192) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (tbOf m) (ixOf m) (f0Of m) facts hix)
    (fun q _ => match q with | 0 => SparseCore.Cfg.VecSplit.of_plain (vecSplit (tbOf m) (ixOf m) (f0Of m)))
    m ρ main (fun d => Deal (F := F) d) (fun d => held (SparseCore.T d) arrays (V5 m d)) (u₀ (F := F)) (sep_elim_left.trans (hu₀ m)) (hmain m ρ) (fq m) (hfin m) (QC m)
    (fun _ h hz => ⟨h, hz⟩)

end Main

end Cert.Proof.Whole
-- ==== Proof.WholeBest.lean ====
module

public import Idealize.ShloMosaic.Lib.Pointwise

@[expose] public section

set_option maxRecDepth 16384

/-!
  Real arithmetic the nearest-row call and its reference share: squared distance, the first least entry of a table of
  reals, and what the least coordinate, the least value and a two-entry fold say of it when the entries are extended
  reals that are real.
-/

noncomputable section

namespace Cert.Proof.WholeBest

open Idealize.ShloMosaic

/-- A finite sum of reals read as an extended real. -/
theorem coe_total {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The squared distance of two vectors. -/
def gap {n : ℕ} (u v : Fin n → ℝ) : ℝ := ∑ j, (v j - u j) * (v j - u j)

/-- The expanded square: how the kernel spells the distance. -/
theorem gap_expand {n : ℕ} (u v : Fin n → ℝ) :
    gap u v = (∑ j, u j * u j) + (∑ j, u j * (-2 * v j)) + ∑ j, v j * v j := by
  unfold gap
  rw [← Finset.sum_add_distrib, ← Finset.sum_add_distrib]
  exact Finset.sum_congr rfl fun j _ => by ring

/-- The same as the reference spells it. -/
theorem gap_expand' {n : ℕ} (u v : Fin n → ℝ) :
    gap u v = (∑ j, u j * u j) - 2 * (∑ j, u j * v j) + ∑ j, v j * v j := by
  rw [gap_expand, Finset.mul_sum, sub_eq_add_neg, ← Finset.sum_neg_distrib]
  congr 2
  exact Finset.sum_congr rfl fun j _ => by ring

/-- `k` is the first entry at which `f` is least. -/
def IsBest {n : ℕ} (f : Fin n → ℝ) (k : Fin n) : Prop := (∀ i, f k ≤ f i) ∧ ∀ i, i < k → f k < f i

theorem IsBest.unique {n : ℕ} {f : Fin n → ℝ} {k l : Fin n} (hk : IsBest f k) (hl : IsBest f l) : k = l := by
  rcases lt_trichotomy k l with h | h | h
  · exact absurd (hl.2 k h) (not_lt.2 (hk.1 l))
  · exact h
  · exact absurd (hk.2 l h) (not_lt.2 (hl.1 k))

theorem exists_best {n : ℕ} [NeZero n] (f : Fin n → ℝ) : ∃ k, IsBest f k := by
  classical
  obtain ⟨k₀, -, h₀⟩ := Finset.exists_min_image (Finset.univ : Finset (Fin n)) f ⟨0, Finset.mem_univ _⟩
  let s : Finset (Fin n) := Finset.univ.filter fun k => f k = f k₀
  have hs : s.Nonempty := ⟨k₀, by simp [s]⟩
  have hm : f (s.min' hs) = f k₀ := by have := s.min'_mem hs; simpa [s] using this
  refine ⟨s.min' hs, fun i => hm ▸ h₀ i (Finset.mem_univ _), fun i hi => ?_⟩
  rw [hm]
  refine lt_of_le_of_ne (h₀ i (Finset.mem_univ _)) fun he => ?_
  exact absurd (s.min'_le i (by simp [s, he])) (not_le.2 hi)

/-- The first entry at which `f` is least. -/
def best {n : ℕ} [NeZero n] (f : Fin n → ℝ) : Fin n := (exists_best f).choose

theorem best_spec {n : ℕ} [NeZero n] (f : Fin n → ℝ) : IsBest f (best f) := (exists_best f).choose_spec

theorem best_eq {n : ℕ} [NeZero n] {f : Fin n → ℝ} {k : Fin n} (h : IsBest f k) : best f = k := (best_spec f).unique h

/-- The first and the second half of a table. -/
def lower (f : Fin 8192 → ℝ) (k : Fin 4096) : ℝ := f ⟨k.val, by omega⟩
def upper (f : Fin 8192 → ℝ) (k : Fin 4096) : ℝ := f ⟨4096 + k.val, by omega⟩

/-- The first least entry of a table from those of its two halves: the first half's on a tie. -/
theorem best_halves (f : Fin 8192 → ℝ) :
    (lower f (best (lower f)) ≤ upper f (best (upper f)) →
      (best f).val = (best (lower f)).val ∧ f (best f) = lower f (best (lower f))) ∧
    (¬ lower f (best (lower f)) ≤ upper f (best (upper f)) →
      (best f).val = 4096 + (best (upper f)).val ∧ f (best f) = upper f (best (upper f))) := by
  let lo : Fin 4096 → ℝ := fun k => f ⟨k.val, by omega⟩
  let hi : Fin 4096 → ℝ := fun k => f ⟨4096 + k.val, by omega⟩
  change (lo (best lo) ≤ hi (best hi) → (best f).val = (best lo).val ∧ f (best f) = lo (best lo)) ∧
    (¬ lo (best lo) ≤ hi (best hi) → (best f).val = 4096 + (best hi).val ∧ f (best f) = hi (best hi))
  have hlo := best_spec lo
  have hhi := best_spec hi
  constructor
  · intro h
    have hb : IsBest f ⟨(best lo).val, by omega⟩ := by
      refine ⟨fun i => ?_, fun i hlt => ?_⟩
      · by_cases hi' : i.val < 4096
        · exact hlo.1 ⟨i.val, hi'⟩
        · have := hhi.1 ⟨i.val - 4096, by omega⟩
          have e : hi ⟨i.val - 4096, by omega⟩ = f i := congrArg f (Fin.ext (by simp; omega))
          exact h.trans (e ▸ this)
      · have hl : i.val < (best lo).val := hlt
        exact hlo.2 ⟨i.val, by omega⟩ hl
    rw [best_eq hb]; exact ⟨rfl, rfl⟩
  · intro h
    have hb : IsBest f ⟨4096 + (best hi).val, by omega⟩ := by
      refine ⟨fun i => ?_, fun i hlt => ?_⟩
      · by_cases hi' : i.val < 4096
        · exact (lt_of_lt_of_le (not_le.1 h) (hlo.1 ⟨i.val, hi'⟩)).le
        · have := hhi.1 ⟨i.val - 4096, by omega⟩
          have e : hi ⟨i.val - 4096, by omega⟩ = f i := congrArg f (Fin.ext (by simp; omega))
          exact e ▸ this
      · have hl : i.val < 4096 + (best hi).val := hlt
        by_cases hi' : i.val < 4096
        · exact lt_of_lt_of_le (not_le.1 h) (hlo.1 ⟨i.val, hi'⟩)
        · have := hhi.2 ⟨i.val - 4096, by omega⟩ (Fin.lt_def.2 (by simp only []; omega))
          have e : hi ⟨i.val - 4096, by omega⟩ = f i := congrArg f (Fin.ext (by simp; omega))
          exact e ▸ this
    rw [best_eq hb]; exact ⟨rfl, rfl⟩

/-- The fold of `min` from above over a table of reals is its least entry. -/
theorem fold_min {n : ℕ} [NeZero n] (f : Fin n → ℝ) :
    (Finset.univ : Finset (Fin n)).fold min (⊤ : EReal) (fun k => (f k : EReal)) = (f (best f) : EReal) := by
  apply le_antisymm
  · rw [Finset.fold_min_le]; exact .inr ⟨best f, Finset.mem_univ _, le_refl _⟩
  · rw [Finset.le_fold_min]; exact ⟨le_top, fun k _ => EReal.coe_le_coe_iff.2 ((best_spec f).1 k)⟩

/-- The least coordinate among a row's least entries, where the row's entries are reals. -/
theorem reduceIndex_row {a n : ℕ} [NeZero n] (hn : n ≤ 4096)
    (h : Shape.Reduces (⟨2, ![a, n]⟩ : Shape) [1] ⟨1, ![a]⟩) (x : (⟨2, ![a, n]⟩ : Shape).Idx → EReal) (i : Fin a)
    (hd : ∀ (r : Fin a) (k : Fin n), (h.drop (ix2 r k) = ix1 i ↔ r = i)) (f : Fin n → ℝ) (hx : ∀ k, x (ix2 i k) = (f k : EReal)) :
    Ideal.reduceIndex .argMin 1 h x (ix1 i) = BitVec.ofNat 32 (best f).val := by
  unfold Ideal.reduceIndex
  simp only [reduceCtorEq, if_false]
  congr 1
  have hmin : ((((Finset.univ.filter fun j : (⟨2, ![a, n]⟩ : Shape).Idx => h.drop j = ix1 i).filter
      fun j => ∀ j' ∈ Finset.univ.filter (fun j : (⟨2, ![a, n]⟩ : Shape).Idx => h.drop j = ix1 i), ¬ x j' < x j).image
      fun j => (j 1).val).min) = (((best f).val : ℕ) : WithTop ℕ) := by
    apply le_antisymm
    · refine Finset.min_le (Finset.mem_image.2 ⟨ix2 i (best f), ?_, rfl⟩)
      simp only [Finset.mem_filter, Finset.mem_univ, true_and]
      refine ⟨(hd _ _).2 rfl, fun j hj => ?_⟩
      obtain ⟨r, k, rfl⟩ : ∃ (r : Fin a) (k : Fin n), j = ix2 r k := ⟨j 0, j 1, eq_ix2 j⟩
      obtain rfl := (hd r k).1 hj
      rw [hx, hx, not_lt]
      exact EReal.coe_le_coe_iff.2 ((best_spec f).1 k)
    · refine Finset.le_min fun v hv => ?_
      obtain ⟨j, hj, rfl⟩ := Finset.mem_image.1 hv
      simp only [Finset.mem_filter, Finset.mem_univ, true_and] at hj
      obtain ⟨r, k, rfl⟩ : ∃ (r : Fin a) (k : Fin n), j = ix2 r k := ⟨j 0, j 1, eq_ix2 j⟩
      obtain rfl := (hd r k).1 hj.1
      refine WithTop.coe_le_coe.2 ?_
      by_contra hlt
      have hk : k < best f := not_le.1 hlt
      have := hj.2 (ix2 r (best f)) ((hd _ _).2 rfl)
      rw [hx, hx] at this
      exact this (EReal.coe_lt_coe_iff.2 ((best_spec f).2 k hk))
  exact (congrArg (fun o => Option.getD o 0) hmin).trans rfl

/-! ## The three results, as functions of the two arguments -/

section Results

/-- The rows of a [16, 1024, 32] array and of a table, as reals. -/
def realRows (x : (⟨3, ![16, 1024, 32]⟩ : Shape).Idx → EReal) (r : Fin 16384) (j : Fin 32) : ℝ :=
  (x (ix3 ⟨r.val / 1024, by omega⟩ ⟨r.val % 1024, Nat.mod_lt _ (by decide)⟩ j)).toReal
def realTable (e : (⟨2, ![8192, 32]⟩ : Shape).Idx → EReal) (k : Fin 8192) (j : Fin 32) : ℝ := (e (ix2 k j)).toReal

/-- The first nearest table row of each row, and its distance. -/
def near (u : Fin 16384 → Fin 32 → ℝ) (v : Fin 8192 → Fin 32 → ℝ) (r : Fin 16384) : Fin 8192 := best fun k => gap (u r) (v k)
def least (u : Fin 16384 → Fin 32 → ℝ) (v : Fin 8192 → Fin 32 → ℝ) (r : Fin 16384) : ℝ := gap (u r) (v (near u v r))

/-- The row at position `(a, b)`. -/
def posOf (a : Fin 16) (b : Fin 1024) : Fin 16384 := ⟨a.val * 1024 + b.val, by omega⟩

variable (x : (⟨3, ![16, 1024, 32]⟩ : Shape).Idx → EReal) (e : (⟨2, ![8192, 32]⟩ : Shape).Idx → EReal)

/-- Each position's index word, its nearest table row, and the mean of the least distances. -/
def wordsOf (j : (⟨2, ![16, 1024]⟩ : Shape).Idx) : BitVec 32 :=
  BitVec.ofNat 32 (near (realRows x) (realTable e) (posOf (j 0) (j 1))).val
def picksOf (j : (⟨3, ![16, 1024, 32]⟩ : Shape).Idx) : EReal := e (ix2 (near (realRows x) (realTable e) (posOf (j 0) (j 1))) (j 2))
def meanOf (_ : (⟨0, ![]⟩ : Shape).Idx) : EReal :=
  Ideal.div ((∑ r, least (realRows x) (realTable e) r : ℝ) : EReal) (Ideal.ofBits .f32 0x49000000#32)

/-- An extended real that is not infinite. -/
theorem coe_of_abs {a : EReal} (h : max a (-a) < ⊤) : ((a.toReal : ℝ) : EReal) = a := by
  refine EReal.coe_toReal (fun e => ?_) (fun e => ?_)
  · subst e; simp at h
  · subst e; simp at h

end Results

end Cert.Proof.WholeBest

end
-- ==== Proof.WholeNear.lean ====
module

public import proofs.«01_k».proof.Proof.WholeBest
public import proofs.«01_k».proof.Proof.Gen.KernelIdeal.Skeleton

@[expose] public section

set_option maxRecDepth 16384

/-!
  One point of the nearest-row call at `Ideal`, where the point's 512 rows and the table are real: the block of index
  words is each row's first nearest table row, and the partial sum is the sum of the least distances.
-/

noncomputable section

namespace Cert.Proof.Whole

open Cert.KernelIdeal Cert.KernelIdeal.Gen
open Cert.Proof.WholeBest
open Idealize.ShloMosaic

/-- The constant the table is scaled by. -/
theorem ofBits_neg_two : Ideal.ofBits .f32 0xC0000000#32 = ((-2 : ℝ) : EReal) := by
  simp [Ideal.ofBits, Ideal.ieee, -EReal.coe_mul, -EReal.coe_neg]; norm_num

theorem ofBits_top : Ideal.ofBits .f32 0x7F800000#32 = (⊤ : EReal) := by
  simp [Ideal.ofBits, Ideal.ieee]

/-- A choice by a decided condition. -/
theorem select_decide {α : Type} (p : Prop) [Decidable p] (a b : α) :
    Scalar.select (BitVec.ofBool (decide p)) a b = if p then a else b := by
  by_cases h : p <;> simp [Scalar.select, h]

/-- The word of the second half's entry. -/
theorem addi_4096 (n : ℕ) : IntOp.addi (BitVec.ofNat 32 n) 4096#32 = BitVec.ofNat 32 (4096 + n) := by
  rw [Nat.add_comm, BitVec.ofNat_add]
  unfold IntOp.addi
  rfl

/-- A comparison of two reals. -/
theorem cmpf_coe (a b : ℝ) : FloatOps.cmpf (F := Ideal) (φ := .f32) .ole (a : EReal) (b : EReal) = BitVec.ofBool (decide (a ≤ b)) :=
  congrArg BitVec.ofBool (decide_eq_decide.2 EReal.coe_le_coe_iff)

/-- A comparison whose left side was rounded to the shorter format: at `Ideal` the rounding is no change. -/
theorem cmpf_rounded (a b : FVec Ideal S512x1 .f32) (i : S512x1.Idx) :
    cmpf .ole (extf .f32 (truncf .bf16 a bitsLt_bf16_f32) bitsLt_bf16_f32) b i = FloatOps.cmpf .ole (a i) (b i) := rfl

variable (x : Vec Ideal S512x32 .f32) (e : Vec Ideal S8192x32 .f32)
variable (u : Fin 512 → Fin 32 → ℝ) (v : Fin 8192 → Fin 32 → ℝ)
variable (hx : ∀ i j, x (ix2 i j) = (u i j : EReal)) (he : ∀ k j, e (ix2 k j) = (v k j : EReal))

include hx he

/-- The distances of a point. -/
theorem pay5_at (i : Fin 512) (k : Fin 8192) :
    k0_pay5 (F := Ideal) x (k0_pay2 e) (k0_pay3 e) (ix2 i k) = (gap (u i) (v k) : EReal) := by
  pointwise [k0_pay5, k0_pay2, k0_pay3]
  simp only [hx, he, ofBits_neg_two]
  rw [gap_expand, EReal.coe_add, EReal.coe_add, coe_total, coe_total, coe_total]
  simp only [EReal.coe_mul]
  try simp

theorem pay6_at (i : Fin 512) (k : Fin 4096) :
    k0_pay6 (F := Ideal) x (k0_pay2 e) (k0_pay3 e) (ix2 i k) = (lower (fun k => gap (u i) (v k)) k : EReal) := by
  unfold lower
  rw [← pay5_at x e u v hx he]
  pointwise [k0_pay6]

theorem pay7_at (i : Fin 512) (k : Fin 4096) :
    k0_pay7 (F := Ideal) x (k0_pay2 e) (k0_pay3 e) (ix2 i k) = (upper (fun k => gap (u i) (v k)) k : EReal) := by
  unfold upper
  rw [← pay5_at x e u v hx he]
  pointwise [k0_pay7]

theorem pay8_at (i : Fin 512) (l : Fin 1) :
    k0_pay8 (F := Ideal) x (k0_pay2 e) (k0_pay3 e) (ix2 i l)
      = (lower (fun k => gap (u i) (v k)) (best (lower fun k => gap (u i) (v k))) : EReal) := by
  rw [← fold_min]
  pointwise [k0_pay8]
  simp only [pay6_at x e u v hx he, ofBits_top]

theorem pay9_at (i : Fin 512) (l : Fin 1) :
    k0_pay9 (F := Ideal) x (k0_pay2 e) (k0_pay3 e) (ix2 i l)
      = (upper (fun k => gap (u i) (v k)) (best (upper fun k => gap (u i) (v k))) : EReal) := by
  rw [← fold_min]
  pointwise [k0_pay9]
  simp only [pay7_at x e u v hx he, ofBits_top]

theorem pay10_at (i : Fin 512) (l : Fin 1) :
    k0_pay10 (F := Ideal) x (k0_pay2 e) (k0_pay3 e) (ix2 i l)
      = BitVec.ofBool (decide (lower (fun k => gap (u i) (v k)) (best (lower fun k => gap (u i) (v k)))
          ≤ upper (fun k => gap (u i) (v k)) (best (upper fun k => gap (u i) (v k))))) := by
  refine (cmpf_rounded (k0_pay8 x (k0_pay2 e) (k0_pay3 e)) (k0_pay9 x (k0_pay2 e) (k0_pay3 e)) (ix2 i l)).trans ?_
  rw [pay8_at x e u v hx he, pay9_at x e u v hx he]
  exact cmpf_coe _ _

/-- The value the point picks for a row: the row's least distance. -/
theorem picked_at (i : Fin 512) (l : Fin 1) :
    select (k0_pay10 (F := Ideal) x (k0_pay2 e) (k0_pay3 e)) (k0_pay8 (F := Ideal) x (k0_pay2 e) (k0_pay3 e))
      (k0_pay9 (F := Ideal) x (k0_pay2 e) (k0_pay3 e)) (ix2 i l)
      = (gap (u i) (v (best fun k => gap (u i) (v k))) : EReal) := by
  have hb := best_halves fun k => gap (u i) (v k)
  pointwise
  rw [pay8_at x e u v hx he, pay9_at x e u v hx he, pay10_at x e u v hx he, select_decide]
  split
  · exact congrArg _ (hb.1 ‹_›).2.symm
  · exact congrArg _ (hb.2 ‹_›).2.symm

/-- The partial sum of a point. -/
theorem pay13_eq : k0_pay13 (F := Ideal) x (k0_pay2 e) (k0_pay3 e)
      = ((∑ i : Fin 512, gap (u i) (v (best fun k => gap (u i) (v k))) : ℝ) : EReal) := by
  rw [coe_total]
  unfold k0_pay13
  simp only [extractAt]
  pointwise
  refine Finset.sum_congr rfl fun i _ => ?_
  have := picked_at x e u v hx he i 0
  simp at this ⊢
  exact this

omit hx he in
/-- A row's entries are those of its row. -/
theorem drop_row (i r : Fin 512) (k : Fin 4096) : reduces_S512x4096_S512.drop (ix2 r k) = ix1 i ↔ r = i := by
  rw [reduces_S512x4096_S512.fiber_r2_a1]
  constructor
  · rintro ⟨k', hk'⟩
    exact (congrFun hk' 0).symm
  · rintro rfl
    exact ⟨k, rfl⟩

theorem index_lower (i : Fin 512) :
    reduceIndex .argMin 1 S512 (k0_pay6 (F := Ideal) x (k0_pay2 e) (k0_pay3 e)) reduces_S512x4096_S512 (ix1 i)
      = BitVec.ofNat 32 (best (lower fun k => gap (u i) (v k))).val :=
  reduceIndex_row (by omega) reduces_S512x4096_S512 _ i (drop_row i) _ (pay6_at x e u v hx he i)

theorem index_upper (i : Fin 512) :
    reduceIndex .argMin 1 S512 (k0_pay7 (F := Ideal) x (k0_pay2 e) (k0_pay3 e)) reduces_S512x4096_S512 (ix1 i)
      = BitVec.ofNat 32 (best (upper fun k => gap (u i) (v k))).val :=
  reduceIndex_row (by omega) reduces_S512x4096_S512 _ i (drop_row i) _ (pay7_at x e u v hx he i)

/-- The index words of a point. -/
theorem pay11_at (i : Fin 512) (l : Fin 1) :
    k0_pay11 (F := Ideal) x (k0_pay2 e) (k0_pay3 e) (ix2 i l) = BitVec.ofNat 32 (best fun k => gap (u i) (v k)).val := by
  have hb := best_halves fun k => gap (u i) (v k)
  pointwise [k0_pay11]
  rw [pay10_at x e u v hx he, select_decide, index_lower x e u v hx he, index_upper x e u v hx he, addi_4096]
  split
  · exact congrArg _ (hb.1 ‹_›).1.symm
  · exact congrArg _ (hb.2 ‹_›).1.symm

end Cert.Proof.Whole

end
-- ==== Proof.WholeOuts.lean ====
module

public import proofs.«01_k».proof.Proof.WholeSweep
public import Idealize.ShloMosaic.Lib.Pipeline.ValueKit

@[expose] public section

set_option maxRecDepth 16384

/-!
  What the nearest-row call leaves after each of its 32 points: the block of index words of the point's 512 rows, the
  running sum of the least distances, and the two tables the first point prepares.
-/

noncomputable section

namespace Cert.Proof.Whole

open Cert.KernelIdeal Cert.KernelIdeal.Gen
open Idealize.ShloMosaic Idealize.ShloMosaic.TcCoe Idealize.SL.Sem

variable {F : FTy → Type} [FloatOps F]
variable (m : (c : Dev nD) → (b : Ref sig .tc) → Buf (Elt F) ((c : Thread nD τ).loc b))

/-- The state after the first point. -/
theorem state_first (c : Dev nD) (h : 0 < cfg0.N) :
    outsAt0 m c 0 h = (k0_pay11 (iblk m c 0 ⟨0, h⟩) (k0_pay2 (iblk m c 1 ⟨0, h⟩)) (k0_pay3 (iblk m c 1 ⟨0, h⟩)),
      k0_pay1 (k0_pay12 (k0_pay4 (F := F))) (k0_pay13 (iblk m c 0 ⟨0, h⟩) (k0_pay2 (iblk m c 1 ⟨0, h⟩)) (k0_pay3 (iblk m c 1 ⟨0, h⟩))),
      k0_pay2 (iblk m c 1 ⟨0, h⟩), k0_pay3 (iblk m c 1 ⟨0, h⟩)) := by
  refine (outsAt0_A m c ⟨0, h⟩ (Nat.zero_mod _)).trans ?_
  refine Prod.ext ?_ (Prod.ext ?_ (Prod.ext ?_ ?_))
  · dsimp only; frame_out
  · dsimp only; frame_out
  · dsimp only; frame_out
  · dsimp only; frame_out

/-- A later point's state from the one before it. -/
theorem state_later (c : Dev nD) (n : ℕ) (h : n + 1 < cfg0.N) :
    outsAt0 m c (n + 1) h = (k0_pay11 (iblk m c 0 ⟨n + 1, h⟩) (outsAt0 m c n (Nat.lt_of_succ_lt h)).2.2.1 (outsAt0 m c n (Nat.lt_of_succ_lt h)).2.2.2,
      k0_pay1 (k0_pay12 (outsAt0 m c n (Nat.lt_of_succ_lt h)).2.1)
        (k0_pay13 (iblk m c 0 ⟨n + 1, h⟩) (outsAt0 m c n (Nat.lt_of_succ_lt h)).2.2.1 (outsAt0 m c n (Nat.lt_of_succ_lt h)).2.2.2),
      (outsAt0 m c n (Nat.lt_of_succ_lt h)).2.2.1, (outsAt0 m c n (Nat.lt_of_succ_lt h)).2.2.2) := by
  have hN : n + 1 < 32 := lt_of_lt_of_eq h (show cfg0.N = 32 from N_0)
  have h0 : ¬ (n + 1) % 32 = 0 := by omega
  refine (outsAt0_succ m c n h).trans ?_
  generalize outsAt0 m c n _ = st
  refine (stAt0_B m c ⟨n + 1, h⟩ st h0).trans ?_
  refine Prod.ext ?_ (Prod.ext ?_ (Prod.ext ?_ ?_))
  · dsimp only; frame_out
    exact congr (congrArg (k0_pay11 _) ((Memref.isWhole_whole cc0_scratch0).read_unread _)) ((Memref.isWhole_whole cc0_scratch1).read_unread _)
  · dsimp only; frame_out
    exact congrArg (k0_pay1 _) (congr (congrArg (k0_pay13 _) ((Memref.isWhole_whole cc0_scratch0).read_unread _))
      ((Memref.isWhole_whole cc0_scratch1).read_unread _))
  · rfl
  · rfl

end Cert.Proof.Whole

end
-- ==== Proof.WholeForm.lean ====
module

public import proofs.«01_k».proof.Proof.WholeNear
public import proofs.«01_k».proof.Proof.WholeOuts

@[expose] public section

set_option maxRecDepth 16384

/-!
  What the nearest-row call leaves in its two results at `Ideal`, where its operands are real: at each row the first
  nearest table row's word, and the sum of the rows' least distances.
-/

noncomputable section

namespace Cert.Proof.Whole

open Cert.KernelIdeal Cert.KernelIdeal.Gen
open Cert.Proof.WholeBest
open Idealize.ShloMosaic Idealize.ShloMosaic.TcCoe Idealize.SL.Sem

/-- Row `i` of point `n`'s block. -/
def rowOf (n : ℕ) (i : Fin 512) : Fin 16384 := ⟨(512 * n + i.val) % 16384, Nat.mod_lt _ (by decide)⟩

section Blocks

variable {F : FTy → Type} [FloatOps F]
variable (m : (c : Dev nD) → (b : Ref sig .tc) → Buf (Elt F) ((c : Thread nD τ).loc b))

theorem n_pos : 0 < cfg0.N := lt_of_lt_of_eq (by decide) N_0.symm

theorem win_facts : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- The block of rows. -/
theorem iblk0_at (c : Dev nD) (t : Fin cfg0.N) (i : Fin 512) (j : Fin 32) :
    (iblk m c 0 t : Vec F S512x32 .f32) (ix2 i j) = (m c main_v0 : S16384x32.Idx → F .f32) (ix2 (rowOf t.val i) j) := by
  have ht : t.val < 32 := lt_of_lt_of_eq t.isLt (show cfg0.N = 32 from N_0)
  obtain ⟨e0, e1, -, -⟩ := win_facts t
  refine congrArg (m c main_v0 : S16384x32.Idx → F .f32) (funext fun a => Fin.ext ?_)
  match a with
  | 0 =>
    show win0_0.index t (0 : Fin 2) * 512 + 1 * i.val = (512 * t.val + i.val) % 16384
    have := i.isLt
    rw [e0]; omega
  | 1 =>
    show win0_0.index t (1 : Fin 2) * 32 + 1 * j.val = j.val
    rw [e1]; omega

/-- The table, whole at every point. -/
theorem iblk1_at (c : Dev nD) (t : Fin cfg0.N) (k : Fin 8192) (j : Fin 32) :
    (iblk m c 1 t : Vec F S8192x32 .f32) (ix2 k j) = (m c main_arg1 : S8192x32.Idx → F .f32) (ix2 k j) := by
  obtain ⟨-, -, e0, e1⟩ := win_facts t
  refine congrArg (m c main_arg1 : S8192x32.Idx → F .f32) (funext fun a => Fin.ext ?_)
  match a with
  | 0 =>
    show win0_1.index t (0 : Fin 2) * 8192 + 1 * k.val = k.val
    rw [e0]; omega
  | 1 =>
    show win0_1.index t (1 : Fin 2) * 32 + 1 * j.val = j.val
    rw [e1]; omega

end Blocks

section Values

variable (m : (c : Dev nD) → (b : Ref sig .tc) → Buf (Elt Ideal) ((c : Thread nD τ).loc b)) (c : Dev nD)
variable (u : Fin 16384 → Fin 32 → ℝ) (v : Fin 8192 → Fin 32 → ℝ)

/-- The sum of the least distances of the points up to `n`. -/
def lossTo (n : ℕ) : ℝ := ∑ t ∈ Finset.range (n + 1), ∑ i : Fin 512, least u v (rowOf t i)

theorem lossTo_all : lossTo u v 31 = ∑ r, least u v r := by
  unfold lossTo
  rw [Finset.sum_range]
  refine (Finset.sum_congr rfl fun t _ => ?_).trans (Fin.sum_mul_add_congr (F := fun (t : Fin 32) (i : Fin 512) => least u v (rowOf t.val i))
    (f := least u v) (fun t i h => ?_) (by decide))
  · rfl
  · refine congrArg (least u v) (Fin.ext ?_)
    show (512 * t.val + i.val) % 16384 = t.val * 512 + i.val
    omega

variable (hX : ∀ r j, (m c main_v0 : S16384x32.Idx → EReal) (ix2 r j) = (u r j : EReal))
variable (hE : ∀ k j, (m c main_arg1 : S8192x32.Idx → EReal) (ix2 k j) = (v k j : EReal))

include hX hE

theorem state_at (n : ℕ) (h : n < cfg0.N) :
    (∀ i l, ((outsAt0 m c n h).1 : IVec S512x1 32) (ix2 i l) = BitVec.ofNat 32 (near u v (rowOf n i)).val)
    ∧ (∀ j, ((outsAt0 m c n h).2.1 : FVec Ideal S1x1 .f32) j = (lossTo u v n : EReal))
    ∧ (outsAt0 m c n h).2.2.1 = k0_pay2 (iblk m c 1 ⟨0, n_pos⟩) ∧ (outsAt0 m c n h).2.2.2 = k0_pay3 (iblk m c 1 ⟨0, n_pos⟩) := by
  have hx (t : Fin cfg0.N) (i : Fin 512) (j : Fin 32) :
      (iblk m c 0 t : Vec Ideal S512x32 .f32) (ix2 i j) = ((fun i => u (rowOf t.val i)) i j : EReal) := (iblk0_at m c t i j).trans (hX _ _)
  have he (t : Fin cfg0.N) (k : Fin 8192) (j : Fin 32) :
      (iblk m c 1 t : Vec Ideal S8192x32 .f32) (ix2 k j) = (v k j : EReal) := (iblk1_at m c t k j).trans (hE _ _)
  induction n with
  | zero =>
    rw [state_first m c h]
    refine ⟨fun i l => ?_, fun j => ?_, rfl, rfl⟩
    · dsimp only
      rw [pay11_at _ _ (fun i => u (rowOf 0 i)) v (hx ⟨0, h⟩) (he ⟨0, h⟩)]
      rfl
    have e := pay13_eq _ _ (fun i => u (rowOf 0 i)) v (hx ⟨0, h⟩) (he ⟨0, h⟩)
    dsimp only
    rw [e]
    unfold lossTo
    rw [Finset.sum_range_one]
    pointwise [k0_pay1, k0_pay12, k0_pay4]
    rfl
  | succ n ih =>
    obtain ⟨-, hl, h2, h3⟩ := ih (Nat.lt_of_succ_lt h)
    rw [state_later m c n h]
    rw [h2, h3]
    refine ⟨fun i l => ?_, fun j => ?_, rfl, rfl⟩
    · dsimp only
      rw [pay11_at _ _ (fun i => u (rowOf (n + 1) i)) v (hx ⟨n + 1, h⟩) (he ⟨0, n_pos⟩)]
      rfl
    have e := pay13_eq _ _ (fun i => u (rowOf (n + 1) i)) v (hx ⟨n + 1, h⟩) (he ⟨0, n_pos⟩)
    dsimp only
    rw [e]
    unfold lossTo
    rw [Finset.sum_range_succ, EReal.coe_add]
    unfold k0_pay1 k0_pay12
    refine congrArg₂ (fun a b : EReal => a + b) ?_ rfl
    pointwise
    exact hl _

/-- The index words. -/
theorem G2_at (r : Fin 16384) (l : Fin 1) :
    (G2 m c : S16384x1.Idx → BitVec 32) (ix2 r l) = BitVec.ofNat 32 (near u v r).val := by
  have hr := r.isLt
  have hl := l.isLt
  have hp : pt2Of (ix2 r l) = r.val / 512 := by
    show 1 * (r.val / 512 - 0) + 1 * (l.val / 1 - 0) = _
    omega
  have hN : pt2Of (ix2 r l) < cfg0.N := by
    rw [hp]; exact lt_of_lt_of_eq (by omega) N_0.symm
  unfold G2
  rw [dif_pos hN, ← outsAt0_sweep m c _ hN]
  have hloc : loc2Of (ix2 r l) = ix2 ⟨r.val % 512, Nat.mod_lt _ (by decide)⟩ 0 := by
    funext a; apply Fin.ext
    match a with
    | 0 => rfl
    | 1 => show l.val % 1 = 0; omega
  rw [hloc]
  refine ((state_at m c u v hX hE _ hN).1 _ _).trans ?_
  have hrow : rowOf (pt2Of (ix2 r l)) ⟨r.val % 512, Nat.mod_lt _ (by decide)⟩ = r := by
    rw [hp]; apply Fin.ext
    show (512 * (r.val / 512) + r.val % 512) % 16384 = r.val
    omega
  rw [hrow]

/-- The sum of the least distances. -/
theorem G3_at (j : S1x1.Idx) : (G3 m c : S1x1.Idx → EReal) j = ((∑ r, least u v r : ℝ) : EReal) := by
  rw [G3_last, ← outsAt0_sweep m c 31 (lt_of_lt_of_eq (by decide) N_0.symm), ← lossTo_all u v]
  exact (state_at m c u v hX hE 31 _).2.1 j

end Values

end Cert.Proof.Whole

end
-- ==== Proof.WholeFinite.lean ====
module

public import proofs.«01_k».proof.Proof.WholeBest
public import proofs.«01_k».proof.Proof.Gen.Pre_finite_no_tie
public import Idealize.ShloMosaic.Lib.ReduceAll

@[expose] public section

set_option maxRecDepth 16384

/-!
  What the precondition says of the arguments at `Ideal`: every element is a real.
-/

noncomputable section

namespace Cert.Proof.WholeBest

open Cert.Pre_finite_no_tie Cert.Pre_finite_no_tie.Facts
open Idealize.ShloMosaic

theorem and_one {a b : BitVec 1} (h : IntOp.andi a b = 1#1) : a = 1#1 ∧ b = 1#1 := by
  revert a b; decide

/-- A comparison with infinity that holds. -/
theorem real_of_test {a : EReal}
    (h : FloatOps.cmpf (F := Ideal) (φ := .f32) .olt (max a (-a)) (Ideal.ofBits .f32 0x7F800000#32) = 1#1) : ((a.toReal : ℝ) : EReal) = a := by
  rw [Ideal.cmpf_def, show Ideal.ofBits .f32 0x7F800000#32 = (⊤ : EReal) by simp [Ideal.ofBits, Ideal.ieee]] at h
  refine coe_of_abs ?_
  by_contra hn
  simp [Ideal.cmp, hn] at h

variable (x : FVec Ideal S16x1024x32 .f32) (e : FVec Ideal S8192x32 .f32)

theorem finite_of_pre (h : Cert.Pre_finite_no_tie.fn (F := Ideal) x e = fun _ => 1#1) :
    (∀ i, (((x i : EReal).toReal : ℝ) : EReal) = x i) ∧ ∀ i, (((e i : EReal).toReal : ℝ) : EReal) = e i := by
  haveI : Subsingleton S_.Idx := ⟨fun a b => funext fun k => k.elim0⟩
  have h0 := congrFun h (fun k => k.elim0)
  unfold Cert.Pre_finite_no_tie.fn fn_part1 fn_part2 at h0
  have h1 := (and_one (and_one h0).1).1
  obtain ⟨hx, he⟩ := and_one h1
  exact ⟨fun i => real_of_test (Host.reduce_andi_all _ _ _ _ _ hx i), fun i => real_of_test (Host.reduce_andi_all _ _ _ _ _ he i)⟩

end Cert.Proof.WholeBest

end
-- ==== Proof.WholeValue.lean ====
module

public import proofs.«01_k».proof.Proof.WholeMain
public import proofs.«01_k».proof.Proof.WholeForm
public import proofs.«01_k».proof.Proof.WholeFinite
public import Idealize.ShloMosaic.Lib.KernelVsHost

@[expose] public section

set_option maxRecDepth 16384

/-!
  What the whole kernel leaves in its three results at `Ideal`, on arguments of reals: the index words, the rows they
  name, and the mean of the least distances.
-/

noncomputable section

namespace Cert.Proof.Whole

open Cert.KernelIdeal Cert.KernelIdeal.Gen
open Cert.Proof.WholeBest
open Idealize.ShloMosaic Idealize.ShloMosaic.TcCoe Idealize.SL.Sem
open Idealize.ShloMosaic.StableHlo

section Arrays

variable {F : FTy → Type} [FloatOps F]
variable (m : (ℓ : Loc nD τ sig) → Buf (Elt F) ℓ)

abbrev xOf (d : Dev nD) : S16x1024x32.Idx → F .f32 := m (d, dv main_arg0)
abbrev eOf (d : Dev nD) : S8192x32.Idx → F .f32 := m (d, dv main_arg1)
abbrev wOf (d : Dev nD) : S16384x1.Idx → BitVec 32 := G2 (mid m) d

theorem V1_flat (d : Dev nD) : V1 m d (dv main_v0) = shapeCast S16384x32 (xOf m d) shapeCasts_S16x1024x32_S16384x32 := by
  unfold V1 V0 opFlat
  after_results <;> rfl

theorem V1_arg0 (d : Dev nD) : V1 m d (dv main_arg0) = m (d, dv main_arg0) := by
  unfold V1 V0 opFlat
  after_results <;> rfl

theorem V1_arg1 (d : Dev nD) : V1 m d (dv main_arg1) = m (d, dv main_arg1) := by
  unfold V1 V0 opFlat
  after_results <;> rfl

theorem V3_arg0 (d : Dev nD) : V3 m d (dv main_arg0) = m (d, dv main_arg0) := by
  unfold V3 opZero opConv opPad opIdx
  simp only [TRef.binary, TRef.nullary, TRef.unary, TRef.toBuf, TRef.ofBuf, cast_eq]
  after_results
  rw [V2_ne m d (by decide) (by decide), V1_arg0]

theorem V3_arg1 (d : Dev nD) : V3 m d (dv main_arg1) = m (d, dv main_arg1) := by
  unfold V3 opZero opConv opPad opIdx
  simp only [TRef.binary, TRef.nullary, TRef.unary, TRef.toBuf, TRef.ofBuf, cast_eq]
  after_results
  rw [V2_ne m d (by decide) (by decide), V1_arg1]

theorem V3_words (d : Dev nD) : V3 m d (dv main_v1_0) = G2 (mid m) d := by
  unfold V3 opZero opConv opPad opIdx
  simp only [TRef.binary, TRef.nullary, TRef.unary, TRef.toBuf, TRef.ofBuf, cast_eq]
  after_results
  rw [V2_words]

theorem V3_sum (d : Dev nD) : V3 m d (dv main_v1_1) = G3 (mid m) d := by
  unfold V3 opZero opConv opPad opIdx
  simp only [TRef.binary, TRef.nullary, TRef.unary, TRef.toBuf, TRef.ofBuf, cast_eq]
  after_results
  rw [V2_sum]

theorem ixOf_eq (d : Dev nD) : ixOf m d = shapeCast S1x16384 (wOf m d) shapeCasts_S16384x1_S1x16384 := by
  have h := V2_words m d
  unfold ixOf V3 opZero opConv opPad opIdx
  simp only [TRef.binary, TRef.nullary, TRef.unary, TRef.toBuf, TRef.ofBuf, cast_eq]
  after_results
  exact congrArg (fun w => shapeCast S1x16384 w shapeCasts_S16384x1_S1x16384) h

theorem tbOf_eq (d : Dev nD) : tbOf m d = pad S8192x128 ![0, 0] ![0, 96] ![0, 0] (eOf m d)
    (sitofp (F := F) .f32 (constantI S_ 32 0#32)) pads_S8192x32_S8192x128_000_0960 h_S_ := by
  have h : V2 m d (dv main_arg1) = eOf m d := (V2_ne m d (by decide) (by decide)).trans (V1_arg1 m d)
  unfold tbOf V3 opZero opConv opPad opIdx
  simp only [TRef.binary, TRef.nullary, TRef.unary, TRef.toBuf, TRef.ofBuf, cast_eq]
  after_results
  exact congrArg (fun w => pad S8192x128 ![0, 0] ![0, 96] ![0, 0] w _ pads_S8192x32_S8192x128_000_0960 h_S_) h

theorem V5_arg0 (d : Dev nD) : V5 m d (dv main_arg0) = m (d, dv main_arg0) := by
  unfold V5 opCut opNone opSum opMany opMean opWords opFold
  after_results
  rw [V4_ne m d (by decide), V3_arg0]

theorem V5_arg1 (d : Dev nD) : V5 m d (dv main_arg1) = m (d, dv main_arg1) := by
  unfold V5 opCut opNone opSum opMany opMean opWords opFold
  after_results
  rw [V4_ne m d (by decide), V3_arg1]

theorem V5_v7 (d : Dev nD) : V5 m d (dv main_v7)
    = Host.divf (F := F) (φ := .f32) (Host.reduceAdd (G3 (mid m) d : Vec F S1x1 .f32) (constant S_ .f32 0x00000000#32) reducesTo_S1x1_S_d0_1 h_S_)
        (constant S_ .f32 0x49000000#32) := by
  have h : V4 m d (dv main_v1_1) = G3 (mid m) d := (V4_ne m d (by decide)).trans (V3_sum m d)
  unfold V5 opCut opNone opSum opMany opMean opWords opFold
  after_results
  exact congrArg (fun w => Host.divf (F := F) (φ := .f32) (Host.reduceAdd w (constant S_ .f32 0x00000000#32) reducesTo_S1x1_S_d0_1 h_S_)
    (constant S_ .f32 0x49000000#32)) h

theorem V5_v8 (d : Dev nD) : V5 m d (dv main_v8) = shapeCast S16x1024 (wOf m d) shapeCasts_S16384x1_S16x1024 := by
  have h : V4 m d (dv main_v1_0) = G2 (mid m) d := (V4_ne m d (by decide)).trans (V3_words m d)
  unfold V5 opCut opNone opSum opMany opMean opWords opFold
  after_results
  exact congrArg (fun w => shapeCast S16x1024 w shapeCasts_S16384x1_S16x1024) h

theorem V5_v9 (d : Dev nD) : V5 m d (dv main_v9)
    = shapeCast S16x1024x32 (extractStridedSlice S16384x32 ![0, 0] (tgt (tbOf m d) (ixOf m d)) slices_S16384x128_S16384x32_0_0)
        shapeCasts_S16384x32_S16x1024x32 := by
  have h := V4_out m d
  generalize tgt (tbOf m d) (ixOf m d) = g at h ⊢
  unfold V5 opCut opNone opSum opMany opMean opWords opFold
  after_results
  rw [h]
  rfl

/-- The words laid out as a row. -/
theorem word_row (w : S16384x1.Idx → BitVec 32) (n : Fin 16384) :
    word (shapeCast S1x16384 w shapeCasts_S16384x1_S1x16384) n = w (ix2 n 0) := by
  refine shapeCast_apply w _ _ _ ?_
  rw [Shape.rowMajor_val_two, Shape.rowMajor_val_two]
  show n.val * 1 + 0 = 0 * 16384 + n.val
  omega

/-- A padded table's entry below column 32. -/
theorem pad_entry {A : Type} (e : S8192x32.Idx → A) (z : S_.Idx → A) (n : Fin 8192) (l : Fin 128) (l' : Fin 32) (hl : l.val = l'.val) :
    entry (pad S8192x128 ![0, 0] ![0, 96] ![0, 0] e z pads_S8192x32_S8192x128_000_0960 h_S_) n l = e (ix2 n l') := by
  refine pad_apply_of_inside _ _ _ e z _ _ _ _ ?_
  intro a
  match a with
  | 0 => show n.val = 0 + n.val * (0 + 1); omega
  | 1 => show l.val = 0 + l'.val * (0 + 1); omega

theorem picks_of_tgt {A : Type} (e : S8192x32.Idx → A) (z : S_.Idx → A) (w : S16384x1.Idx → BitVec 32) (k : Fin 16384 → Fin 8192)
    (hw : ∀ r, w (ix2 r 0) = BitVec.ofNat 32 (k r).val) (a : Fin 16) (b : Fin 1024) (l : Fin 32) :
    shapeCast S16x1024x32 (extractStridedSlice S16384x32 ![0, 0]
      (tgt (pad S8192x128 ![0, 0] ![0, 96] ![0, 0] e z pads_S8192x32_S8192x128_000_0960 h_S_) (shapeCast S1x16384 w shapeCasts_S16384x1_S1x16384))
      slices_S16384x128_S16384x32_0_0) shapeCasts_S16384x32_S16x1024x32 (ix3 a b l) = e (ix2 (k (posOf a b)) l) := by
  refine (shapeCast_apply _ _ _ (ix2 (posOf a b) l : S16384x32.Idx) ?_).trans ?_
  · rw [Shape.rowMajor_val_two, Shape.rowMajor_val_three]; rfl
  · have hp : (⟨0 + (posOf a b).val, by have := (posOf a b).isLt; omega⟩ : Fin 16384) = posOf a b := Fin.ext (Nat.zero_add _)
    have hk := (k (posOf a b)).isLt
    refine (pad_entry e z _ _ l (Nat.zero_add _)).trans ?_
    refine congrArg (fun n => e (ix2 n l)) (Fin.ext ?_)
    refine (congrArg (fun v : BitVec 32 => v.toNat % 8192) ((word_row w _).trans ((congrArg (fun r => w (ix2 r 0)) hp).trans (hw _)))).trans ?_
    show (BitVec.ofNat 32 (k (posOf a b)).val).toNat % 8192 = _
    rw [BitVec.toNat_ofNat]; omega

end Arrays

section Results

variable (m : (ℓ : Loc nD τ sig) → Buf (Elt Ideal) ℓ)

/-- Every element of device `d`'s arguments is a real. -/
def Real (d : Dev nD) : Prop :=
  (∀ i, (((xOf m d i : EReal).toReal : ℝ) : EReal) = xOf m d i) ∧ ∀ i, (((eOf m d i : EReal).toReal : ℝ) : EReal) = eOf m d i

variable {m}

theorem flat_at {d : Dev nD} (h : Real m d) (r : Fin 16384) (j : Fin 32) :
    (mid m d main_v0 : S16384x32.Idx → EReal) (ix2 r j) = ((realRows (xOf m d) r j : ℝ) : EReal) := by
  refine (congrFun (V1_flat m d) _).trans ?_
  refine (shapeCast_apply _ _ _ (ix3 ⟨r.val / 1024, by omega⟩ ⟨r.val % 1024, Nat.mod_lt _ (by decide)⟩ j : S16x1024x32.Idx) ?_).trans (h.1 _).symm
  rw [Shape.rowMajor_val_two, Shape.rowMajor_val_three]
  show (r.val / 1024 * 1024 + r.val % 1024) * 32 + j.val = r.val * 32 + j.val
  omega

theorem table_at {d : Dev nD} (h : Real m d) (k : Fin 8192) (j : Fin 32) :
    (mid m d main_arg1 : S8192x32.Idx → EReal) (ix2 k j) = ((realTable (eOf m d) k j : ℝ) : EReal) :=
  (congrFun (V1_arg1 m d) _).trans (h.2 _).symm

theorem words_at {d : Dev nD} (h : Real m d) (r : Fin 16384) :
    wOf m d (ix2 r 0) = BitVec.ofNat 32 (near (realRows (xOf m d)) (realTable (eOf m d)) r).val :=
  G2_at (mid m) d _ _ (flat_at h) (table_at h) r 0

theorem small {d : Dev nD} (h : Real m d) (j : S1x16384.Idx) : (ixOf m d j).toNat < 8192 := by
  let r : Fin 16384 := j 1
  have e : ixOf m d j = BitVec.ofNat 32 (near (realRows (xOf m d)) (realTable (eOf m d)) r).val := by
    refine Eq.trans ?_ (words_at h r)
    rw [ixOf_eq]
    refine Eq.trans (congrArg _ (funext fun a => ?_)) (word_row (wOf m d) r)
    match a with
    | 0 => exact Subsingleton.elim (α := Fin 1) _ _
    | 1 => rfl
  have := (near (realRows (xOf m d)) (realTable (eOf m d)) r).isLt
  rw [e, BitVec.toNat_ofNat]
  omega

theorem result_picks {d : Dev nD} (h : Real m d) : V5 m d (dv main_v9) = picksOf (xOf m d) (eOf m d) := by
  rw [V5_v9, tbOf_eq, ixOf_eq]
  funext j
  rw [ValueIdx.eq_ix3 j]
  exact picks_of_tgt _ _ _ _ (words_at h) _ _ _

theorem result_words {d : Dev nD} (h : Real m d) : V5 m d (dv main_v8) = wordsOf (xOf m d) (eOf m d) := by
  rw [V5_v8]
  funext j
  refine (shapeCast_apply _ _ j (ix2 (posOf (j 0) (j 1)) 0 : S16384x1.Idx) ?_).trans (words_at h _)
  rw [Shape.rowMajor_val_two, Shape.rowMajor_val_two]
  show ((j 0).val * 1024 + (j 1).val) * 1 + 0 = (j 0).val * 1024 + (j 1).val
  omega

theorem result_mean {d : Dev nD} (h : Real m d) : V5 m d (dv main_v7) = meanOf (xOf m d) (eOf m d) := by
  rw [V5_v7]
  funext j
  have e : Host.reduceAdd (G3 (mid m) d : Vec Ideal S1x1 .f32) (constant (F := Ideal) S_ .f32 0x00000000#32) reducesTo_S1x1_S_d0_1 h_S_ j
      = ((∑ r, least (realRows (xOf m d)) (realTable (eOf m d)) r : ℝ) : EReal) := by
    have hg := G3_at (mid m) d _ _ (flat_at h) (table_at h)
    generalize (G3 (mid m) d : Vec Ideal S1x1 .f32) = g at hg ⊢
    pointwise []
    rw [Fin.sum_univ_one, Fin.sum_univ_one]
    exact hg _
  exact congrArg (fun t : EReal => Ideal.div t (Ideal.ofBits .f32 0x49000000#32)) e

theorem real_of_pre {d : Dev nD} (h : Cert.Pre_finite_no_tie.fn (F := Ideal) (xOf m d) (eOf m d) = fun _ => 1#1) : Real m d :=
  finite_of_pre _ _ h

/-- The kernel runs, leaves its arguments, and its results are the three functions of them. -/
theorem run_values (ρ : Dev nD → PrngReg) (h : ∀ d, Real m d) :
    θ_run (defs (F := Ideal)) (threads (F := Ideal)) ⟨m, fun _ => 0, ρ⟩ fun r =>
      (∀ c : Dev nD, ((r.2.mem (c, dv main_arg0) = m (c, dv main_arg0) ∧ r.2.mem (c, dv main_arg1) = m (c, dv main_arg1))
        ∧ r.2.mem (c, dv main_v7) = meanOf (xOf m c) (eOf m c)) ∧ r.2.mem (c, dv main_v8) = wordsOf (xOf m c) (eOf m c)
        ∧ r.2.mem (c, dv main_v9) = picksOf (xOf m c) (eOf m c)) ∧ r.2.sem = fun _ => 0 := by
  haveI : ∀ e, Nonempty (Elt Ideal e) := fun e => by cases e <;> first | exact ⟨(0 : EReal)⟩ | exact ⟨(0 : BitVec _)⟩
  refine (θ_run defs _ _).mono ?_ (run_main m ρ fun d j => small (h d) j)
  rintro r ⟨hr, hs⟩
  refine ⟨fun c => ?_, hs⟩
  obtain ⟨⟨⟨h0, h1⟩, h7⟩, h8, h9⟩ := hr c
  exact ⟨⟨⟨h0.trans (V5_arg0 m c), h1.trans (V5_arg1 m c)⟩, h7.trans (result_mean (h c))⟩, h8.trans (result_words (h c)), h9.trans (result_picks (h c))⟩

end Results

end Cert.Proof.Whole

end
-- ==== Proof.Refer.lean ====
module

public import proofs.«01_k».proof.Proof.WholeBest
public import proofs.«01_k».proof.Proof.Gen.ReferenceIdeal
public import Idealize.ShloMosaic.Lib.StableHlo.Run

@[expose] public section

set_option maxRecDepth 16384

/-!
  The reference's run: its host operations in four parts, and what each part leaves of what it is given.
-/

noncomputable section

namespace Cert.Proof.Refer

open Cert.ReferenceIdeal Cert.ReferenceIdeal.Gen
open Idealize.ShloMosaic Idealize.ShloMosaic.TcCoe Idealize.SL.Sem Idealize.ShloMosaic.StableHlo

variable {F : FTy → Type} [FloatOps F]

/-- The distances. -/
abbrev opsDist : List (HloOp τ sig (Elt F)) :=
  [ reshape main_arg0 main_v0 (rfl : (.f32 : EltTy) = .f32) shapeCasts_S16x1024x32_S16384x32,
    binary main_v0 main_v0 main_v1 (mulf : (⟨S16384x32, .f32⟩ : BufTy).Contents (Elt F) → (⟨S16384x32, .f32⟩ : BufTy).Contents (Elt F) → (⟨S16384x32, .f32⟩ : BufTy).Contents (Elt F)),
    nullary main_cst (constant S_ .f32 0x00000000#32),
    binary main_v1 main_cst main_v2 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v2 main_v3 (broadcastInDim S16384x1 ![0] bcast_S16384_S16384x1_0 : (⟨S16384, .f32⟩ : BufTy).Contents (Elt F) → (⟨S16384x1, .f32⟩ : BufTy).Contents (Elt F)),
    binary main_arg1 main_arg1 main_v4 (mulf : (⟨S8192x32, .f32⟩ : BufTy).Contents (Elt F) → (⟨S8192x32, .f32⟩ : BufTy).Contents (Elt F) → (⟨S8192x32, .f32⟩ : BufTy).Contents (Elt F)),
    nullary main_cst_0 (constant S_ .f32 0x00000000#32),
    binary main_v4 main_cst_0 main_v5 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_arg1 main_v6 ((transpose S32x8192 [1, 0] · transposes_S8192x32_S32x8192_1_0) : (⟨S8192x32, .f32⟩ : BufTy).Contents (Elt F) → (⟨S32x8192, .f32⟩ : BufTy).Contents (Elt F)),
    binary main_v0 main_v6 main_v7 ((fun l r => Host.dotGeneral dot_S16384x32_S32x8192_S16384x8192_1_0_0_1_n_n none l r) : (⟨S16384x32, .f32⟩ : BufTy).Contents (Elt F) → (⟨S32x8192, .f32⟩ : BufTy).Contents (Elt F) → (⟨S16384x8192, .f32⟩ : BufTy).Contents (Elt F)),
    nullary main_cst_1 (constant S_ .f32 0x40000000#32),
    unary main_cst_1 main_v8 (broadcastInDim S16384x8192 ![] bcast_S_S16384x8192 : (⟨S_, .f32⟩ : BufTy).Contents (Elt F) → (⟨S16384x8192, .f32⟩ : BufTy).Contents (Elt F)),
    binary main_v8 main_v7 main_v9 (mulf : (⟨S16384x8192, .f32⟩ : BufTy).Contents (Elt F) → (⟨S16384x8192, .f32⟩ : BufTy).Contents (Elt F) → (⟨S16384x8192, .f32⟩ : BufTy).Contents (Elt F)),
    unary main_v3 main_v10 (broadcastInDim S16384x8192 ![0, 1] bcast_S16384x1_S16384x8192_0_1 : (⟨S16384x1, .f32⟩ : BufTy).Contents (Elt F) → (⟨S16384x8192, .f32⟩ : BufTy).Contents (Elt F)),
    binary main_v10 main_v9 main_v11 (subf : (⟨S16384x8192, .f32⟩ : BufTy).Contents (Elt F) → (⟨S16384x8192, .f32⟩ : BufTy).Contents (Elt F) → (⟨S16384x8192, .f32⟩ : BufTy).Contents (Elt F)),
    unary main_v5 main_v12 (broadcastInDim S1x8192 ![1] bcast_S8192_S1x8192_1 : (⟨S8192, .f32⟩ : BufTy).Contents (Elt F) → (⟨S1x8192, .f32⟩ : BufTy).Contents (Elt F)),
    unary main_v12 main_v13 (broadcastInDim S16384x8192 ![0, 1] bcast_S1x8192_S16384x8192_0_1 : (⟨S1x8192, .f32⟩ : BufTy).Contents (Elt F) → (⟨S16384x8192, .f32⟩ : BufTy).Contents (Elt F)),
    binary main_v11 main_v13 main_v14 (addf : (⟨S16384x8192, .f32⟩ : BufTy).Contents (Elt F) → (⟨S16384x8192, .f32⟩ : BufTy).Contents (Elt F) → (⟨S16384x8192, .f32⟩ : BufTy).Contents (Elt F)) ]

/-- The first least of each row. -/
abbrev opsBest : List (HloOp τ sig (Elt F)) :=
  [ TRef.nullary (TRef.of (T := ⟨S16384x8192, .i32⟩) main_call0_v0) (iotaInDim S16384x8192 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x8192, .f32⟩) main_v14) (TRef.of (T := ⟨S16384x8192, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmin_f32_i32 x y u v reducesTo_S16384x8192_S16384_d1 h_S_ j).1),
    TRef.quaternary (TRef.of (T := ⟨S16384x8192, .f32⟩) main_v14) (TRef.of (T := ⟨S16384x8192, .i32⟩) main_call0_v0) (TRef.of (T := ⟨S_, .f32⟩) main_call0_cst) (TRef.of (T := ⟨S_, .i32⟩) main_call0_c) (TRef.of (T := ⟨S16384, .i32⟩) main_v15) (fun x y u v j => (Host.argReduce reducer_argmin_f32_i32 x y u v reducesTo_S16384x8192_S16384_d1 h_S_ j).2) ]

/-- The rows taken. -/
abbrev opsTake : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S16384, .i32⟩) main_call1_v0) (broadcastInDim S16384 ![] bcast_S_S16384),
    TRef.binary (TRef.of (T := ⟨S16384, .i32⟩) main_v15) (TRef.of (T := ⟨S16384, .i32⟩) main_call1_v0) (TRef.of (T := ⟨S16384, .i1⟩) main_call1_v1) (cmpi .slt),
    TRef.nullary (TRef.of (T := ⟨S_, .i32⟩) main_call1_c_0) (constantI S_ 32 8192#32),
    TRef.unary (TRef.of (T := ⟨S_, .i32⟩) main_call1_c_0) (TRef.of (T := ⟨S16384, .i32⟩) main_call1_v2) (broadcastInDim S16384 ![] bcast_S_S16384),
    TRef.binary (TRef.of (T := ⟨S16384, .i32⟩) main_v15) (TRef.of (T := ⟨S16384, .i32⟩) main_call1_v2) (TRef.of (T := ⟨S16384, .i32⟩) main_call1_v3) addi,
    TRef.ternary (TRef.of (T := ⟨S16384, .i1⟩) main_call1_v1) (TRef.of (T := ⟨S16384, .i32⟩) main_call1_v3) (TRef.of (T := ⟨S16384, .i32⟩) main_v15) (TRef.of (T := ⟨S16384, .i32⟩) main_call1_v4) select,
    TRef.unary (TRef.of (T := ⟨S16384, .i32⟩) main_call1_v4) (TRef.of (T := ⟨S16384x1, .i32⟩) main_call1_v5) (broadcastInDim S16384x1 ![0] bcast_S16384_S16384x1_0),
    TRef.nullary (TRef.of (T := ⟨S1, .i32⟩) main_call1_c_1) (constantI S1 32 8191#32),
    TRef.nullary (TRef.of (T := ⟨S_, .i32⟩) main_call1_c_2) (constantI S_ 32 0#32),
    TRef.unary (TRef.of (T := ⟨S_, .i32⟩) main_call1_c_2) (TRef.of (T := ⟨S16384x1, .i32⟩) main_call1_v6) (broadcastInDim S16384x1 ![] bcast_S_S16384x1),
    TRef.binary (TRef.of (T := ⟨S16384x1, .i32⟩) main_call1_v5) (TRef.of (T := ⟨S16384x1, .i32⟩) main_call1_v6) (TRef.of (T := ⟨S16384x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S16384x1, .i32⟩) main_call1_v9) (broadcastInDim S16384x1 ![0, 1] bcast_S1x1_S16384x1_0_1),
    TRef.binary (TRef.of (T := ⟨S16384x1, .i32⟩) main_call1_v5) (TRef.of (T := ⟨S16384x1, .i32⟩) main_call1_v9) (TRef.of (T := ⟨S16384x1, .i1⟩) main_call1_v10) (cmpi .sle),
    TRef.binary (TRef.of (T := ⟨S16384x1, .i1⟩) main_call1_v7) (TRef.of (T := ⟨S16384x1, .i1⟩) main_call1_v10) (TRef.of (T := ⟨S16384x1, .i1⟩) main_call1_v11) andi,
    TRef.nullary (TRef.of (T := ⟨S_, .i1⟩) main_call1_c_3) (constantI S_ 1 1#1),
    TRef.binary (TRef.of (T := ⟨S16384x1, .i1⟩) main_call1_v11) (TRef.of (T := ⟨S_, .i1⟩) main_call1_c_3) (TRef.of (T := ⟨S16384, .i1⟩) main_call1_v12) (fun x v => Host.reduce IntOp.andi x v reducesTo_S16384x1_S16384_d1 h_S_),
    TRef.binary (TRef.of (T := ⟨S8192x32, .f32⟩) main_arg1) (TRef.of (T := ⟨S16384x1, .i32⟩) main_call1_v5) (TRef.of (T := ⟨S16384x32, .f32⟩) main_call1_v13) (fun x i => Host.gather gather_S8192x32_S16384x1_S16384x32_1_0_n_n_0_1_132 x i),
    TRef.unary (TRef.of (T := ⟨S16384, .i1⟩) main_call1_v12) (TRef.of (T := ⟨S16384x32, .i1⟩) main_call1_v14) (broadcastInDim S16384x32 ![0] bcast_S16384_S16384x32_0),
    TRef.nullary (TRef.of (T := ⟨S_, .f32⟩) main_call1_cst) (constant S_ .f32 0x7FC00000#32),
    TRef.unary (TRef.of (T := ⟨S_, .f32⟩) main_call1_cst) (TRef.of (T := ⟨S16384x32, .f32⟩) main_call1_v15) (broadcastInDim S16384x32 ![] bcast_S_S16384x32),
    TRef.ternary (TRef.of (T := ⟨S16384x32, .i1⟩) main_call1_v14) (TRef.of (T := ⟨S16384x32, .f32⟩) main_call1_v13) (TRef.of (T := ⟨S16384x32, .f32⟩) main_call1_v15) (TRef.of (T := ⟨S16384x32, .f32⟩) main_v16) select ]

/-- The three results. -/
abbrev opsEnd : List (HloOp τ sig (Elt F)) :=
  [ reshape main_v16 main_v17 (rfl : (.f32 : EltTy) = .f32) shapeCasts_S16384x32_S16x1024x32,
    reshape main_v15 main_v18 (rfl : (.i32 : EltTy) = .i32) shapeCasts_S16384_S16x1024,
    binary main_v17 main_arg0 main_v19 (subf : (⟨S16x1024x32, .f32⟩ : BufTy).Contents (Elt F) → (⟨S16x1024x32, .f32⟩ : BufTy).Contents (Elt F) → (⟨S16x1024x32, .f32⟩ : BufTy).Contents (Elt F)),
    binary main_v19 main_v19 main_v20 (mulf : (⟨S16x1024x32, .f32⟩ : BufTy).Contents (Elt F) → (⟨S16x1024x32, .f32⟩ : BufTy).Contents (Elt F) → (⟨S16x1024x32, .f32⟩ : BufTy).Contents (Elt F)),
    nullary main_cst_2 (constant S_ .f32 0x00000000#32),
    binary main_v20 main_cst_2 main_v21 ((fun x v => Host.reduceAdd x v reducesTo_S16x1024x32_S_d0_1_2 h_S_) : (⟨S16x1024x32, .f32⟩ : BufTy).Contents (Elt F) → (⟨S_, .f32⟩ : BufTy).Contents (Elt F) → (⟨S_, .f32⟩ : BufTy).Contents (Elt F)),
    nullary main_cst_3 (constant S_ .f32 0x49000000#32),
    binary main_v21 main_cst_3 main_v22 (Host.divf : (⟨S_, .f32⟩ : BufTy).Contents (Elt F) → (⟨S_, .f32⟩ : BufTy).Contents (Elt F) → (⟨S_, .f32⟩ : BufTy).Contents (Elt F)),
    binary main_v17 main_arg0 main_v23 (subf : (⟨S16x1024x32, .f32⟩ : BufTy).Contents (Elt F) → (⟨S16x1024x32, .f32⟩ : BufTy).Contents (Elt F) → (⟨S16x1024x32, .f32⟩ : BufTy).Contents (Elt F)),
    binary main_arg0 main_v23 main_v24 (addf : (⟨S16x1024x32, .f32⟩ : BufTy).Contents (Elt F) → (⟨S16x1024x32, .f32⟩ : BufTy).Contents (Elt F) → (⟨S16x1024x32, .f32⟩ : BufTy).Contents (Elt F)) ]

abbrev ops : List (HloOp τ sig (Elt F)) := opsDist ++ (opsBest ++ (opsTake ++ opsEnd))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., reshape_bufs_sub .., binary_bufs_sub .., binary_bufs_sub .., nullary_bufs_sub .., binary_bufs_sub .., nullary_bufs_sub .., binary_bufs_sub .., binary_bufs_sub .., binary_bufs_sub ..⟩

theorem after_ops (V : Valuation τ sig (Elt F)) : after ops V = after opsEnd (after opsTake (after opsBest (after opsDist V))) := rfl

/-! ## What each part leaves -/

abbrev dv (b : Ref sig .tc) : DevRef τ sig := Proc.devRef .tc b

/-- The rows as one matrix. -/
def flatOf (x : FVec F S16x1024x32 .f32) : FVec F S16384x32 .f32 := shapeCast S16384x32 x shapeCasts_S16x1024x32_S16384x32

/-- The distances, by expanding the squares. -/
def distOf (x : FVec F S16x1024x32 .f32) (e : FVec F S8192x32 .f32) : FVec F S16384x8192 .f32 :=
  addf (subf (broadcastInDim S16384x8192 ![0, 1] bcast_S16384x1_S16384x8192_0_1 (broadcastInDim S16384x1 ![0] bcast_S16384_S16384x1_0
      (Host.reduceAdd (mulf (flatOf x) (flatOf x)) (constant S_ .f32 0x00000000#32) reducesTo_S16384x32_S16384_d1 h_S_)))
    (mulf (broadcastInDim S16384x8192 ![] bcast_S_S16384x8192 (constant S_ .f32 0x40000000#32))
      (Host.dotGeneral dot_S16384x32_S32x8192_S16384x8192_1_0_0_1_n_n none (flatOf x) (transpose S32x8192 [1, 0] e transposes_S8192x32_S32x8192_1_0))))
    (broadcastInDim S16384x8192 ![0, 1] bcast_S1x8192_S16384x8192_0_1 (broadcastInDim S1x8192 ![1] bcast_S8192_S1x8192_1
      (Host.reduceAdd (mulf e e) (constant S_ .f32 0x00000000#32) reducesTo_S8192x32_S8192_d1 h_S_)))

/-- The index of each row's first least. -/
def secondOf {A B : Type} (p : A × B) : B := p.2
def pairsOf (d : FVec F S16384x8192 .f32) : S16384.Idx → F .f32 × BitVec 32 :=
  Host.argReduce reducer_argmin_f32_i32 d (iotaInDim S16384x8192 32 1) (constant S_ .f32 0x7F800000#32) (constantI S_ 32 0#32)
    reducesTo_S16384x8192_S16384_d1 h_S_
def indexOf (d : FVec F S16384x8192 .f32) : IVec S16384 32 := fun j => secondOf (pairsOf d j)

/-- The index words, each wrapped once if negative. -/
def wrapped (w : IVec S16384 32) : IVec S16384x1 32 :=
  broadcastInDim S16384x1 ![0] bcast_S16384_S16384x1_0
    (select (cmpi .slt w (broadcastInDim S16384 ![] bcast_S_S16384 (constantI S_ 32 0#32)))
      (addi w (broadcastInDim S16384 ![] bcast_S_S16384 (constantI S_ 32 8192#32))) w)

/-- The table's rows at the words. -/
def takenOf (e : FVec F S8192x32 .f32) (w : IVec S16384 32) : FVec F S16384x32 .f32 :=
  select (broadcastInDim S16384x32 ![0] bcast_S16384_S16384x32_0
      (Host.reduce IntOp.andi (andi (cmpi .sge (wrapped w) (broadcastInDim S16384x1 ![] bcast_S_S16384x1 (constantI S_ 32 0#32)))
        (cmpi .sle (wrapped w) (broadcastInDim S16384x1 ![0, 1] bcast_S1x1_S16384x1_0_1
          (broadcastInDim S1x1 ![1] bcast_S1_S1x1_1 (constantI S1 32 8191#32)))))
        (constantI S_ 1 1#1) reducesTo_S16384x1_S16384_d1 h_S_))
    (Host.gather gather_S8192x32_S16384x1_S16384x32_1_0_n_n_0_1_132 e (wrapped w))
    (broadcastInDim S16384x32 ![] bcast_S_S16384x32 (constant S_ .f32 0x7FC00000#32))

def foldOf (q : FVec F S16384x32 .f32) : FVec F S16x1024x32 .f32 := shapeCast S16x1024x32 q shapeCasts_S16384x32_S16x1024x32
def gridOf (w : IVec S16384 32) : IVec S16x1024 32 := shapeCast S16x1024 w shapeCasts_S16384_S16x1024
def lossOf (x q : FVec F S16x1024x32 .f32) : FVec F S_ .f32 :=
  Host.divf (Host.reduceAdd (mulf (subf q x) (subf q x)) (constant S_ .f32 0x00000000#32) reducesTo_S16x1024x32_S_d0_1_2 h_S_)
    (constant S_ .f32 0x49000000#32)

variable (V : Valuation τ sig (Elt F))

theorem dist_v14 : after opsDist V (dv main_v14) = distOf (V (dv main_arg0)) (V (dv main_arg1)) := by
  after_results <;> rfl
theorem dist_arg0 : after opsDist V (dv main_arg0) = V (dv main_arg0) := by after_results
theorem dist_arg1 : after opsDist V (dv main_arg1) = V (dv main_arg1) := by after_results

theorem second_fun {J A B : Type} (f : J → A × B) : (fun j => (f j).2) = fun j => secondOf (f j) := rfl

theorem best_v15 : after opsBest V (dv main_v15) = indexOf (V (dv main_v14)) := by
  simp only [opsBest, TRef.binary, TRef.nullary, TRef.ternary, TRef.unary, TRef.quaternary, TRef.toBuf, TRef.ofBuf, cast_eq]
  after_results
  exact second_fun (pairsOf (V (dv main_v14)))
theorem best_arg0 : after opsBest V (dv main_arg0) = V (dv main_arg0) := by
  simp only [opsBest, TRef.binary, TRef.nullary, TRef.ternary, TRef.unary, TRef.quaternary, TRef.toBuf, TRef.ofBuf, cast_eq]
  after_results
theorem best_arg1 : after opsBest V (dv main_arg1) = V (dv main_arg1) := by
  simp only [opsBest, TRef.binary, TRef.nullary, TRef.ternary, TRef.unary, TRef.quaternary, TRef.toBuf, TRef.ofBuf, cast_eq]
  after_results

theorem take_v16 : after opsTake V (dv main_v16) = takenOf (V (dv main_arg1)) (V (dv main_v15)) := by
  simp only [opsTake, TRef.binary, TRef.nullary, TRef.ternary, TRef.unary, TRef.toBuf, TRef.ofBuf, cast_eq]
  after_results <;> rfl
theorem take_v15 : after opsTake V (dv main_v15) = V (dv main_v15) := by
  simp only [opsTake, TRef.binary, TRef.nullary, TRef.ternary, TRef.unary, TRef.toBuf, TRef.ofBuf, cast_eq]
  after_results
theorem take_arg0 : after opsTake V (dv main_arg0) = V (dv main_arg0) := by
  simp only [opsTake, TRef.binary, TRef.nullary, TRef.ternary, TRef.unary, TRef.toBuf, TRef.ofBuf, cast_eq]
  after_results
theorem take_arg1 : after opsTake V (dv main_arg1) = V (dv main_arg1) := by
  simp only [opsTake, TRef.binary, TRef.nullary, TRef.ternary, TRef.unary, TRef.toBuf, TRef.ofBuf, cast_eq]
  after_results

theorem end_v18 : after opsEnd V (dv main_v18) = gridOf (V (dv main_v15)) := by after_results <;> rfl
theorem end_v22 : after opsEnd V (dv main_v22) = lossOf (V (dv main_arg0)) (foldOf (V (dv main_v16))) := by after_results <;> rfl
theorem end_v24 : after opsEnd V (dv main_v24)
    = addf (F := F) (φ := .f32) (s := S16x1024x32) (V (dv main_arg0)) (subf (foldOf (V (dv main_v16))) (V (dv main_arg0))) := by after_results <;> rfl
theorem end_arg0 : after opsEnd V (dv main_arg0) = V (dv main_arg0) := by after_results
theorem end_arg1 : after opsEnd V (dv main_arg1) = V (dv main_arg1) := by after_results

/-! ## The run -/

variable (m : (ℓ : Loc nD τ sig) → Buf (Elt F) ℓ)

abbrev xOf (d : Dev nD) : FVec F S16x1024x32 .f32 := m (d, dv main_arg0)
abbrev eOf (d : Dev nD) : FVec F S8192x32 .f32 := m (d, dv main_arg1)

theorem run (ρ : Dev nD → PrngReg) :
    θ_run defs (onTc (τ := τ) (main (F := F))) ⟨m, fun _ => 0, ρ⟩ fun r =>
      (∀ c : Dev nD, (r.2.mem (c, dv main_arg0) = m (c, dv main_arg0) ∧ r.2.mem (c, dv main_arg1) = m (c, dv main_arg1))
        ∧ r.2.mem (c, dv main_v18) = gridOf (indexOf (distOf (xOf m c) (eOf m c)))
        ∧ r.2.mem (c, dv main_v22) = lossOf (xOf m c) (foldOf (takenOf (eOf m c) (indexOf (distOf (xOf m c) (eOf m c)))))
        ∧ r.2.mem (c, dv main_v24) = addf (F := F) (φ := .f32) (s := S16x1024x32) (xOf m c)
            (subf (foldOf (takenOf (eOf m c) (indexOf (distOf (xOf m c) (eOf m c))))) (xOf m c))) ∧ r.2.sem = fun _ => 0 := by
  refine (θ_run defs _ _).mono ?_ (run_seq scopedRefs_eq scopedSems_eq defs main (fun _ => ops) main_eq (fun _ => ops_sub) m ρ)
  intro r h
  refine ⟨fun c => ⟨⟨?_, ?_⟩, ?_, ?_, ?_⟩, sem_eq_zero_of_no_sems (by decide) r.2⟩
  · exact (h c main_arg0).trans (by rw [after_ops, end_arg0, take_arg0, best_arg0, dist_arg0])
  · exact (h c main_arg1).trans (by rw [after_ops, end_arg1, take_arg1, best_arg1, dist_arg1])
  · exact (h c main_v18).trans (by rw [after_ops, end_v18, take_v15, best_v15, dist_v14])
  · exact (h c main_v22).trans (by rw [after_ops, end_v22, take_arg0, best_arg0, dist_arg0, take_v16, best_arg1, dist_arg1, best_v15, dist_v14])
  · exact (h c main_v24).trans (by rw [after_ops, end_v24, take_arg0, best_arg0, dist_arg0, take_v16, best_arg1, dist_arg1, best_v15, dist_v14])

end Cert.Proof.Refer

end
-- ==== Proof.Words.lean ====
module

public import proofs.«01_k».proof.Proof.Gen.GatherIdeal
public import proofs.«01_k».proof.Proof.Gen.GatherIdeal.Skeleton

@[expose] public section

/-!
# The gather kernel's words

Tile `s` of a SparseCore walks eight blocks, `8 s` to `8 s + 7`. The pipeline carries five words from trip to trip:
how many index blocks it has asked for, how many it has waited for, how many row blocks it has written out, how many
of those writes it has waited for, and the trip's own place. At trip `t` they are `t + 1` (at most eight), `t`, `t`, `t - 1` (zero at
the first trip) and `t mod 8`. Here each condition and each offset of the body is read off those five words.
-/

namespace Cert.Proof.Words

open Cert.GatherIdeal Cert.GatherIdeal.Gen
open Idealize.ShloMosaic

/-- The five words before trip `t`. -/
def acc (t : ℕ) : BitVec 32 × BitVec 32 × BitVec 32 × BitVec 32 × BitVec 32 :=
  (BitVec.ofNat 32 (min (t + 1) 8), BitVec.ofNat 32 t, BitVec.ofNat 32 t, BitVec.ofNat 32 (t - 1), BitVec.ofNat 32 (t % 8))

theorem trips_eq : k0_t1_loop.trips = 8 := by decide

/-! ## The checks -/

set_option maxRecDepth 65536 in
theorem chk1 : ∀ (i : grid0.Coords) (t : Fin k0_t1_loop.trips),
    k0_chk1 i t (acc t).1 (acc t).2.1 (acc t).2.2.1 (acc t).2.2.2.1 (acc t).2.2.2.2 := by decide +kernel
theorem chk2 : ∀ t : Fin k0_t1_loop.trips, k0_chk2 (acc t).2.2.1 := by decide +kernel
theorem chk3 : ∀ t : Fin k0_t1_loop.trips, k0_chk3 (acc t).2.1 := by decide +kernel
theorem chk4 : k0_chk4 (acc 8).2.2.2.1 := by decide +kernel
theorem chk5 : ∀ i : grid0.Coords, k0_chk5 i (acc 8).2.2.2.2 := by decide +kernel

/-! ## The conditions -/

theorem cond1 : ∀ (i : grid0.Coords) (t : Fin k0_t1_loop.trips),
    k0_cond1 i t (acc t).2.2.2.2 = 1#1 ↔ t.val < 7 := by decide +kernel
theorem cond2 : ∀ (i : grid0.Coords) (t : Fin k0_t1_loop.trips), k0_cond2 i t (acc t).2.2.2.2 = 1#1 := by decide +kernel
theorem cond5 : ∀ (i : grid0.Coords) (t : Fin k0_t1_loop.trips), k0_cond5 i t (acc t).2.2.2.2 = 1#1 := by decide +kernel
theorem cond7 : ∀ (i : grid0.Coords) (t : Fin k0_t1_loop.trips),
    k0_cond7 i t (acc t).2.2.2.2 = 1#1 ↔ 0 < t.val := by decide +kernel

/-! ## The offsets -/

theorem off4 : ∀ t : Fin k0_t1_loop.trips, k0_off4 (acc t).1 = ![(t.val + 1) % 2, 0, 0] := by decide +kernel
theorem off5 : ∀ (i : grid0.Coords) (t : Fin k0_t1_loop.trips), t.val < 7 →
    k0_off5 i (acc t).2.2.2.2 = ![0, 128 * (8 * (i 1).val + (t.val + 1))] := by decide +kernel
theorem off6 : ∀ t : Fin k0_t1_loop.trips, k0_off6 (acc t).1 = ![(t.val + 1) % 2] := by decide +kernel
theorem off7 : ∀ t : Fin k0_t1_loop.trips, k0_off7 (acc t).2.1 = ![t.val % 2, 0, 0] := by decide +kernel
theorem off9 : ∀ t : Fin k0_t1_loop.trips, k0_off9 (acc t).2.1 = ![t.val % 2] := by decide +kernel
theorem off10 : ∀ t : Fin k0_t1_loop.trips, k0_off10 (acc t).2.2.1 = ![t.val % 2, 0, 0] := by decide +kernel
theorem off11 : ∀ t : Fin k0_t1_loop.trips, k0_off11 (acc t).2.1 = ![t.val % 2, 0, 0] := by decide +kernel
theorem off12 : ∀ t : Fin k0_t1_loop.trips, k0_off12 (acc t).2.2.1 = ![t.val % 2, 0, 0] := by decide +kernel
theorem off13 : ∀ (i : grid0.Coords) (t : Fin k0_t1_loop.trips),
    k0_off13 i (acc t).2.2.2.2 = ![128 * (8 * (i 1).val + t.val), 0] := by decide +kernel
theorem off14 : ∀ t : Fin k0_t1_loop.trips, k0_off14 (acc t).2.2.1 = ![t.val % 2] := by decide +kernel
theorem off17 : ∀ t : Fin k0_t1_loop.trips, 0 < t.val → k0_off17 (acc t).2.2.2.1 = ![(t.val + 1) % 2] := by decide +kernel
theorem off20 : k0_off20 (acc 8).2.2.2.1 = ![1] := by decide +kernel

/-! ## The words after a trip -/

theorem step : ∀ (i : grid0.Coords) (t : Fin k0_t1_loop.trips),
    let arg5 := Scf.iv 0#32 1#32 t
    let a := acc t
    let v0 := Scalar.muli (BitVec.ofNat 32 (i 1).val) 8#32
    let v60 : BitVec 1 := Scalar.cmpi .eq arg5 0#32
    let v61 : BitVec 1 := Scalar.cmpi .eq arg5 7#32
    let v62 : BitVec 32 := Scalar.addi a.2.2.2.2 v0
    let v63 : BitVec 32 := Scalar.subi a.2.2.2.2 1#32
    let v64 : BitVec 32 := Scalar.select 1#1 v63 a.2.2.2.2
    let v66 : BitVec 32 := Scalar.select (Scalar.cmpi .eq v64 4294967295#32) 7#32 v64
    let v67 : BitVec 32 := Scalar.addi v66 v0
    let v69 : BitVec 32 := Scalar.select 1#1 (Scalar.addi a.2.2.2.2 1#32) a.2.2.2.2
    let v71 : BitVec 32 := Scalar.select (Scalar.cmpi .eq v69 8#32) 0#32 v69
    let v72 : BitVec 32 := Scalar.addi v71 v0
    let v81 : BitVec 1 := Scalar.andi (Scalar.cmpi .ne v62 v72) (Scalar.xori (Scalar.cmpi .sge arg5 7#32) 1#1)
    let v87 : BitVec 32 := Scalar.select (Scalar.andi v81 1#1) (Scalar.addi a.1 1#32) a.1
    let v112 : BitVec 1 := Scalar.ori (Scalar.cmpi .ne v62 v72) v61
    let v117 : BitVec 32 := Scalar.select (Scalar.andi v112 1#1) (Scalar.addi a.2.2.1 1#32) a.2.2.1
    let v126 : BitVec 1 := Scalar.andi (Scalar.cmpi .ne v62 v67) (Scalar.xori v60 1#1)
    let v131 : BitVec 32 := Scalar.select (Scalar.andi v126 1#1) (Scalar.addi a.2.2.2.1 1#32) a.2.2.2.1
    let v135 : BitVec 32 := Scalar.select (Scalar.ori (Scalar.cmpi .ne v62 v72) v61) (Scalar.addi a.2.1 1#32) a.2.1
    let v137 : BitVec 32 := Scalar.select 1#1 (Scalar.addi a.2.2.2.2 1#32) a.2.2.2.2
    let v139 : BitVec 32 := Scalar.select (Scalar.cmpi .eq v137 8#32) 0#32 v137
    (v87, v135, v117, v131, v139) = acc (t.val + 1) := by
  decide +kernel

end Cert.Proof.Words
-- ==== Proof.Setup.lean ====
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.WriteMode
public import Idealize.ShloMosaic.Lib.Tactic

@[expose] public section

/-!
# The gather's arrays and views

A SparseCore tile holds two index slots of 128 words and two row slots of 128 rows, one of each per parity of the
trip. Block `b` of the 128 blocks of the index array is its words `128 b` to `128 b + 127`; block `b` of the output is
its rows of the same numbers. Here are these views, the elements under them, and what the gather is to leave in the
output: row `n` is the table's row named by index `n`.

Tile `s` of either SparseCore writes the same eight blocks of the output. The output is therefore held in write mode:
every holder has agreed on the value each element is to come to, and may write that value and no other.
-/

noncomputable section

namespace Cert.Proof.Rows

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the write mode's cells, the transfers' counters -/

abbrev UH : Type := URounds (GSem nD τ sig) ℕ
abbrev UW (F : FTy → Type) : Type := WmRA nD τ sig (Elt F)
abbrev UU (F : FTy → Type) : Type := UH × (UW F × Counters)

local notation "𝕄" => MT nD τ sig (HIx 1) (Elt F) ℕ (UU F) ℕ

abbrev EH : Emb UH (MT nD τ sig (HIx 1) (Elt F) ℕ (UU F) ℕ) := embL
/-- Where the write mode's cells sit. -/
abbrev wemb (F : FTy → Type) : UEmb (UW F) (UU F) :=
  (UEmb.inl : UEmb (UW F) (UW F × Counters)).trans UEmb.inr

/-! ## Places -/

abbrev xLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

abbrev cV (L : grid0.Coords) : Fin τ.nSC := (L 0).castLE hcore0
abbrev jV (L : grid0.Coords) : Fin τ.nSub := (L 1).castLE hsub0
/-- The thread of tile `L 1` of SparseCore `L 0`. -/
abbrev thr (d : Dev nD) (L : grid0.Coords) : Thread nD τ := V d (cV L) (jV L)

abbrev xV : Memref sig .scVector .hbm S8192x128 .f32 := Memref.whole main_v0_scv
abbrev iV : Memref sig .scVector .hbm S1x16384 .i32 := Memref.whole main_v1_scv
abbrev oV : Memref sig .scVector .hbm S16384x128 .f32 := Memref.whole main_v2_scv
abbrev sV : Memref sig .scVector .vmem S2x1x128 .i32 := Memref.whole cc0_scoped0
abbrev rV : Memref sig .scVector .vmem S2x128x128 .f32 := Memref.whole cc0_scoped2

/-! ## Views at an offset -/

abbrev xAll : Memref sig .scVector .hbm S8192x128 .f32 :=
  xV.slice (Rect.unit (s := S8192x128) ![0, 0] S8192x128.size inb_S8192x128_S8192x128_0_0) (fun _ => rfl)
abbrev inAt (o : Fin 3 → ℕ) (h : ∀ a, o a + S1x1x128.size a ≤ S2x1x128.size a) : Memref sig .scVector .vmem S1x128 .i32 :=
  (sV.slice (Rect.unit (s := S2x1x128) o S1x1x128.size h) (fun _ => rfl)).squeeze S1x128 squeezes_S1x1x128_S1x128
abbrev outAt (o : Fin 3 → ℕ) (h : ∀ a, o a + S1x128x128.size a ≤ S2x128x128.size a) : Memref sig .scVector .vmem S128x128 .f32 :=
  (rV.slice (Rect.unit (s := S2x128x128) o S1x128x128.size h) (fun _ => rfl)).squeeze S128x128 squeezes_S1x128x128_S128x128
abbrev idxAt (o : Fin 2 → ℕ) (h : ∀ a, o a + S1x128.size a ≤ S1x16384.size a) : Memref sig .scVector .hbm S1x128 .i32 :=
  iV.slice (Rect.unit (s := S1x16384) o S1x128.size h) (fun _ => rfl)
abbrev dstAt (o : Fin 2 → ℕ) (h : ∀ a, o a + S128x128.size a ≤ S16384x128.size a) : Memref sig .scVector .hbm S128x128 .f32 :=
  oV.slice (Rect.unit (s := S16384x128) o S128x128.size h) (fun _ => rfl)
abbrev semAt (v : DmaSems sig S2) (o : Fin 1 → ℕ) (h : ∀ a, o a + S1.size a ≤ S2.size a) : DmaSem sig :=
  ((v.slice (Rect.unit (s := S2) o S1.size h)).squeeze S_ squeezes_S1_S_).sem

theorem in_inb (k : Fin 2) : ∀ a, (![k.val, 0, 0] : Fin 3 → ℕ) a + S1x1x128.size a ≤ S2x1x128.size a := by
  revert k; decide
theorem out_inb (k : Fin 2) : ∀ a, (![k.val, 0, 0] : Fin 3 → ℕ) a + S1x128x128.size a ≤ S2x128x128.size a := by
  revert k; decide
theorem idx_inb (b : Fin 128) : ∀ a, (![0, 128 * b.val] : Fin 2 → ℕ) a + S1x128.size a ≤ S1x16384.size a := by
  revert b; decide
theorem dst_inb (b : Fin 128) : ∀ a, (![128 * b.val, 0] : Fin 2 → ℕ) a + S128x128.size a ≤ S16384x128.size a := by
  revert b; decide
theorem sem_inb (k : Fin 2) : ∀ a, (![k.val] : Fin 1 → ℕ) a + S1.size a ≤ S2.size a := by
  revert k; decide

/-- Index slot `k`, row slot `k`, block `b` of the indices, block `b` of the output, semaphore `k` of an array. -/
abbrev inS (k : Fin 2) : Memref sig .scVector .vmem S1x128 .i32 := inAt ![k.val, 0, 0] (in_inb k)
abbrev outS (k : Fin 2) : Memref sig .scVector .vmem S128x128 .f32 := outAt ![k.val, 0, 0] (out_inb k)
abbrev idxB (b : Fin 128) : Memref sig .scVector .hbm S1x128 .i32 := idxAt ![0, 128 * b.val] (idx_inb b)
abbrev dstB (b : Fin 128) : Memref sig .scVector .hbm S128x128 .f32 := dstAt ![128 * b.val, 0] (dst_inb b)
abbrev semS (v : DmaSems sig S2) (k : Fin 2) : DmaSem sig := semAt v ![k.val] (sem_inb k)

/-- The list of row numbers in index slot `k`, as the indirect copy addresses it. -/
abbrev offsAt (o : Fin 3 → ℕ) (h : ∀ a, o a + S1x1x128.size a ≤ S2x1x128.size a) : Memref sig .scVector .vmem S128 .i32 :=
  ((inAt o h).slice (Rect.unit (s := S1x128) ![0, 0] S1x128.size inb_S1x128_S1x128_0_0) (fun _ => rfl)).squeeze S128 squeezes_S1x128_S128
abbrev offsS (k : Fin 2) : Memref sig .scVector .vmem S128 .i32 := offsAt ![k.val, 0, 0] (in_inb k)

/-! ## Sets of rows of the output -/

/-- The output's elements in rows `a` to `c - 1`. -/
def rowsOf (a c : ℕ) : Finset S16384x128.Idx := Finset.univ.filter fun j => a ≤ (j 0).val ∧ (j 0).val < c

theorem mem_rowsOf {a c : ℕ} {j : S16384x128.Idx} : j ∈ rowsOf a c ↔ a ≤ (j 0).val ∧ (j 0).val < c := by
  simp [rowsOf]

theorem rowsOf_union {a b c : ℕ} (h₁ : a ≤ b) (h₂ : b ≤ c) : rowsOf a b ∪ rowsOf b c = rowsOf a c := by
  ext j; simp only [Finset.mem_union, mem_rowsOf]; omega

theorem rowsOf_disjoint {a b c e : ℕ} (h : b ≤ c) : Disjoint (rowsOf a b) (rowsOf c e) :=
  Finset.disjoint_left.mpr fun j h₁ h₂ => by rw [mem_rowsOf] at h₁ h₂; omega

theorem rowsOf_empty {a c : ℕ} (h : c ≤ a) : rowsOf a c = ∅ :=
  Finset.eq_empty_of_forall_notMem fun j hj => by rw [mem_rowsOf] at hj; omega

theorem rowsOf_univ : rowsOf 0 16384 = Finset.univ :=
  Finset.eq_univ_of_forall fun j => mem_rowsOf.mpr ⟨Nat.zero_le _, (j 0).isLt⟩

theorem set_dstB (b : Fin 128) : (dstB b).view.set = rowsOf (128 * b.val) (128 * b.val + 128) := by
  show ((View.whole (main_v2_scv : Ref sig .scVector)).slice _).set = _
  rw [View.set_slice]
  ext j
  rw [show (Finset.map (View.whole (main_v2_scv : Ref sig .scVector)).emb _) = _ from Finset.map_refl]
  rw [Rect.mem_set_unit, mem_rowsOf]
  constructor
  · intro h; exact h 0
  · intro h a
    match a with
    | 0 => exact h
    | 1 => exact ⟨Nat.zero_le _, by have := (j 1).isLt; exact (Nat.zero_add _).symm ▸ this⟩

theorem set_xAll : (xAll).view.set = Finset.univ := by
  show ((View.whole (main_v0_scv : Ref sig .scVector)).slice _).set = _
  rw [View.set_slice]
  refine (Finset.map_refl).trans ?_
  refine Finset.eq_univ_of_forall fun j => Rect.mem_set_unit.mpr fun a => ?_
  match a with
  | 0 => exact ⟨Nat.zero_le _, by have := (j 0).isLt; exact (Nat.zero_add _).symm ▸ this⟩
  | 1 => exact ⟨Nat.zero_le _, by have := (j 1).isLt; exact (Nat.zero_add _).symm ▸ this⟩

theorem set_offsS (k : Fin 2) : (offsS k).view.set = (inS k).view.set := by
  show (((inS k).view.slice (Rect.unit (s := S1x128) ![0, 0] S1x128.size inb_S1x128_S1x128_0_0)).reshape S128 squeezes_S1x128_S128.numel_eq).set = _
  rw [View.set_reshape, View.set_slice]
  rw [show (Rect.unit (s := S1x128) ![0, 0] S1x128.size inb_S1x128_S1x128_0_0).set = Finset.univ from ?_]; · rfl
  refine Finset.eq_univ_of_forall fun j => Rect.mem_set_unit.mpr fun a => ?_
  match a with
  | 0 => exact ⟨Nat.zero_le _, by have := (j 0).isLt; exact (Nat.zero_add _).symm ▸ this⟩
  | 1 => exact ⟨Nat.zero_le _, by have := (j 1).isLt; exact (Nat.zero_add _).symm ▸ this⟩

/-! ## The two slots are the scratch -/

theorem sdiv : 2 ∣ S2x1x128.size 0 := ⟨1, rfl⟩
theorem rdiv : 2 ∣ S2x128x128.size 0 := ⟨1, rfl⟩

theorem inRect_eq (k : Fin 2) : Rect.unit (s := S2x1x128) ![k.val, 0, 0] S1x1x128.size (in_inb k) = Rect.part (s := S2x1x128) (a₀ := 0) sdiv k := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem outRect_eq (k : Fin 2) : Rect.unit (s := S2x128x128) ![k.val, 0, 0] S1x128x128.size (out_inb k) = Rect.part (s := S2x128x128) (a₀ := 0) rdiv k := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem set_inS (k : Fin 2) : (inS k).view.set = (Rect.part (s := S2x1x128) (a₀ := 0) sdiv k).set := by
  show (((View.whole (cc0_scoped0 : Ref sig .scVector)).slice (Rect.unit (s := S2x1x128) ![k.val, 0, 0] S1x1x128.size (in_inb k))).reshape S1x128 squeezes_S1x1x128_S1x128.numel_eq).set = _
  rw [View.set_reshape, View.set_slice]
  exact Finset.map_refl.trans (congrArg (fun r : Rect S2x1x128 => r.set) (inRect_eq k))

theorem set_outS (k : Fin 2) : (outS k).view.set = (Rect.part (s := S2x128x128) (a₀ := 0) rdiv k).set := by
  show (((View.whole (cc0_scoped2 : Ref sig .scVector)).slice (Rect.unit (s := S2x128x128) ![k.val, 0, 0] S1x128x128.size (out_inb k))).reshape S128x128 squeezes_S1x128x128_S128x128.numel_eq).set = _
  rw [View.set_reshape, View.set_slice]
  exact Finset.map_refl.trans (congrArg (fun r : Rect S2x128x128 => r.set) (outRect_eq k))

theorem inS_disjoint : Disjoint (inS 0).view.set (inS 1).view.set := by
  rw [set_inS, set_inS]; exact Rect.part_disjoint sdiv (by decide)
theorem outS_disjoint : Disjoint (outS 0).view.set (outS 1).view.set := by
  rw [set_outS, set_outS]; exact Rect.part_disjoint rdiv (by decide)
theorem inS_cover : (inS 0).view.set ∪ (inS 1).view.set = Finset.univ := by
  rw [set_inS, set_inS, ← Rect.biUnion_part sdiv]; ext; simp [Fin.exists_fin_two]
theorem outS_cover : (outS 0).view.set ∪ (outS 1).view.set = Finset.univ := by
  rw [set_outS, set_outS, ← Rect.biUnion_part rdiv]; ext; simp [Fin.exists_fin_two]

/-! ## What the gather leaves -/

/-- Word `n` of the index array, and the table's row it names. -/
abbrev word (ix : S1x16384.Idx → BitVec 32) (n : Fin 16384) : BitVec 32 := ix fun | 0 => ⟨0, Nat.one_pos⟩ | 1 => n
/-- Element `l` of the table's row `n`. -/
abbrev entry {A : Type} (tb : S8192x128.Idx → A) (n : Fin 8192) (l : Fin 128) : A := tb fun | 0 => n | 1 => l
/-- Row `n` of the output is the table's row at index `n` (taken below the table's height). -/
def tgt {A : Type} (tb : S8192x128.Idx → A) (ix : S1x16384.Idx → BitVec 32) (j : S16384x128.Idx) : A :=
  entry tb ⟨(word ix (j 0)).toNat % 8192, Nat.mod_lt _ (by decide)⟩ (j 1)

end Cert.Proof.Rows
-- ==== Proof.Reads.lean ====
module

public import proofs.«01_k».proof.Proof.Setup

@[expose] public section

/-!
# What a trip's copies move

Once index slot `k` reads as block `b` of the indices, the indirect copy's payload is block `b` of the target.
-/

noncomputable section

namespace Cert.Proof.Rows

open Cert.GatherIdeal Cert.GatherIdeal.Gen
open Idealize.ShloMosaic

variable {F : FTy → Type}

/-- The place of word `y` of a block of 128 indices. -/
abbrev wordIx (y : S128.Idx) : S1x128.Idx := fun | 0 => ⟨0, Nat.one_pos⟩ | 1 => y 0

theorem emb_offsS (k : Fin 2) (y : S128.Idx) : (offsS k).view.emb y = (inS k).view.emb (wordIx y) := by
  refine congrArg (inS k).view.emb ?_
  show (Rect.unit (s := S1x128) ![0, 0] S1x128.size inb_S1x128_S1x128_0_0).emb (Shape.reshapeEquiv _ y) = wordIx y
  have e : Shape.reshapeEquiv (s := S1x128) (s' := S128) squeezes_S1x128_S128.numel_eq y = wordIx y :=
    Shape.reshapeEquiv_eq_of_rowMajor _ (by
      rw [Shape.rowMajor_val_one, Shape.rowMajor_val_two]
      show 0 * 128 + (y 0).val = (y 0).val
      omega)
  rw [e]
  funext a
  refine Fin.ext ?_
  rw [Rect.emb_apply]
  match a with
  | 0 => rfl
  | 1 => show 0 + 1 * (y 0).val = (y 0).val; omega

theorem emb_idxB (b : Fin 128) (y : S128.Idx) :
    (idxB b).view.emb (wordIx y) = fun | 0 => ⟨0, Nat.one_pos⟩ | 1 => ⟨128 * b.val + (y 0).val, by
      have h := (y 0).isLt; have hb := b.isLt; change _ < 128 at h; show _ < 16384; omega⟩ := by
  funext a
  refine Fin.ext ?_
  show ((Rect.unit (s := S1x16384) ![0, 128 * b.val] S1x128.size (idx_inb b)).emb (wordIx y) a : ℕ) = _
  rw [Rect.emb_apply]
  match a with
  | 0 => rfl
  | 1 => show 128 * b.val + 1 * (y 0).val = 128 * b.val + (y 0).val; omega

/-- A word of the list in slot `k`, when the slot reads as block `b` of the indices. -/
theorem read_offsS (ix : S1x16384.Idx → BitVec 32) (k : Fin 2) (b : Fin 128) (fo : S2x1x128.Idx → BitVec 32)
    (h : (inS k).view.read (Elt F) fo = (idxB b).view.read (Elt F) ix) (y : S128.Idx) :
    (offsS k).view.read (Elt F) fo y = word ix ⟨128 * b.val + (y 0).val, by
      have h := (y 0).isLt; have hb := b.isLt; change _ < 128 at h; show _ < 16384; omega⟩ := by
  have h' := congrFun h (wordIx y)
  have e₁ : (offsS k).view.read (Elt F) fo y = (inS k).view.read (Elt F) fo (wordIx y) := by
    rw [View.read_apply, View.read_apply, emb_offsS]
  rw [e₁, h']
  show ix ((idxB b).view.emb (wordIx y)) = _
  rw [emb_idxB]
  refine congrArg ix (funext fun a => ?_)
  match a with
  | 0 => rfl
  | 1 => rfl

theorem inRange_offsS (ix : S1x16384.Idx → BitVec 32) (hix : ∀ j, (ix j).toNat < 8192) (k : Fin 2) (b : Fin 128) (fo : S2x1x128.Idx → BitVec 32)
    (h : (inS k).view.read (Elt F) fo = (idxB b).view.read (Elt F) ix) (y : S128.Idx) :
    ((offsS k).view.read (Elt F) fo y).toNat < S8192x128.size gathers_S8192x128_S128x128.axis := by
  rw [read_offsS ix k b fo h y]; exact hix _

theorem rowMajor_symm_S128 (n : Fin S128.numel) : ((S128.rowMajor.symm n) 0).val = n.val := by
  have h := Shape.rowMajor_val_one (d := ![128]) (S128.rowMajor.symm n)
  rw [← h]; exact congrArg Fin.val (Equiv.apply_symm_apply _ _)

theorem emb_dstB (b : Fin 128) (x : S128x128.Idx) :
    (dstB b).view.emb x = fun | 0 => ⟨128 * b.val + (x 0).val, by
      have h := (x 0).isLt; have hb := b.isLt; change _ < 128 at h; show _ < 16384; omega⟩ | 1 => x 1 := by
  funext a
  refine Fin.ext ?_
  show ((Rect.unit (s := S16384x128) ![128 * b.val, 0] S128x128.size (dst_inb b)).emb x a : ℕ) = _
  rw [Rect.emb_apply]
  match a with
  | 0 => show 128 * b.val + 1 * (x 0).val = 128 * b.val + (x 0).val; omega
  | 1 => show 0 + 1 * (x 1).val = (x 1).val; omega

theorem emb_xAll (x : S8192x128.Idx) : (xAll).view.emb x = x := by
  funext a
  refine Fin.ext ?_
  show ((Rect.unit (s := S8192x128) ![0, 0] S8192x128.size inb_S8192x128_S8192x128_0_0).emb x a : ℕ) = _
  rw [Rect.emb_apply]
  match a with
  | 0 => show 0 + 1 * (x 0).val = _; omega
  | 1 => show 0 + 1 * (x 1).val = _; omega

/-- Block `b` of what the gather is to leave. -/
abbrev blockOf (tb : S8192x128.Idx → F .f32) (ix : S1x16384.Idx → BitVec 32) (b : Fin 128) : S128x128.Idx → Elt F .f32 :=
  (dstB b).view.read (Elt F) (tgt tb ix)

/-- The indirect copy's payload, its list being block `b` of the indices: block `b` of the target. -/
theorem payload_eq (tb : S8192x128.Idx → F .f32) (ix : S1x16384.Idx → BitVec 32) (hix : ∀ j, (ix j).toNat < 8192)
    (k : Fin 2) (b : Fin 128) (fo : S2x1x128.Idx → BitVec 32)
    (h : (inS k).view.read (Elt F) fo = (idxB b).view.read (Elt F) ix)
    (hn : S128.numel = S128x128.size gathers_S8192x128_S128x128.axis')
    (hin : ∀ y, ((offsS k).view.read (Elt F) fo y).toNat < S8192x128.size gathers_S8192x128_S128x128.axis) :
    SparseCore.gatherPayload (F := F) (e := .f32) gathers_S8192x128_S128x128 ((xAll).view.read (Elt F) tb)
      (SparseCore.rows (F := F) ((offsS k).view.read (Elt F) fo) hn hin) = blockOf tb ix b := by
  funext x
  show tb ((xAll).view.emb _) = tgt tb ix ((dstB b).view.emb x)
  rw [emb_xAll, emb_dstB]
  unfold tgt
  refine congrArg tb (funext fun a => Fin.ext ?_)
  match a with
  | 0 =>
    refine (congrArg Fin.val (Shape.Gathers.idx_axis gathers_S8192x128_S128x128 _ x)).trans ?_
    show ((offsS k).view.read (Elt F) fo (S128.rowMajor.symm _)).toNat = _ % 8192
    rw [read_offsS ix k b fo h, Nat.mod_eq_of_lt (hix _)]
    refine congrArg (fun n => (word ix n).toNat) (Fin.ext ?_)
    show 128 * b.val + _ = 128 * b.val + (x 0).val
    rw [rowMajor_symm_S128]; rfl
  | 1 => exact Shape.Gathers.idx_of_ne gathers_S8192x128_S128x128 _ x 1 (by decide)

end Cert.Proof.Rows
-- ==== Proof.Steps.lean ====
module

public import proofs.«01_k».proof.Proof.Reads

@[expose] public section

/-!
# The five steps of a trip

A tile asks for an index block, waits for it, gathers the rows it names and waits for them, asks for the rows to be
written out, and waits for that. Each step is stated at offsets `o` the program computed, with the equation that says
which slot or block `o` is.
-/

noncomputable section

namespace Cert.Proof.Rows

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

/-! ## A transfer into elements held in write mode -/

section Mark

/-- A copy whose destination is held in write mode, at any share: at its wait the destination comes back with every
    element marked, and the source. -/
theorem wp_dmaMark {Λ : Labels} {defs : Defs nD τ sig (Elt F) Λ} {α : Type} {Q : α → sProp 𝕄} (c : Thread nD τ) {sp sp' : Space} {s : Shape} {e : EltTy}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {q qd : PosShare TreeShare} {fs : Buf (Elt F) (src.view.loc c)}
    {fd : Buf (Elt F) (dst.view.loc c)} {g : Tgt (Elt F) (dst.view.loc c)} {W : Finset (Idx (dst.view.loc c))} {ιwm : ℕ}
    (N : ℕ) (hN : dst.view.amount sm = N) (hN0 : 0 < N)
    (hadm : dst.view.Admitted (Elt F) g (src.view.read (Elt F) fs) Finset.univ) :
    iprop((src.view.loc c ↦[src.view.set]{q} fs) ∗ wmInv (wemb F) ιwm ∗ willBeTo (wemb F) (dst.view.loc c) dst.view.set qd fd g W ∗ semVal (c, sm) 0)
      ⊢ iprop((Transfers.Flight countersEmb c sm (default : HIx 1) N
                  iprop(willBeTo (wemb F) (dst.view.loc c) dst.view.set qd fd g (W ∪ dst.view.set) ∗ (src.view.loc c ↦[src.view.set]{q} fs))
              -∗ wp frame (wpE defs 𝒱₀ c none) Set.univ (k ⟨⟩) Q)
          -∗ wp frame (wpE defs 𝒱₀ c none) Set.univ (.op (.enqueueDma src (.here dst) sm hsrc hdst hsem) k) Q : sProp 𝕄) := by
  iintro ⟨Hs, Hinv, Hd, Hv⟩ Hk
  imod (Transfers.flight_alloc countersEmb hN0 iprop(willBeTo (wemb F) (dst.view.loc c) dst.view.set qd fd g (W ∪ dst.view.set)
      ∗ (src.view.loc c ↦[src.view.set]{q} fs)) (g := (c, sm))) $$ Hv with ⟨%γ, %δ, %κ, #Hfl, Hγ, Hδ⟩
  iapply (wp_enqueueDma_willBeTo 𝒱₀ c none Set.univ (default : HIx 1) N hN hadm) $$ [Hs Hinv Hd] [Hγ]
  · isplitl [Hs]; · iexact Hs
    isplitl [Hinv] <;> iassumption
  · iapply (Transfers.flight_creditUpdate countersEmb (δ := δ))
    isplitr; · iexact Hfl
    iexact Hγ
  iintro Hcred
  iapply Hk
  iapply (Transfers.flight_intro countersEmb c (κ := κ))
  isplitr; · iexact Hfl
  isplitl [Hδ] <;> iassumption

end Mark

/-! ## What a tile holds -/

section Tile

variable (d : Dev nD) (L : grid0.Coords)
variable (tb : S8192x128.Idx → F .f32) (ix : S1x16384.Idx → BitVec 32) (f0 : S16384x128.Idx → F .f32)
variable (qx qi qo : PosShare TreeShare) (ιwm : ℕ)

/-- The part of the tile's share of the indices that goes with slot `k`. -/
def half (q : PosShare TreeShare) (k : Fin 2) : PosShare TreeShare := if k.val = 0 then q.left else q.right

abbrev inPts (k : Fin 2) (f : Buf (Elt F) ((inS k).view.loc (thr d L))) : sProp 𝕄 :=
  (inS k).view.loc (thr d L) ↦[(inS k).view.set]{fullShare} f
abbrev outPts (k : Fin 2) (f : Buf (Elt F) ((outS k).view.loc (thr d L))) : sProp 𝕄 :=
  (outS k).view.loc (thr d L) ↦[(outS k).view.set]{fullShare} f
/-- The output's elements in `I` in write mode at the tile's share, marked on `W`. -/
abbrev mkPts (I W : Finset S16384x128.Idx) : sProp 𝕄 :=
  willBeTo (wemb F) (oLoc d) I qo f0 (fun j => some (tgt tb ix j)) W

/-- Index slot `k` idle. -/
def InFree (k : Fin 2) : sProp 𝕄 :=
  iprop((∃ f, inPts d L k f) ∗ (iLoc d ↦{half qi k} ix) ∗ semVal (thr d L, .dma (semS cc0_scoped1 k)) 0)
/-- Index slot `k` about to hold block `b`. -/
def InFly (k : Fin 2) (b : Fin 128) : sProp 𝕄 :=
  iprop(Transfers.Flight countersEmb (thr d L) (.dma (semS cc0_scoped1 k)) (default : HIx 1) (inS k).view.dmaCredit
      iprop((∃ f, ⌜(inS k).view.read (Elt F) f = (idxB b).view.read (Elt F) ix⌝ ∗ inPts d L k f) ∗ (iLoc d ↦[(idxB b).view.set]{half qi k} ix))
    ∗ (iLoc d ↦[Finset.univ \ (idxB b).view.set]{half qi k} ix))
/-- Index slot `k` holding block `b`. -/
def InHas (k : Fin 2) (b : Fin 128) : sProp 𝕄 :=
  iprop((∃ f, ⌜(inS k).view.read (Elt F) f = (idxB b).view.read (Elt F) ix⌝ ∗ inPts d L k f)
    ∗ (iLoc d ↦{half qi k} ix) ∗ semVal (thr d L, .dma (semS cc0_scoped1 k)) 0)

/-- Row slot `k` idle; holding block `b` of the target; being written out as block `b`. -/
def OutFree (k : Fin 2) : sProp 𝕄 :=
  iprop((∃ f, outPts d L k f) ∗ semVal (thr d L, .dma (semS cc0_scoped3 k)) 0)
def OutHas (k : Fin 2) (b : Fin 128) : sProp 𝕄 :=
  iprop((∃ f, ⌜(outS k).view.read (Elt F) f = blockOf tb ix b⌝ ∗ outPts d L k f) ∗ semVal (thr d L, .dma (semS cc0_scoped3 k)) 0)
def OutFly (k : Fin 2) (b : Fin 128) : sProp 𝕄 :=
  Transfers.Flight countersEmb (thr d L) (.dma (semS cc0_scoped3 k)) (default : HIx 1) (dstB b).view.dmaCredit
    iprop(mkPts d tb ix f0 qo (dstB b).view.set Finset.univ ∗ ∃ f, outPts d L k f)

variable [FloatOps F]

/-! ## The steps -/

theorem step_askIdx {α : Type} {Q : α → sProp 𝕄} {k : Fin 2} {b : Fin 128} {o₁ : Fin 2 → ℕ} {o₂ : Fin 3 → ℕ} {o₃ : Fin 1 → ℕ} {h₁ h₂ h₃}
    (e₁ : o₁ = ![0, 128 * b.val]) (e₂ : o₂ = ![k.val, 0, 0]) (e₃ : o₃ = ![k.val])
    {hs : (idxAt o₁ h₁).view.WordExact} {hd : (inAt o₂ h₂).view.WordExact} {ht : DmaTarget.Typed (nD := nD) (p := (thr d L).2) _ (.dma (semAt cc0_scoped1 o₃ h₃)) (.here (inAt o₂ h₂))}
    {kk : PUnit → Prog (TpuEff nD τ sig (Elt F) Λ₀ (thr d L).2) α} :
    InFree d L ix qi k ⊢ iprop((InFly d L ix qi k b -∗ wp frame (wpE (defs₀ (F := F)) 𝒱₀ (thr d L) none) Set.univ (kk ⟨⟩) Q)
      -∗ wp frame (wpE (defs₀ (F := F)) 𝒱₀ (thr d L) none) Set.univ
          (.op (.enqueueDma (idxAt o₁ h₁) (.here (inAt o₂ h₂)) (.dma (semAt cc0_scoped1 o₃ h₃)) hs hd ht) kk) Q : sProp 𝕄) := by
  subst e₁ e₂ e₃
  unfold InFree InFly
  iintro ⟨⟨%f, Hf⟩, Hi, Hv⟩ Hk
  ihave Hi' := (pointsTo_split_subset (ℓ := iLoc d) (q := half qi k) (f := ix) (S := Finset.univ) (Finset.subset_univ (idxB b).view.set)).1 $$ Hi
  icases Hi' with ⟨Hi, Hr⟩
  iapply (Transfers.wp_dmaLocal countersEmb 𝒱₀ (thr d L) none (default : HIx 1) (inS k).view.dmaCredit rfl
      (View.dmaCredit_pos _ (by decide)) subset_rfl) $$ [Hf Hi Hv]
  · isplitl [Hi]; · iexact Hi
    isplitl [Hf]; · iexact Hf
    iexact Hv
  iintro Hfl
  iapply Hk
  isplitr [Hr]; swap; · iexact Hr
  iapply (Transfers.Flight_mono countersEmb (thr d L) ?_) $$ Hfl
  iintro ⟨Ha, Hb⟩
  isplitl [Ha]
  · iexists _; isplitr; swap; · iexact Ha
    ipureintro; exact View.read_write_univ _ _
  · iexact Hb

theorem step_waitIdx {α : Type} {Q : α → sProp 𝕄} {k : Fin 2} {b : Fin 128} {o₁ : Fin 2 → ℕ} {o₂ : Fin 3 → ℕ} {o₃ : Fin 1 → ℕ} {h₁ h₂ h₃}
    (e₃ : o₃ = ![k.val])
    {hs : (idxAt o₁ h₁).view.WordExact} {hd : (inAt o₂ h₂).view.WordExact}
    {kk : PUnit → Prog (TpuEff nD τ sig (Elt F) Λ₀ (thr d L).2) α} {O : CellTallies nD τ sig (HIx 1)} {W : Waits sig (HIx 1)} :
    iprop(Transfers.MayWaits (thr d L) (default : HIx 1) O ∗ InFly d L ix qi k b ∗ owes (thr d L) O W)
      ⊢ iprop((iprop(InHas d L ix qi k b ∗ owes (thr d L) O (insert (.dma (semS cc0_scoped1 k), default) W))
          -∗ wp frame (wpE (defs₀ (F := F)) 𝒱₀ (thr d L) none) Set.univ (kk ⟨⟩) Q)
      -∗ wp frame (wpE (defs₀ (F := F)) 𝒱₀ (thr d L) none) Set.univ
          (.op (.waitDma2 (semAt cc0_scoped1 o₃ h₃) (idxAt o₁ h₁) (inAt o₂ h₂) hs hd) kk) Q : sProp 𝕄) := by
  subst e₃
  unfold InFly InHas
  iintro ⟨#Hmw, ⟨Hfl, Hr⟩, HO⟩ Hk
  iapply (Transfers.wp_waitLocalO countersEmb 𝒱₀ (thr d L) none (default : HIx 1) (rfl : (inAt o₂ h₂).view.dmaCredit = _)) $$ [Hfl HO]
  · isplitl [Hfl]; · iexact Hfl
    isplitl [HO]; · iexact HO
    iapply (Transfers.MayWaits.elim (SemLoc.dma (semS cc0_scoped1 k))) $$ Hmw
  iintro ⟨⟨Hf, Hi⟩, Hv, HO⟩
  iapply Hk
  isplitr [HO]; swap; · iexact HO
  isplitl [Hf]; · iexact Hf
  isplitr [Hv]; swap; · iexact Hv
  iapply (pointsTo_split_subset (ℓ := iLoc d) (q := half qi k) (f := ix) (S := Finset.univ) (Finset.subset_univ (idxB b).view.set)).2
  isplitl [Hi] <;> iassumption

theorem gather_credit (k : Fin 2) : ∑ j, ((outS k).slice (S128x128.rowRect gathers_S8192x128_S128x128.axis' j)
    (S128x128.stride_rowRect gathers_S8192x128_S128x128.axis' j)).view.dmaCredit = (outS k).view.dmaCredit := by
  revert k; decide +kernel

/-- The gather of slot `k`'s list into row slot `k`, and its wait. -/
theorem step_gather {α : Type} {Q : α → sProp 𝕄} (hix : ∀ j, (ix j).toNat < 8192) {k : Fin 2} {b : Fin 128} {o₁ o₂ o₄ : Fin 3 → ℕ} {h₁ h₂ h₄}
    (e₁ : o₁ = ![k.val, 0, 0]) (e₂ : o₂ = ![k.val, 0, 0])
    {hs : (xAll).view.WordExact} {hd : (outAt o₄ h₄).view.WordExact}
    {kk : PUnit → Prog (TpuEff nD τ sig (Elt F) Λ₀ (thr d L).2) α} {O : CellTallies nD τ sig (HIx 1)} {W : Waits sig (HIx 1)} :
    iprop(Transfers.MayWaits (thr d L) (default : HIx 1) O ∗ (xLoc d ↦{qx} tb) ∗ InHas d L ix qi k b ∗ OutFree d L k
        ∗ semVal (thr d L, .dma cc0_scoped4.sem) 0 ∗ owes (thr d L) O W)
      ⊢ iprop((iprop((xLoc d ↦{qx} tb) ∗ InFree d L ix qi k ∗ OutHas d L tb ix k b ∗ semVal (thr d L, .dma cc0_scoped4.sem) 0
            ∗ owes (thr d L) O (insert (.dma cc0_scoped4.sem, default) W))
          -∗ wp frame (wpE (defs₀ (F := F)) 𝒱₀ (thr d L) none) Set.univ (kk ⟨⟩) Q)
      -∗ wp frame (wpE (defs₀ (F := F)) 𝒱₀ (thr d L) none) Set.univ
          (SparseCore.enqueueIndirectGather rfl xAll (outAt o₂ h₂) gathers_S8192x128_S128x128 (offsAt o₁ h₁) rfl cc0_scoped4.sem (View.wordExact_bits rfl) rfl (Or.inl rfl)
            >>= fun _ => SparseCore.waitIndirectGather cc0_scoped4.sem xAll (outAt o₄ h₄) hs hd >>= kk) Q : sProp 𝕄) := by
  subst e₁ e₂
  unfold InHas OutFree InFree OutHas
  iintro ⟨#Hmw, Hx, ⟨⟨%fo, %hfo, Hf⟩, Hi, Hvi⟩, ⟨⟨%fr, Hr⟩, Hvr⟩, Hv, HO⟩ Hk
  ihave Hx' := (Entails.of_eq (show ((xLoc d ↦{qx} tb : sProp 𝕄) = ((xAll).view.loc (thr d L) ↦[(xAll).view.set]{qx} tb)) by rw [set_xAll])) $$ Hx
  ihave Hf' := (Entails.of_eq (show ((inPts d L k fo : sProp 𝕄) = ((offsS k).view.loc (thr d L) ↦[(offsS k).view.set]{fullShare} fo)) by rw [set_offsS])) $$ Hf
  iapply (SparseCore.wp_indirectGatherLocal countersEmb 𝒱₀ (thr d L) none (hg := gathers_S8192x128_S128x128) (default : HIx 1)
      (outS k).view.dmaCredit (gather_credit k) (by decide) (inRange_offsS ix hix k b fo hfo)) $$ [Hx' Hr Hf' Hv]
  · isplitl [Hx']; · iexact Hx'
    isplitl [Hr]; · iexact Hr
    isplitl [Hf']; · iexact Hf'
    iexact Hv
  iintro Hfl
  iapply (Transfers.wp_waitLocalO countersEmb 𝒱₀ (thr d L) none (default : HIx 1) (rfl : (outAt o₄ h₄).view.dmaCredit = _)) $$ [Hfl HO]
  · isplitl [Hfl]; · iexact Hfl
    isplitl [HO]; · iexact HO
    iapply (Transfers.MayWaits.elim (SemLoc.dma cc0_scoped4.sem)) $$ Hmw
  iintro ⟨⟨Hr, Hx, Hf⟩, Hv, HO⟩
  iapply Hk
  isplitl [Hx]
  · iapply (Entails.of_eq (show ((xLoc d ↦{qx} tb : sProp 𝕄) = ((xAll).view.loc (thr d L) ↦[(xAll).view.set]{qx} tb)) by rw [set_xAll]).symm) $$ Hx
  isplitl [Hf Hi Hvi]
  · isplitl [Hf]
    · iexists fo
      iapply (Entails.of_eq (show ((inPts d L k fo : sProp 𝕄) = ((offsS k).view.loc (thr d L) ↦[(offsS k).view.set]{fullShare} fo)) by rw [set_offsS]).symm) $$ Hf
    isplitl [Hi] <;> iassumption
  isplitl [Hr Hvr]
  · isplitr [Hvr]; swap; · iexact Hvr
    iexists _; isplitr; swap; · iexact Hr
    ipureintro
    exact (View.read_write_univ _ _).trans (payload_eq tb ix hix k b fo hfo _ _)
  isplitl [Hv] <;> iassumption

theorem step_askOut {α : Type} {Q : α → sProp 𝕄} {k : Fin 2} {b : Fin 128} {o₁ : Fin 3 → ℕ} {o₂ : Fin 2 → ℕ} {o₃ : Fin 1 → ℕ} {h₁ h₂ h₃}
    (e₁ : o₁ = ![k.val, 0, 0]) (e₂ : o₂ = ![128 * b.val, 0]) (e₃ : o₃ = ![k.val])
    {hs : (outAt o₁ h₁).view.WordExact} {hd : (dstAt o₂ h₂).view.WordExact} {ht : DmaTarget.Typed (nD := nD) (p := (thr d L).2) _ (.dma (semAt cc0_scoped3 o₃ h₃)) (.here (dstAt o₂ h₂))}
    {kk : PUnit → Prog (TpuEff nD τ sig (Elt F) Λ₀ (thr d L).2) α} :
    iprop(wmInv (wemb F) ιwm ∗ OutHas d L tb ix k b ∗ mkPts d tb ix f0 qo (dstB b).view.set ∅)
      ⊢ iprop((OutFly d L tb ix f0 qo k b -∗ wp frame (wpE (defs₀ (F := F)) 𝒱₀ (thr d L) none) Set.univ (kk ⟨⟩) Q)
      -∗ wp frame (wpE (defs₀ (F := F)) 𝒱₀ (thr d L) none) Set.univ
          (.op (.enqueueDma (outAt o₁ h₁) (.here (dstAt o₂ h₂)) (.dma (semAt cc0_scoped3 o₃ h₃)) hs hd ht) kk) Q : sProp 𝕄) := by
  subst e₁ e₂ e₃
  unfold OutHas OutFly
  iintro ⟨#Hinv, ⟨⟨%f, %hf, Hf⟩, Hv⟩, Hm⟩ Hk
  have hadm : (dstB b).view.Admitted (Elt F) (fun j => some (tgt tb ix j)) ((outS k).view.read (Elt F) f) Finset.univ := by
    intro x _ u hu
    rw [hf]
    exact Option.some.inj hu
  iapply (wp_dmaMark (thr d L) (ιwm := ιwm) (dstB b).view.dmaCredit rfl (View.dmaCredit_pos _ (by decide)) hadm) $$ [Hf Hm Hv]
  · isplitl [Hf]; · iexact Hf
    isplitr; · iexact Hinv
    isplitl [Hm]; · iexact Hm
    iexact Hv
  iintro Hfl
  iapply Hk
  iapply (Transfers.Flight_mono countersEmb (thr d L) ?_) $$ Hfl
  iintro ⟨Ha, Hb⟩
  isplitl [Ha]
  · iapply (Entails.of_eq (BI.Region.willBe_congr (fun _ _ => rfl) (fun _ _ => rfl) fun i hi => ?_)) $$ Ha
    simp only [Finset.empty_union, Finset.mem_univ, iff_true]; exact hi
  · iexists f; iexact Hb

theorem step_waitOut {α : Type} {Q : α → sProp 𝕄} {k : Fin 2} {b : Fin 128} {o₁ : Fin 3 → ℕ} {o₂ : Fin 2 → ℕ} {o₃ : Fin 1 → ℕ} {h₁ h₂ h₃}
    (e₃ : o₃ = ![k.val])
    {hs : (outAt o₁ h₁).view.WordExact} {hd : (dstAt o₂ h₂).view.WordExact}
    {kk : PUnit → Prog (TpuEff nD τ sig (Elt F) Λ₀ (thr d L).2) α} {O : CellTallies nD τ sig (HIx 1)} {W : Waits sig (HIx 1)} :
    iprop(Transfers.MayWaits (thr d L) (default : HIx 1) O ∗ OutFly d L tb ix f0 qo k b ∗ owes (thr d L) O W)
      ⊢ iprop((iprop(OutFree d L k ∗ mkPts d tb ix f0 qo (dstB b).view.set Finset.univ ∗ owes (thr d L) O (insert (.dma (semS cc0_scoped3 k), default) W))
          -∗ wp frame (wpE (defs₀ (F := F)) 𝒱₀ (thr d L) none) Set.univ (kk ⟨⟩) Q)
      -∗ wp frame (wpE (defs₀ (F := F)) 𝒱₀ (thr d L) none) Set.univ
          (.op (.waitDma2 (semAt cc0_scoped3 o₃ h₃) (outAt o₁ h₁) (dstAt o₂ h₂) hs hd) kk) Q : sProp 𝕄) := by
  subst e₃
  unfold OutFly OutFree
  iintro ⟨#Hmw, Hfl, HO⟩ Hk
  iapply (Transfers.wp_waitLocalO countersEmb 𝒱₀ (thr d L) none (default : HIx 1) (rfl : (dstAt o₂ h₂).view.dmaCredit = _)) $$ [Hfl HO]
  · isplitl [Hfl]; · iexact Hfl
    isplitl [HO]; · iexact HO
    iapply (Transfers.MayWaits.elim (SemLoc.dma (semS cc0_scoped3 k))) $$ Hmw
  iintro ⟨⟨Hm, Hf⟩, Hv, HO⟩
  iapply Hk
  isplitl [Hf Hv]
  · isplitl [Hf] <;> iassumption
  isplitl [Hm] <;> iassumption

end Tile

end Cert.Proof.Rows
-- ==== Proof.Tile.lean ====
module

public import proofs.«01_k».proof.Proof.Steps

@[expose] public section

/-!
# One tile's eight blocks

Before trip `t` the tile has asked for index block `t`, its row slot of the other parity is being written out as block
`t - 1`, blocks before that are written, and block `t` on are still to come. One trip asks for the next index block,
gathers this one's rows, sends them out and waits for the last trip's.
-/

noncomputable section

namespace Cert.Proof.Rows

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

/-! ## Parities and blocks -/

/-- The slot of trip `t`, and its block. -/
def par (t : ℕ) : Fin 2 := ⟨t % 2, Nat.mod_lt _ (by decide)⟩
def blk (L : grid0.Coords) (t : ℕ) : Fin 128 := ⟨(8 * (L 1).val + t) % 128, Nat.mod_lt _ (by decide)⟩

theorem par_two (t : ℕ) : par (t + 2) = par t := Fin.ext (by simp [par])

theorem tile_lt (L : grid0.Coords) : (L 1).val < 16 := (L 1).isLt

theorem blk_val (L : grid0.Coords) {t : ℕ} (h : t < 8) : (blk L t).val = 8 * (L 1).val + t :=
  Nat.mod_eq_of_lt (by have := tile_lt L; omega)

section Tile

variable (d : Dev nD) (L : grid0.Coords)
variable (tb : S8192x128.Idx → F .f32) (ix : S1x16384.Idx → BitVec 32) (f0 : S16384x128.Idx → F .f32)
variable (qx qi qo : PosShare TreeShare) (ιwm : ℕ)
variable (O : CellTallies nD τ sig (HIx 1)) (W : Waits sig (HIx 1))

/-- What the tile owes, having waited for its own copies. -/
abbrev OwesAny : sProp 𝕄 := iprop(∃ W', ⌜∀ p ∈ W', p ∈ W ∨ p.2 = none⌝ ∗ owes (thr d L) O W')

theorem owesAny_intro {W' : Waits sig (HIx 1)} {sm : SemLoc sig} (h : ∀ p ∈ W', p ∈ W ∨ p.2 = none) :
    owes (thr d L) O (insert (sm, (default : HIx 1)) W') ⊢ (OwesAny d L O W : sProp 𝕄) := by
  iintro H
  iexists _
  isplitr; swap; · iexact H
  ipureintro
  intro p hp
  rcases Finset.mem_insert.mp hp with rfl | hp
  · exact Or.inr rfl
  · exact h p hp

/-- The index slot of trip `t` before that trip: on its way, or idle after the last. -/
def InNow (t : ℕ) : sProp 𝕄 := if t < 8 then InFly d L ix qi (par t) (blk L t) else InFree d L ix qi (par t)
/-- The row slot of the trip before `t`: being written out, or idle before the first. -/
def OutPrev (t : ℕ) : sProp 𝕄 := if t = 0 then OutFree d L (par (t + 1)) else OutFly d L tb ix f0 qo (par (t + 1)) (blk L (t - 1))

theorem mk_split {a b c : ℕ} (h₁ : a ≤ b) (h₂ : b ≤ c) (S : Finset S16384x128.Idx) :
    (mkPts d tb ix f0 qo (rowsOf a c) S : sProp 𝕄) ⊣⊢ iprop(mkPts d tb ix f0 qo (rowsOf a b) S ∗ mkPts d tb ix f0 qo (rowsOf b c) S) := by
  rw [← rowsOf_union h₁ h₂]
  exact BI.Region.held_union (rowsOf_disjoint le_rfl)

theorem mk_nil {a b : ℕ} (h : b ≤ a) (S : Finset S16384x128.Idx) : (iprop(emp) : sProp 𝕄) ⊢ mkPts d tb ix f0 qo (rowsOf a b) S := by
  rw [rowsOf_empty h]
  exact Entails.of_eq (BI.Region.held_empty _).symm

variable [FloatOps F]
variable {h2 : (xV).IsWhole} {h3 : (iV).IsWhole} {h4 : (oV).IsWhole} {hs : (sV).IsWhole} {hr : (rV).IsWhole}

/-- Programs of the tile. -/
abbrev TileM (F : FTy → Type) (L : grid0.Coords) : Type → Type 1 := Prog (TpuEff nD τ sig (Elt F) Λ₀ (.scVector ((L 0).castLE hcore0) ((L 1).castLE hsub0)))

abbrev tileWord (L : grid0.Coords) : BitVec 32 := Scalar.muli (BitVec.ofNat 32 (L 1).val) 8#32

/-- The first part of a trip: ask for the next index block, unless this is the last trip. -/
theorem part1 {α : Type} {Q : α → sProp 𝕄} (t : Fin k0_t1_loop.trips) (a6 a7 a8 a9 a10 : BitVec 32) (ha : (a6, a7, a8, a9, a10) = Words.acc t.val)
    (c3 : k0_chk3 a7) (c2 : k0_chk2 a8) (c1 : k0_chk1 L t a6 a7 a8 a9 a10) (kk : _ → TileM F L α) :
    InFree d L ix qi (par (t.val + 1))
      ⊢ iprop((InNow d L ix qi (t.val + 1) -∗ wp frame (wpE (defs₀ (F := F)) 𝒱₀ (thr d L) none) Set.univ
            (kk ⟨c3, c2, c1, Scf.iv 0#32 1#32 t, Scalar.cmpi .eq (Scf.iv 0#32 1#32 t) 0#32, Scalar.cmpi .eq (Scf.iv 0#32 1#32 t) 7#32,
              Scalar.addi a10 (tileWord L),
              Scalar.addi (Scalar.select (Scalar.cmpi .eq (Scalar.select 1#1 (Scalar.subi a10 1#32) a10) 4294967295#32) 7#32 (Scalar.select 1#1 (Scalar.subi a10 1#32) a10)) (tileWord L),
              Scalar.addi (Scalar.select (Scalar.cmpi .eq (Scalar.select 1#1 (Scalar.addi a10 1#32) a10) 8#32) 0#32 (Scalar.select 1#1 (Scalar.addi a10 1#32) a10)) (tileWord L),
              Scalar.select (Scalar.andi (Scalar.andi (Scalar.cmpi .ne (Scalar.addi a10 (tileWord L))
                (Scalar.addi (Scalar.select (Scalar.cmpi .eq (Scalar.select 1#1 (Scalar.addi a10 1#32) a10) 8#32) 0#32 (Scalar.select 1#1 (Scalar.addi a10 1#32) a10)) (tileWord L)))
                (Scalar.xori (Scalar.cmpi .sge (Scf.iv 0#32 1#32 t) 7#32) 1#1)) 1#1) (Scalar.addi a6 1#32) a6,
              Scalar.cmpi .ne (Scalar.addi a10 (tileWord L)) (Scalar.addi (Scalar.select (Scalar.cmpi .eq (Scalar.select 1#1 (Scalar.subi a10 1#32) a10) 4294967295#32) 7#32 (Scalar.select 1#1 (Scalar.subi a10 1#32) a10)) (tileWord L))⟩) Q)
      -∗ wp frame (wpE (defs₀ (F := F)) 𝒱₀ (thr d L) none) Set.univ
          (Bind.bind (m := TileM F L) (k0_part1 L xV h2 iV h3 oV h4 sV hs cc0_scoped1 rV hr cc0_scoped3 cc0_scoped4 (tileWord L) 0#32 1#32 t a6 a7 a8 a9 a10) kk) Q : sProp 𝕄) := by
  have e6 : a6 = (Words.acc t.val).1 := congrArg Prod.fst ha
  have e10 : a10 = (Words.acc t.val).2.2.2.2 := congrArg (fun p => p.2.2.2.2) ha
  rw [k0_part1_eq_skeleton]
  unfold k0_part1_skel
  have t8 : t.val < 8 := lt_of_lt_of_eq t.isLt Words.trips_eq
  simp only [Prog.bind_assoc, Prog.bind_lift]
  iintro HF HK
  iapply (wp_assume 𝒱₀ (thr d L) none Set.univ c3)
  iapply (wp_assume 𝒱₀ (thr d L) none Set.univ c2)
  iapply (wp_assume 𝒱₀ (thr d L) none Set.univ c1)
  by_cases ht : t.val < 7
  · have hc : k0_cond1 L t a10 = 1#1 := by rw [e10]; exact (Words.cond1 L t).mpr ht
    beta_reduce
    rw [dif_pos hc]
    iapply (step_askIdx d L ix qi (k := par (t.val + 1)) (b := blk L (t.val + 1)) ?_ ?_ ?_) $$ HF
    · rw [e10, Words.off5 L t ht, blk_val L (by omega)]
    · rw [e6, Words.off4 t]; rfl
    · rw [e6, Words.off6 t]; rfl
    iintro HF
    iapply HK
    unfold InNow; rw [if_pos (by omega)]
    iexact HF
  · have hc : ¬ k0_cond1 L t a10 = 1#1 := by rw [e10]; exact fun h => ht ((Words.cond1 L t).mp h)
    beta_reduce
    rw [dif_neg hc]
    iapply HK
    unfold InNow; rw [if_neg (by omega)]
    iexact HF

/-- The second part: wait for this trip's index block and gather its rows. -/
theorem part2 {α : Type} {Q : α → sProp 𝕄} (hix : ∀ j, (ix j).toNat < 8192) (t : Fin k0_t1_loop.trips) (a6 a7 a8 a9 a10 : BitVec 32)
    (ha : (a6, a7, a8, a9, a10) = Words.acc t.val) (c3 : k0_chk3 a7) (c2 : k0_chk2 a8) (c1 : k0_chk1 L t a6 a7 a8 a9 a10)
    (w5 : BitVec 32) (w60 w61 : BitVec 1) (w62 w67 w72 : BitVec 32) (w92 : BitVec 1) (kk : _ → TileM F L α) :
    iprop(Transfers.MayWaits (thr d L) (default : HIx 1) O ∗ (xLoc d ↦{qx} tb) ∗ InNow d L ix qi t.val ∗ OutFree d L (par t.val)
        ∗ semVal (thr d L, .dma cc0_scoped4.sem) 0 ∗ OwesAny d L O W)
      ⊢ iprop((iprop((xLoc d ↦{qx} tb) ∗ InFree d L ix qi (par t.val) ∗ OutHas d L tb ix (par t.val) (blk L t.val)
            ∗ semVal (thr d L, .dma cc0_scoped4.sem) 0 ∗ OwesAny d L O W)
          -∗ wp frame (wpE (defs₀ (F := F)) 𝒱₀ (thr d L) none) Set.univ (kk ⟨⟩) Q)
      -∗ wp frame (wpE (defs₀ (F := F)) 𝒱₀ (thr d L) none) Set.univ
          (Bind.bind (m := TileM F L) (k0_part2 L xV h2 iV h3 oV h4 sV hs cc0_scoped1 rV hr cc0_scoped3 cc0_scoped4 t a6 a7 a8 a9 a10 c3 c2 c1 w5 w60 w61 w62 w67 w72 w92) kk) Q : sProp 𝕄) := by
  have e7 : a7 = (Words.acc t.val).2.1 := congrArg (fun p => p.2.1) ha
  have e8 : a8 = (Words.acc t.val).2.2.1 := congrArg (fun p => p.2.2.1) ha
  have e10 : a10 = (Words.acc t.val).2.2.2.2 := congrArg (fun p => p.2.2.2.2) ha
  have t8 : t.val < 8 := lt_of_lt_of_eq t.isLt Words.trips_eq
  have hc : k0_cond2 L t a10 = 1#1 := by rw [e10]; exact Words.cond2 L t
  rw [k0_part2_eq_skeleton]
  unfold k0_part2_skel
  rw [dif_pos hc]
  simp only [Prog.bind_assoc, Prog.bind_lift, Prog.pure_eq_ret, Prog.bind_ret, ite_self]
  unfold InNow
  rw [if_pos t8]
  iintro ⟨#Hmw, Hx, HI, HO, Hs, %W', %hW', Ho⟩ HK
  iapply (step_waitIdx d L ix qi (k := par t.val) (b := blk L t.val) ?_) $$ [HI Ho]
  · rw [e7, Words.off9 t]; rfl
  · isplitr; · iexact Hmw
    isplitl [HI] <;> iassumption
  iintro ⟨HI, Ho⟩
  iapply (step_gather d L tb ix qx qi hix (k := par t.val) (b := blk L t.val) ?_ ?_) $$ [Hx HI HO Hs Ho]
  · rw [e7, Words.off11 t]; rfl
  · rw [e8, Words.off10 t]; rfl
  · isplitr; · iexact Hmw
    isplitl [Hx]; · iexact Hx
    isplitl [HI]; · iexact HI
    isplitl [HO]; · iexact HO
    isplitl [Hs] <;> iassumption
  iintro ⟨Hx, HI, HO, Hs, Ho⟩
  iapply HK
  isplitl [Hx]; · iexact Hx
  isplitl [HI]; · iexact HI
  isplitl [HO]; · iexact HO
  isplitl [Hs]; · iexact Hs
  iapply (owesAny_intro d L O W) $$ Ho
  intro p hp
  rcases Finset.mem_insert.mp hp with rfl | hp
  · exact Or.inr rfl
  · exact hW' p hp

/-! ## A trip -/

/-- What the tile holds before trip `t`, with the words `a`. -/
def Inv (t : ℕ) (a : BitVec 32 × BitVec 32 × BitVec 32 × BitVec 32 × BitVec 32) : sProp 𝕄 :=
  iprop(⌜a = Words.acc t⌝ ∗ Transfers.MayWaits (thr d L) (default : HIx 1) O ∗ wmInv (wemb F) ιwm
    ∗ (xLoc d ↦{qx} tb) ∗ InNow d L ix qi t ∗ InFree d L ix qi (par (t + 1)) ∗ OutFree d L (par t) ∗ OutPrev d L tb ix f0 qo t
    ∗ semVal (thr d L, .dma cc0_scoped4.sem) 0
    ∗ mkPts d tb ix f0 qo (rowsOf (1024 * (L 1).val) (128 * (8 * (L 1).val + (t - 1)))) Finset.univ
    ∗ mkPts d tb ix f0 qo (rowsOf (128 * (8 * (L 1).val + t)) (1024 * (L 1).val + 1024)) ∅
    ∗ OwesAny d L O W)

/-- The end of a trip: send this trip's rows out, and wait for the last trip's to be out. -/
theorem tail_out {α : Type} {Q : α → sProp 𝕄} (t : ℕ) (t8 : t < 8) {o₁ : Fin 3 → ℕ} {o₂ : Fin 2 → ℕ} {o₃ : Fin 1 → ℕ} {h₁ h₂ h₃}
    (e₁ : o₁ = ![(par t).val, 0, 0]) (e₂ : o₂ = ![128 * (blk L t).val, 0]) (e₃ : o₃ = ![(par t).val])
    {hs : (outAt o₁ h₁).view.WordExact} {hd : (dstAt o₂ h₂).view.WordExact}
    {ht : DmaTarget.Typed (nD := nD) (p := (thr d L).2) _ (.dma (semAt cc0_scoped3 o₃ h₃)) (.here (dstAt o₂ h₂))}
    {kk : PUnit → Prog (TpuEff nD τ sig (Elt F) Λ₀ (thr d L).2) α} :
    iprop(wmInv (wemb F) ιwm ∗ OutHas d L tb ix (par t) (blk L t)
        ∗ mkPts d tb ix f0 qo (rowsOf (128 * (8 * (L 1).val + t)) (1024 * (L 1).val + 1024)) ∅)
      ⊢ iprop((iprop(OutFly d L tb ix f0 qo (par t) (blk L t)
            ∗ mkPts d tb ix f0 qo (rowsOf (128 * (8 * (L 1).val + (t + 1))) (1024 * (L 1).val + 1024)) ∅)
          -∗ wp frame (wpE (defs₀ (F := F)) 𝒱₀ (thr d L) none) Set.univ (kk ⟨⟩) Q)
      -∗ wp frame (wpE (defs₀ (F := F)) 𝒱₀ (thr d L) none) Set.univ
          (.op (.enqueueDma (outAt o₁ h₁) (.here (dstAt o₂ h₂)) (.dma (semAt cc0_scoped3 o₃ h₃)) hs hd ht) kk) Q : sProp 𝕄) := by
  have hb : 128 * (blk L t).val + 128 = 128 * (8 * (L 1).val + (t + 1)) := by rw [blk_val L t8]; omega
  iintro ⟨#Hinv, HH, Hm⟩ HK
  ihave Hm' := (mk_split d tb ix f0 qo (show 128 * (8 * (L 1).val + t) ≤ 128 * (8 * (L 1).val + (t + 1)) by omega)
    (show _ ≤ 1024 * (L 1).val + 1024 by omega) ∅).1 $$ Hm
  icases Hm' with ⟨Hb, Hm⟩
  iapply (step_askOut d L tb ix f0 qo ιwm (k := par t) (b := blk L t) e₁ e₂ e₃) $$ [HH Hb]
  · isplitr; · iexact Hinv
    isplitl [HH]; · iexact HH
    rw [set_dstB, hb, blk_val L t8]; iexact Hb
  iintro HF
  iapply HK
  isplitl [HF] <;> iassumption

theorem tail_wait {α : Type} {Q : α → sProp 𝕄} (t : ℕ) (t0 : 0 < t) (t8 : t ≤ 8) {o₁ : Fin 3 → ℕ} {o₂ : Fin 2 → ℕ} {o₃ : Fin 1 → ℕ} {h₁ h₂ h₃}
    (e₃ : o₃ = ![(par (t + 1)).val])
    {hs : (outAt o₁ h₁).view.WordExact} {hd : (dstAt o₂ h₂).view.WordExact}
    {kk : PUnit → Prog (TpuEff nD τ sig (Elt F) Λ₀ (thr d L).2) α} :
    iprop(Transfers.MayWaits (thr d L) (default : HIx 1) O ∗ OutPrev d L tb ix f0 qo t
        ∗ mkPts d tb ix f0 qo (rowsOf (1024 * (L 1).val) (128 * (8 * (L 1).val + (t - 1)))) Finset.univ ∗ OwesAny d L O W)
      ⊢ iprop((iprop(OutFree d L (par (t + 1)) ∗ mkPts d tb ix f0 qo (rowsOf (1024 * (L 1).val) (128 * (8 * (L 1).val + t))) Finset.univ
            ∗ OwesAny d L O W)
          -∗ wp frame (wpE (defs₀ (F := F)) 𝒱₀ (thr d L) none) Set.univ (kk ⟨⟩) Q)
      -∗ wp frame (wpE (defs₀ (F := F)) 𝒱₀ (thr d L) none) Set.univ
          (.op (.waitDma2 (semAt cc0_scoped3 o₃ h₃) (outAt o₁ h₁) (dstAt o₂ h₂) hs hd) kk) Q : sProp 𝕄) := by
  have hb : 128 * (blk L (t - 1)).val + 128 = 128 * (8 * (L 1).val + t) := by rw [blk_val L (by omega)]; omega
  unfold OutPrev; rw [if_neg (by omega)]
  iintro ⟨#Hmw, HF, Hm, %W', %hW', Ho⟩ HK
  iapply (step_waitOut d L tb ix f0 qo (k := par (t + 1)) (b := blk L (t - 1)) e₃) $$ [HF Ho]
  · isplitr; · iexact Hmw
    isplitl [HF] <;> iassumption
  iintro ⟨HF, Hb, Ho⟩
  iapply HK
  isplitl [HF]; · iexact HF
  isplitl [Hb Hm]
  · iapply (mk_split d tb ix f0 qo (show 1024 * (L 1).val ≤ 128 * (8 * (L 1).val + (t - 1)) by omega)
      (show _ ≤ 128 * (8 * (L 1).val + t) by omega) Finset.univ).2
    isplitl [Hm]; · iexact Hm
    rw [set_dstB, hb, blk_val L (by omega)]; iexact Hb
  iapply (owesAny_intro d L O W hW') $$ Ho

theorem trip (hix : ∀ j, (ix j).toNat < 8192) (t : Fin k0_t1_loop.trips) (a : BitVec 32 × BitVec 32 × BitVec 32 × BitVec 32 × BitVec 32) (w27 : BitVec 32) :
    Inv d L tb ix f0 qx qi qo ιwm O W t.val a
      ⊢ (wp frame (wpE (defs₀ (F := F)) 𝒱₀ (thr d L) none) Set.univ
          (k0_t1_body L xV h2 iV h3 oV h4 sV hs cc0_scoped1 rV hr cc0_scoped3 cc0_scoped4 (tileWord L) w27 0#32 0#32 0#32 0#32 t a)
          (Inv d L tb ix f0 qx qi qo ιwm O W (t.val + 1)) : sProp 𝕄) := by
  have t8 : t.val < 8 := lt_of_lt_of_eq t.isLt Words.trips_eq
  obtain ⟨a6, a7, a8, a9, a10⟩ := a
  unfold Inv
  iintro ⟨%ha, #Hmw, #Hinv, Hx, HN, HI, HO, HP, Hs, Hm, Hu, Ho⟩
  have e6 : a6 = (Words.acc t.val).1 := congrArg Prod.fst ha
  have e7 : a7 = (Words.acc t.val).2.1 := congrArg (fun p => p.2.1) ha
  have e8 : a8 = (Words.acc t.val).2.2.1 := congrArg (fun p => p.2.2.1) ha
  have e9 : a9 = (Words.acc t.val).2.2.2.1 := congrArg (fun p => p.2.2.2.1) ha
  have e10 : a10 = (Words.acc t.val).2.2.2.2 := congrArg (fun p => p.2.2.2.2) ha
  have c3 : k0_chk3 a7 := by rw [e7]; exact Words.chk3 t
  have c2 : k0_chk2 a8 := by rw [e8]; exact Words.chk2 t
  have c1 : k0_chk1 L t a6 a7 a8 a9 a10 := by rw [e6, e7, e8, e9, e10]; exact Words.chk1 L t
  unfold k0_t1_body
  iapply (part1 d L ix qi t a6 a7 a8 a9 a10 ha c3 c2 c1) $$ HI
  iintro HI
  iapply (part2 d L tb ix qx qi O W hix t a6 a7 a8 a9 a10 ha c3 c2 c1) $$ [Hx HN HO Hs Ho]
  · isplitr; · iexact Hmw
    isplitl [Hx]; · iexact Hx
    isplitl [HN]; · iexact HN
    isplitl [HO]; · iexact HO
    isplitl [Hs] <;> iassumption
  iintro ⟨Hx, HN, HO, Hs, Ho⟩
  have hc5 : k0_cond5 L t a10 = 1#1 := by rw [e10]; exact Words.cond5 L t
  beta_reduce
  rw [dif_pos hc5]
  iapply (tail_out d L tb ix f0 qo ιwm t.val t8 ?_ ?_ ?_) $$ [HO Hu]
  · rw [e8, Words.off12 t]; rfl
  · rw [e10, Words.off13 L t, blk_val L t8]
  · rw [e8, Words.off14 t]; rfl
  · isplitr; · iexact Hinv
    isplitl [HO] <;> iassumption
  iintro ⟨HF, Hu⟩
  simp only [ite_self]
  have hstep := Words.step L t
  rw [← ha] at hstep
  have goal_of : ∀ p, p = Words.acc (t.val + 1) → (iprop(Transfers.MayWaits (thr d L) (default : HIx 1) O ∗ wmInv (wemb F) ιwm
    ∗ (xLoc d ↦{qx} tb) ∗ InNow d L ix qi (t.val + 1) ∗ InFree d L ix qi (par t.val) ∗ OutFree d L (par (t.val + 1)) ∗ OutFly d L tb ix f0 qo (par t.val) (blk L t.val)
    ∗ semVal (thr d L, .dma cc0_scoped4.sem) 0
    ∗ mkPts d tb ix f0 qo (rowsOf (1024 * (L 1).val) (128 * (8 * (L 1).val + t.val))) Finset.univ
    ∗ mkPts d tb ix f0 qo (rowsOf (128 * (8 * (L 1).val + (t.val + 1))) (1024 * (L 1).val + 1024)) ∅
    ∗ OwesAny d L O W) : sProp 𝕄) ⊢ (wp frame (wpE (defs₀ (F := F)) 𝒱₀ (thr d L) none) Set.univ (.ret p) (Inv d L tb ix f0 qx qi qo ιwm O W (t.val + 1)) : sProp 𝕄) := by
    intro p hp
    rw [wp_ret]
    unfold Inv OutPrev
    rw [if_neg (Nat.succ_ne_zero _), Nat.add_sub_cancel, par_two]
    iintro H
    imodintro
    isplitr; · ipureintro; exact hp
    iexact H
  by_cases t0 : 0 < t.val
  · have hc7 : k0_cond7 L t a10 = 1#1 := by rw [e10]; exact (Words.cond7 L t).mpr t0
    rw [dif_pos hc7]
    iapply (tail_wait d L tb ix f0 qo O W t.val t0 (by omega) ?_) $$ [HP Hm Ho]
    · rw [e9, Words.off17 t t0]; rfl
    · isplitr; · iexact Hmw
      isplitl [HP]; · iexact HP
      isplitl [Hm] <;> iassumption
    iintro ⟨HP, Hm, Ho⟩
    iapply (goal_of _ hstep)
    isplitr; · iexact Hmw
    isplitr; · iexact Hinv
    isplitl [Hx]; · iexact Hx
    isplitl [HI]; · iexact HI
    isplitl [HN]; · iexact HN
    isplitl [HP]; · iexact HP
    isplitl [HF]; · iexact HF
    isplitl [Hs]; · iexact Hs
    isplitl [Hm]; · iexact Hm
    isplitl [Hu] <;> iassumption
  · have hc7 : ¬ k0_cond7 L t a10 = 1#1 := by rw [e10]; exact fun h => t0 ((Words.cond7 L t).mp h)
    have tz : t.val = 0 := by omega
    rw [dif_neg hc7]
    iapply (goal_of _ hstep)
    isplitr; · iexact Hmw
    isplitr; · iexact Hinv
    isplitl [Hx]; · iexact Hx
    isplitl [HI]; · iexact HI
    isplitl [HN]; · iexact HN
    isplitl [HP]; · iapply (Entails.of_eq (show OutPrev d L tb ix f0 qo t.val = OutFree d L (par (t.val + 1)) from by unfold OutPrev; rw [if_pos tz])) $$ HP
    isplitl [HF]; · iexact HF
    isplitl [Hs]; · iexact Hs
    isplitl [Hm]; · rw [show t.val - 1 = t.val by omega]; iexact Hm
    isplitl [Hu] <;> iassumption

/-! ## The kernel -/

theorem kernel_run (hix : ∀ j, (ix j).toNat < 8192) :
    iprop(Transfers.MayWaits (thr d L) (default : HIx 1) O ∗ wmInv (wemb F) ιwm ∗ (xLoc d ↦{qx} tb)
        ∗ InFree d L ix qi 0 ∗ InFree d L ix qi 1 ∗ OutFree d L 0 ∗ OutFree d L 1 ∗ semVal (thr d L, .dma cc0_scoped4.sem) 0
        ∗ mkPts d tb ix f0 qo (rowsOf (1024 * (L 1).val) (1024 * (L 1).val + 1024)) ∅ ∗ OwesAny d L O W)
      ⊢ (wp frame (wpE (defs₀ (F := F)) 𝒱₀ (thr d L) none) Set.univ
          (cc0_gather_kernel L xV h2 iV h3 oV h4 sV hs cc0_scoped1 rV hr cc0_scoped3 cc0_scoped4)
          fun _ => iprop((xLoc d ↦{qx} tb)
            ∗ InFree d L ix qi 0 ∗ InFree d L ix qi 1 ∗ OutFree d L 0 ∗ OutFree d L 1 ∗ semVal (thr d L, .dma cc0_scoped4.sem) 0
            ∗ mkPts d tb ix f0 qo (rowsOf (1024 * (L 1).val) (1024 * (L 1).val + 1024)) Finset.univ ∗ OwesAny d L O W) : sProp 𝕄) := by
  have hL := tile_lt L
  iintro ⟨#Hmw, #Hinv, Hx, HI0, HI1, HO0, HO1, Hs, Hm, Ho⟩
  rw [cc0_gather_kernel_eq_skeleton]
  unfold cc0_gather_kernel_skel
  rw [k0_part3_eq_skeleton, k0_part4_eq_skeleton]
  unfold k0_part3_skel k0_part4_skel
  simp only [Prog.bind_assoc, Prog.bind_lift]
  iapply (step_askIdx d L ix qi (k := 0) (b := blk L 0) ?_ ?_ ?_) $$ HI0
  · rw [k0_off2_eq, blk_val L (by omega)]; congr 1; funext i; simp; omega
  · rw [k0_off1_eq]; rfl
  · rw [k0_off3_eq]; rfl
  iintro HI0
  iapply (Scf.wp_for_bind frame (wpE (defs₀ (F := F)) 𝒱₀ (thr d L) none) Set.univ _ _ _ k0_t1_ok _ _ (Inv d L tb ix f0 qx qi qo ιwm O W)
    (fun t a => trip d L tb ix f0 qx qi qo ιwm O W hix t a _)) $$ [Hx HI0 HI1 HO0 HO1 Hs Hm Ho]
  · unfold Inv InNow OutPrev
    rw [if_pos (by omega : 0 < 8), if_pos rfl]
    isplitr; · ipureintro; rfl
    isplitr; · iexact Hmw
    isplitr; · iexact Hinv
    isplitl [Hx]; · iexact Hx
    isplitl [HI0]; · iexact HI0
    isplitl [HI1]; · iexact HI1
    isplitl [HO0]; · iexact HO0
    isplitl [HO1]; · iexact HO1
    isplitl [Hs]; · iexact Hs
    isplitr [Hm Ho]
    · iapply (mk_nil d tb ix f0 qo (by omega) Finset.univ)
      iempintro
    isplitl [Hm]; · rw [show 128 * (8 * (L 1).val + 0) = 1024 * (L 1).val by omega]; iexact Hm
    iexact Ho
  iintro %a HI
  obtain ⟨a6, a7, a8, a9, a10⟩ := a
  have t8 : Scf.trips k0_t1_loop.lb k0_t1_loop.ub k0_t1_loop.st = 8 := Words.trips_eq
  rw [t8]
  unfold Inv
  icases HI with ⟨%ha, -, -, Hx, HN, HI, HO, HP, Hs, Hm, -, Ho⟩
  have e9 : a9 = (Words.acc 8).2.2.2.1 := congrArg (fun p => p.2.2.2.1) ha
  have e10 : a10 = (Words.acc 8).2.2.2.2 := congrArg (fun p => p.2.2.2.2) ha
  have c5 : k0_chk5 L a10 := by rw [e10]; exact Words.chk5 L
  have c4 : k0_chk4 a9 := by rw [e9]; exact Words.chk4
  iapply (wp_assume 𝒱₀ (thr d L) none Set.univ c5)
  iapply (wp_assume 𝒱₀ (thr d L) none Set.univ c4)
  iapply (tail_wait d L tb ix f0 qo O W 8 (by omega) (by omega) ?_) $$ [HP Hm Ho]
  · exact (show k0_off20 a9 = ![(par (8 + 1)).val] from by rw [e9, Words.off20]; rfl)
  · isplitr; · iexact Hmw
    isplitl [HP]; · iexact HP
    isplitl [Hm] <;> iassumption
  iintro ⟨HP, Hm, Ho⟩
  iapply (le_wp_ret (Fr := frame) (wpE := wpE (defs₀ (F := F)) 𝒱₀ (thr d L) none) (E := Set.univ) PUnit.unit _)
  isplitl [Hx]; · iexact Hx
  isplitl [HN]
  · iapply (Entails.of_eq (show InNow d L ix qi 8 = InFree d L ix qi 0 from by unfold InNow; rw [if_neg (by omega)]; rfl)) $$ HN
  isplitl [HI]; · iexact HI
  isplitl [HO]; · iexact HO
  isplitl [HP]; · iexact HP
  isplitl [Hs]; · iexact Hs
  isplitl [Hm]
  · rw [show 128 * (8 * (L 1).val + 8) = 1024 * (L 1).val + 1024 by omega]; iexact Hm
  iexact Ho

end Tile

end Cert.Proof.Rows
-- ==== Proof.Task.lean ====
module

public import proofs.«01_k».proof.Proof.Tile

@[expose] public section

/-!
# A tile's task

What the launch hands a tile — its scratch and semaphores whole — is cut into the slots the kernel works with, the
kernel runs, and the slots are put back together.
-/

noncomputable section

namespace Cert.Proof.Rows

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

section Own

variable (d : Dev nD) (L : grid0.Coords)

abbrev cell (sm : DmaSem sig) : GSem nD τ sig := (thr d L, .dma sm)

/-- The tile's five semaphores, out of all it owns. -/
theorem ownSems0_V :
    (ownSems0 (thr d L) : sProp 𝕄)
      = iprop(semVal (cell d L (semS cc0_scoped1 0)) 0 ∗ semVal (cell d L (semS cc0_scoped1 1)) 0
          ∗ semVal (cell d L (semS cc0_scoped3 0)) 0 ∗ semVal (cell d L (semS cc0_scoped3 1)) 0
          ∗ semVal (cell d L cc0_scoped4.sem) 0
          ∗ bigSep ((((((ownCells (thr d L)).erase (cell d L (semS cc0_scoped1 0))).erase (cell d L (semS cc0_scoped1 1))).erase
              (cell d L (semS cc0_scoped3 0))).erase (cell d L (semS cc0_scoped3 1))).erase (cell d L cc0_scoped4.sem)) fun g => semVal g 0) := by
  have own (sm : DmaSem sig) (h : (SemLoc.dma sm : SemLoc sig).isScoped .scVector = true) : cell d L sm ∈ ownCells (thr d L) :=
    mem_ownCells.mpr ⟨rfl, h⟩
  have ne {a b : DmaSem sig} (h : (SemLoc.dma a : SemLoc sig) ≠ .dma b) : cell d L a ≠ cell d L b := fun e => h (congrArg Prod.snd e)
  unfold SparseCore.Cfg.ownSems0
  rw [SparseCore.bigSep_erase' (own (semS cc0_scoped1 0) (by decide)),
    SparseCore.bigSep_erase' (Finset.mem_erase.mpr ⟨ne (by decide), own (semS cc0_scoped1 1) (by decide)⟩),
    SparseCore.bigSep_erase' (Finset.mem_erase.mpr ⟨ne (by decide), Finset.mem_erase.mpr ⟨ne (by decide), own (semS cc0_scoped3 0) (by decide)⟩⟩),
    SparseCore.bigSep_erase' (Finset.mem_erase.mpr ⟨ne (by decide), Finset.mem_erase.mpr ⟨ne (by decide),
      Finset.mem_erase.mpr ⟨ne (by decide), own (semS cc0_scoped3 1) (by decide)⟩⟩⟩),
    SparseCore.bigSep_erase' (Finset.mem_erase.mpr ⟨ne (by decide), Finset.mem_erase.mpr ⟨ne (by decide),
      Finset.mem_erase.mpr ⟨ne (by decide), Finset.mem_erase.mpr ⟨ne (by decide), own cc0_scoped4.sem (by decide)⟩⟩⟩⟩)]

/-- The tile's two scratch buffers, out of all it owns. -/
theorem ownBufs_V :
    (ownBufs (thr d L) : sProp 𝕄)
      = iprop((∃ f, (thr d L).loc cc0_scoped0 ↦{fullShare} f) ∗ (∃ f, (thr d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  have own₀ := SparseCore.Cfg.mem_ownRefs_of_owner (p := Proc.scVector (cV L) (jV L)) (b := (Proc.scVector (cV L) (jV L)).devRef cc0_scoped0) rfl
  have own₂ := SparseCore.Cfg.mem_ownRefs_of_owner (p := Proc.scVector (cV L) (jV L)) (b := (Proc.scVector (cV L) (jV L)).devRef cc0_scoped2) rfl
  unfold SparseCore.Cfg.ownBufs
  refine (SparseCore.bigSep_erase' own₀).trans ?_
  rw [SparseCore.bigSep_erase' (Finset.mem_erase.mpr
    ⟨fun e => absurd (Proc.devRef_injective _ e) (show (cc0_scoped2 : Ref sig .scVector) ≠ cc0_scoped0 by decide), own₂⟩)]

/-- A buffer held whole is its two slots; two slots at any contents are the buffer at some contents. -/
theorem slots_split {ℓ : Loc nD τ sig} {A B : Finset (Idx ℓ)} (hd : Disjoint A B) (hc : A ∪ B = Finset.univ) (f : Buf (Elt F) ℓ) :
    (ℓ ↦{fullShare} f : sProp 𝕄) ⊢ iprop((ℓ ↦[A]{fullShare} f) ∗ ℓ ↦[B]{fullShare} f) := by
  rw [← hc]; exact (pointsTo_union hd).1

theorem slots_join {ℓ : Loc nD τ sig} {A B : Finset (Idx ℓ)} (hd : Disjoint A B) (hc : A ∪ B = Finset.univ) :
    iprop((∃ f, ℓ ↦[A]{fullShare} f) ∗ ∃ f, ℓ ↦[B]{fullShare} f) ⊢ (iprop(∃ f : Buf (Elt F) ℓ, ℓ ↦{fullShare} f) : sProp 𝕄) := by
  iintro ⟨⟨%f, Hf⟩, ⟨%g, Hg⟩⟩
  iexists (B.piecewise g f)
  ihave H := (pointsTo_join (ℓ := ℓ) (q := fullShare) (f := f) (g := g) hd) $$ [Hf Hg]
  · isplitl [Hf] <;> iassumption
  iapply (Entails.of_eq (show (ℓ ↦[A ∪ B]{fullShare} (B.piecewise g f) : sProp 𝕄) = ℓ ↦{fullShare} (B.piecewise g f) by rw [hc])) $$ H

end Own

section Task

variable (d : Dev nD) (L : grid0.Coords)
variable (tb : S8192x128.Idx → F .f32) (ix : S1x16384.Idx → BitVec 32) (f0 : S16384x128.Idx → F .f32)
variable (qx qi qo : PosShare TreeShare)

/-- What a tile holds of the arrays: shares of the table and the indices, its rows of the output, marked on `S`. -/
def Holds (s : ℕ) (S : Finset S16384x128.Idx) : sProp 𝕄 :=
  iprop((xLoc d ↦{qx} tb) ∗ (iLoc d ↦{qi} ix) ∗ mkPts d tb ix f0 qo (rowsOf (1024 * s) (1024 * s + 1024)) S)

/-- What every thread may know: the output's write mode. -/
abbrev Mode (F : FTy → Type) : sProp (MT nD τ sig (HIx 1) (Elt F) ℕ (UU F) ℕ) := iprop(∃ ιwm : ℕ, wmInv (wemb F) ιwm)

variable [FloatOps F]

theorem task (hF : (K (F := F)).Facts) (hix : ∀ j, (ix j).toNat < 8192) (O : CellTallies nD τ sig (HIx 1)) (W : Waits sig (HIx 1)) (hO : ∀ g, O g none = 0) :
    iprop(levAts (K (F := F)).L (K (F := F)).lev ∗ Mode F ∗ Holds d tb ix f0 qx qi qo (L 1).val ∅
        ∗ scopedBufs (thr d L) ∗ scopedSems0 (thr d L) ∗ owes (thr d L) O W)
      ⊢ wp frame (wpE (defs₀ (F := F)) 𝒱₀ (thr d L) none) Set.univ
          (cc0_gather_kernel L xV (Memref.isWhole_whole _) iV (Memref.isWhole_whole _) oV (Memref.isWhole_whole _)
            sV (Memref.isWhole_whole _) cc0_scoped1 rV (Memref.isWhole_whole _) cc0_scoped3 cc0_scoped4)
          fun _ => iprop(Holds d tb ix f0 qx qi qo (L 1).val Finset.univ
            ∗ scopedBufs (thr d L) ∗ scopedSems0 (thr d L) ∗ OwesAny d L O W) := by
  rw [(K (F := F)).scopedBufs_V hF d (cV L) (jV L), SparseCore.Cfg.scopedSems0_V (Val := Elt F) d (cV L) (jV L), ownSems0_V, ownBufs_V]
  unfold Holds
  iintro ⟨#Hlv, ⟨%ιwm, #Hinv⟩, ⟨Hx, Hi, Ho⟩, ⟨⟨%fs, Hs⟩, ⟨%fr, Hr⟩, Hbufs⟩, ⟨Ha0, Ha1, Hb0, Hb1, Hc, Hsems⟩, HO⟩
  ihave Hmw := (show levAts (K (F := F)).L (K (F := F)).lev ⊢ Transfers.MayWaits (thr d L) (default : HIx 1) O from
    (K (F := F)).mayWaits_none (thr := thr d L) hO) $$ Hlv
  ihave Hs' := (slots_split (ℓ := (thr d L).loc cc0_scoped0) (A := (inS 0).view.set) (B := (inS 1).view.set) inS_disjoint inS_cover fs) $$ Hs
  icases Hs' with ⟨Hs0, Hs1⟩
  ihave Hr' := (slots_split (ℓ := (thr d L).loc cc0_scoped2) (A := (outS 0).view.set) (B := (outS 1).view.set) outS_disjoint outS_cover fr) $$ Hr
  icases Hr' with ⟨Hr0, Hr1⟩
  ihave Hi' := (pointsTo_share (ℓ := iLoc d) (f := ix) (I := Finset.univ) (PosShare.mem_left_op_right qi)).1 $$ Hi
  icases Hi' with ⟨Hi0, Hi1⟩
  iapply (wp_wand_r frame _ _)
  isplitr [Hbufs Hsems]
  · iapply (kernel_run d L tb ix f0 qx qi qo ιwm O W hix)
    isplitl [Hmw]; · iexact Hmw
    isplitr; · iexact Hinv
    isplitl [Hx]; · iexact Hx
    isplitl [Hs0 Hi0 Ha0]
    · unfold InFree
      isplitl [Hs0]; · iexists fs; iexact Hs0
      isplitl [Hi0]; · iexact Hi0
      iexact Ha0
    isplitl [Hs1 Hi1 Ha1]
    · unfold InFree
      isplitl [Hs1]; · iexists fs; iexact Hs1
      isplitl [Hi1]; · iexact Hi1
      iexact Ha1
    isplitl [Hr0 Hb0]
    · unfold OutFree
      isplitl [Hr0]; · iexists fr; iexact Hr0
      iexact Hb0
    isplitl [Hr1 Hb1]
    · unfold OutFree
      isplitl [Hr1]; · iexists fr; iexact Hr1
      iexact Hb1
    isplitl [Hc]; · iexact Hc
    isplitl [Ho]; · iexact Ho
    iexists W; isplitr
    · ipureintro; exact fun p hp => .inl hp
    · iexact HO
  · iintro %_ ⟨Hx, Hin0, Hin1, Hout0, Hout1, Hc, Ho, HO⟩
    unfold InFree OutFree
    icases Hin0 with ⟨Hs0, Hi0, Ha0⟩
    icases Hin1 with ⟨Hs1, Hi1, Ha1⟩
    icases Hout0 with ⟨Hr0, Hb0⟩
    icases Hout1 with ⟨Hr1, Hb1⟩
    isplitl [Hx Hi0 Hi1 Ho]
    · isplitl [Hx]; · iexact Hx
      isplitr [Ho]; swap; · iexact Ho
      iapply (pointsTo_share (ℓ := iLoc d) (f := ix) (I := Finset.univ) (PosShare.mem_left_op_right qi)).2
      isplitl [Hi0]
      · iexact Hi0
      · iexact Hi1
    isplitl [Hs0 Hs1 Hr0 Hr1 Hbufs]
    · isplitl [Hs0 Hs1]
      · iapply (slots_join (ℓ := (thr d L).loc cc0_scoped0) (A := (inS 0).view.set) (B := (inS 1).view.set) inS_disjoint inS_cover)
        isplitl [Hs0]
        · iexact Hs0
        · iexact Hs1
      isplitl [Hr0 Hr1]
      · iapply (slots_join (ℓ := (thr d L).loc cc0_scoped2) (A := (outS 0).view.set) (B := (outS 1).view.set) outS_disjoint outS_cover)
        isplitl [Hr0]
        · iexact Hr0
        · iexact Hr1
      iexact Hbufs
    isplitr [HO]; swap; · iexact HO
    isplitl [Ha0]; · iexact Ha0
    isplitl [Ha1]; · iexact Ha1
    isplitl [Hb0]; · iexact Hb0
    isplitl [Hb1]; · iexact Hb1
    isplitl [Hc] <;> iassumption

end Task

end Cert.Proof.Rows
-- ==== Proof.Launch.lean ====
module

public import proofs.«01_k».proof.Proof.Task

@[expose] public section

/-!
# The launch

The TensorCore pads the table, reshapes the indices, and starts both SparseCores. Each core takes half the share of the
table, of the indices and of the output's write mode; each of its sixteen tiles takes a sixteenth of those rows and a
read share. When both are done the output holds its target, and the TensorCore cuts and reshapes it.
-/

noncomputable section

namespace Cert.Proof.Rows

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

open Idealize.ShloMosaic.StableHlo (held after wp_hlo_within)

/-! ## What is dealt out -/

section Deal

variable (tb : Dev nD → S8192x128.Idx → F .f32) (ix : Dev nD → S1x16384.Idx → BitVec 32) (f0 : Dev nD → S16384x128.Idx → F .f32)

/-- The share of SparseCore `c`, and of its tile `i`. -/
abbrev coreSh (c : Fin 2) : PosShare TreeShare := half fullShare c
abbrev tileSh (c : Fin 2) (i : Fin 16) : PosShare TreeShare := Transfers.shareTok (coreSh c) 16 i

/-- What SparseCore `c` is handed, and hands back: the output marked on `S`. -/
def CoreHolds (d : Dev nD) (c : Fin 2) (S : Finset S16384x128.Idx) : sProp 𝕄 :=
  iprop((xLoc d ↦{coreSh c} tb d) ∗ (iLoc d ↦{coreSh c} ix d) ∗ mkPts d (tb d) (ix d) (f0 d) (coreSh c) Finset.univ S)
/-- What its tile `i` is handed, and hands back. -/
abbrev TileHolds (d : Dev nD) (c : Fin 2) (i : Fin 16) (S : Finset S16384x128.Idx) : sProp 𝕄 :=
  Holds d (tb d) (ix d) (f0 d) (tileSh c i) (tileSh c i) (coreSh c) i.val S

def P : (K (F := F)).Pay (nD := nD) (Val := Elt F) (Name := ℕ) (U := UU F) where
  st := fun q d c => match q with | 0 => CoreHolds tb ix f0 d (Fin.cast nCore_zero c) ∅
  dn := fun q d c => match q with | 0 => CoreHolds tb ix f0 d (Fin.cast nCore_zero c) Finset.univ
  go := fun q d c i => match q with | 0 => TileHolds tb ix f0 d (Fin.cast nCore_zero c) (Fin.cast nSub_zero i) ∅
  td := fun q d c i => match q with | 0 => TileHolds tb ix f0 d (Fin.cast nCore_zero c) (Fin.cast nSub_zero i) Finset.univ
  x := fun _ _ => Mode F

instance core_storable (d : Dev nD) (c : Fin 2) (S : Finset S16384x128.Idx) :
    BI.Storable (upEmb : UEmb _ 𝕄) (CoreHolds tb ix f0 d c S) := by unfold CoreHolds; infer_instance
instance tile_storable (d : Dev nD) (c : Fin 2) (i : Fin 16) (S : Finset S16384x128.Idx) :
    BI.Storable (upEmb : UEmb _ 𝕄) (TileHolds tb ix f0 d c i S) := by unfold TileHolds Holds; infer_instance

instance P_storable : (P tb ix f0).IsStorable where
  st q d c := match q with | 0 => core_storable tb ix f0 d (Fin.cast nCore_zero c) ∅
  dn q d c := match q with | 0 => core_storable tb ix f0 d (Fin.cast nCore_zero c) Finset.univ
  go q d c i := match q with | 0 => tile_storable tb ix f0 d (Fin.cast nCore_zero c) (Fin.cast nSub_zero i) ∅
  td q d c i := match q with | 0 => tile_storable tb ix f0 d (Fin.cast nCore_zero c) (Fin.cast nSub_zero i) Finset.univ

/-! ## A tile's obligation -/

def coordsV (c : Fin (grid0.bound 0)) (s : Fin (grid0.bound 1)) : grid0.Coords :=
  fun | 0 => c | 1 => s | ⟨_ + 2, h⟩ => absurd h (Nat.not_lt.2 (Nat.le_add_left _ _))

section Obl
variable [FloatOps F]

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) iV (Memref.isWhole_whole _) oV (Memref.isWhole_whole _)
          sV (Memref.isWhole_whole _) cc0_scoped1 rV (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hix : ∀ d j, (ix d j).toNat < 8192) : (K (F := F)).TileObl (D (F := F)) 𝒱 (P tb ix f0) v₀ 0 := by
  intro d c i O W hO _ _
  simp only [show (P tb ix f0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task d (coordsV ⟨_, hci.1⟩ ⟨_, hci.2⟩) (tb d) (ix d) (f0 d) (tileSh (Fin.cast nCore_zero c) (Fin.cast nSub_zero i))
    (tileSh (Fin.cast nCore_zero c) (Fin.cast nSub_zero i)) (coreSh (Fin.cast nCore_zero c)) hF (hix d) O W hO).trans (wp_mono frame _ _ fun _ => obl_post)

end Obl

/-! ## A core's parts are its tiles' -/

theorem mk_share (d : Dev nD) (S : Finset S16384x128.Idx) :
    (mkPts d (tb d) (ix d) (f0 d) fullShare Finset.univ S : sProp 𝕄)
      ⊣⊢ iprop(mkPts d (tb d) (ix d) (f0 d) (coreSh 0) Finset.univ S ∗ mkPts d (tb d) (ix d) (f0 d) (coreSh 1) Finset.univ S) :=
  BI.Region.held_share (PosShare.mem_left_op_right fullShare) fun i _ => by
    have h := RA.Region.WB.mem_mk_op_mk (f0 d i) (some (tgt (tb d) (ix d) i)) (decide (i ∈ S)) (decide (i ∈ S))
    rw [Bool.or_self] at h; exact h

theorem bigSep_sep' {I : Type} (s : Finset I) (Φ Ψ : I → sProp 𝕄) :
    (bigSep s fun i => iprop(Φ i ∗ Ψ i)) = iprop(bigSep s Φ ∗ bigSep s Ψ) := bigSep_sep s Φ Ψ

theorem bigSep_two (Φ : Fin 2 → sProp 𝕄) : bigSep Finset.univ Φ = iprop(Φ 0 ∗ Φ 1) := bigSep_fin_two Φ

theorem mk_tiles (d : Dev nD) (c : Fin 2) (S : Finset S16384x128.Idx) :
    (mkPts d (tb d) (ix d) (f0 d) (coreSh c) Finset.univ S : sProp 𝕄)
      = bigSep Finset.univ fun i : Fin 16 => mkPts d (tb d) (ix d) (f0 d) (coreSh c) (rowsOf (1024 * i.val) (1024 * i.val + 1024)) S := by
  have key : ∀ n : ℕ, (mkPts d (tb d) (ix d) (f0 d) (coreSh c) (rowsOf 0 (1024 * n)) S : sProp 𝕄)
      = bigSep (Finset.range n) fun i => mkPts d (tb d) (ix d) (f0 d) (coreSh c) (rowsOf (1024 * i) (1024 * i + 1024)) S := by
    intro n
    induction n with
    | zero =>
      rw [Finset.range_zero, bigSep_empty, rowsOf_empty (by omega)]
      exact BI.Region.held_empty _
    | succ n ih =>
      have h := mk_split d (tb d) (ix d) (f0 d) (coreSh c) (a := 0) (b := 1024 * n) (c := 1024 * n + 1024) (Nat.zero_le _) (by omega) S
      rw [Finset.range_add_one, SparseCore.bigSep_insert' Finset.notMem_range_self, ← ih, show 1024 * (n + 1) = 1024 * n + 1024 by omega, BI.equiv_iff.mp ⟨h.1, h.2⟩]
      exact BI.equiv_iff.mp ⟨BI.sep_comm, BI.sep_comm⟩
  rw [← rowsOf_univ, show (16384 : ℕ) = 1024 * 16 from rfl, key 16, ← Nat.Iio_eq_range, ← Fin.map_valEmbedding_univ, BI.bigSep_map]
  rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem tiles_eq (d : Dev nD) (c : Fin 2) (S : Finset S16384x128.Idx) :
    (bigSep Finset.univ fun i : Fin 16 => TileHolds tb ix f0 d c i S : sProp 𝕄)
      = iprop((bigSep Finset.univ fun i : Fin 16 => xLoc d ↦{tileSh c i} tb d) ∗ (bigSep Finset.univ fun i : Fin 16 => iLoc d ↦{tileSh c i} ix d)
          ∗ mkPts d (tb d) (ix d) (f0 d) (coreSh c) Finset.univ S) := by
  rw [mk_tiles, ← bigSep_sep', ← bigSep_sep']
  rfl

theorem vecSplit : (K (F := F)).VecSplit' (P tb ix f0) 0 := by
  intro d c
  show CoreHolds tb ix f0 d (Fin.cast nCore_zero c) ∅ ⊢ |={Set.univ}=> iprop(
      (bigSep Finset.univ fun i : Fin ((K (F := F)).nSub 0) => TileHolds tb ix f0 d (Fin.cast nCore_zero c) (Fin.cast nSub_zero i) ∅)
      ∗ ((bigSep Finset.univ fun i : Fin ((K (F := F)).nSub 0) => TileHolds tb ix f0 d (Fin.cast nCore_zero c) (Fin.cast nSub_zero i) Finset.univ)
          -∗ CoreHolds tb ix f0 d (Fin.cast nCore_zero c) Finset.univ))
  rw [bigSep_tasks (F := F) (fun i => TileHolds tb ix f0 d (Fin.cast nCore_zero c) i ∅),
    bigSep_tasks (F := F) (fun i => TileHolds tb ix f0 d (Fin.cast nCore_zero c) i Finset.univ), tiles_eq, tiles_eq]
  generalize Fin.cast nCore_zero c = c
  unfold CoreHolds
  iintro ⟨Hx, Hi, Ho⟩
  ihave Hx' := (Transfers.pointsTo_toks_split (ℓ := xLoc d) (S := Finset.univ) (f := tb d) (coreSh c) 16) $$ Hx
  ihave Hi' := (Transfers.pointsTo_toks_split (ℓ := iLoc d) (S := Finset.univ) (f := ix d) (coreSh c) 16) $$ Hi
  icases Hx' with ⟨Hxr, Hx⟩
  icases Hi' with ⟨Hir, Hi⟩
  imodintro
  isplitl [Hx Hi Ho]
  · isplitl [Hx]; · iexact Hx
    isplitl [Hi] <;> iassumption
  iintro ⟨Hx, Hi, Ho⟩
  isplitl [Hxr Hx]
  · iapply (Transfers.pointsTo_toks_join (ℓ := xLoc d) (S := Finset.univ) (f := tb d) (coreSh c) 16)
    isplitl [Hxr] <;> iassumption
  isplitl [Hir Hi]
  · iapply (Transfers.pointsTo_toks_join (ℓ := iLoc d) (S := Finset.univ) (f := ix d) (coreSh c) 16)
    isplitl [Hir] <;> iassumption
  iexact Ho

/-! ## The arrays are the cores' parts -/

theorem cores_split (d : Dev nD) (S : Finset S16384x128.Idx) :
    iprop((xLoc d ↦{fullShare} tb d) ∗ (iLoc d ↦{fullShare} ix d) ∗ mkPts d (tb d) (ix d) (f0 d) fullShare Finset.univ S)
      ⊢ (bigSep Finset.univ fun c : Fin 2 => CoreHolds tb ix f0 d c S : sProp 𝕄) := by
  rw [bigSep_two]
  unfold CoreHolds
  iintro ⟨Hx, Hi, Ho⟩
  ihave Hx' := (pointsTo_share (ℓ := xLoc d) (f := tb d) (I := Finset.univ) (PosShare.mem_left_op_right fullShare)).1 $$ Hx
  ihave Hi' := (pointsTo_share (ℓ := iLoc d) (f := ix d) (I := Finset.univ) (PosShare.mem_left_op_right fullShare)).1 $$ Hi
  ihave Ho' := (mk_share tb ix f0 d S).1 $$ Ho
  icases Hx' with ⟨Hx0, Hx1⟩
  icases Hi' with ⟨Hi0, Hi1⟩
  icases Ho' with ⟨Ho0, Ho1⟩
  isplitl [Hx0 Hi0 Ho0]
  · isplitl [Hx0]; · iexact Hx0
    isplitl [Hi0]; · iexact Hi0
    iexact Ho0
  · isplitl [Hx1]; · iexact Hx1
    isplitl [Hi1]; · iexact Hi1
    iexact Ho1

theorem cores_join (d : Dev nD) (S : Finset S16384x128.Idx) :
    (bigSep Finset.univ fun c : Fin 2 => CoreHolds tb ix f0 d c S : sProp 𝕄)
      ⊢ iprop((xLoc d ↦{fullShare} tb d) ∗ (iLoc d ↦{fullShare} ix d) ∗ mkPts d (tb d) (ix d) (f0 d) fullShare Finset.univ S) := by
  rw [bigSep_two]
  unfold CoreHolds
  iintro ⟨⟨Hx0, Hi0, Ho0⟩, ⟨Hx1, Hi1, Ho1⟩⟩
  isplitl [Hx0 Hx1]
  · iapply (pointsTo_share (ℓ := xLoc d) (f := tb d) (I := Finset.univ) (PosShare.mem_left_op_right fullShare)).2
    isplitl [Hx0]
    · iexact Hx0
    · iexact Hx1
  isplitl [Hi0 Hi1]
  · iapply (pointsTo_share (ℓ := iLoc d) (f := ix d) (I := Finset.univ) (PosShare.mem_left_op_right fullShare)).2
    isplitl [Hi0]
    · iexact Hi0
    · iexact Hi1
  iapply (mk_share tb ix f0 d S).2
  isplitl [Ho0]
  · iexact Ho0
  · iexact Ho1

end Deal

end Cert.Proof.Rows
-- ==== Proof.Main.lean ====
module

public import proofs.«01_k».proof.Proof.Launch

@[expose] public section

/-!
# The program's run

The nine arrays of the TensorCore are followed from the launch to the end: through the operations before the call, the
call itself, and the two after it.
-/

noncomputable section

namespace Cert.Proof.Rows

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

open Idealize.ShloMosaic.StableHlo (held after wp_hlo_within)

/-! ## The host operations -/

section Ops

abbrev dv (b : Ref sig .tc) : DevRef τ sig := Proc.devRef .tc b

variable [FloatOps F]

def opZero : HloOp τ sig (Elt F) := StableHlo.nullary main_c (constantI S_ 32 0#32)
def opConv : HloOp τ sig (Elt F) := StableHlo.TRef.unary (.of main_c : StableHlo.TRef sig ⟨S_, .i32⟩) main_call0.v0 (sitofp .f32)
def opPad : HloOp τ sig (Elt F) :=
  StableHlo.TRef.binary (.of main_arg0 : StableHlo.TRef sig ⟨S8192x32, .f32⟩) main_call0.v0 main_call0.v1 (fun x v => pad S8192x128 ![0, 0] ![0, 96] ![0, 0] x v pads_S8192x32_S8192x128_000_0960 h_S_)
def opIdx : HloOp τ sig (Elt F) := StableHlo.reshape main_arg1 main_v1 (rfl : (.i32 : EltTy) = .i32) shapeCasts_S16384x1_S1x16384
def opCut : HloOp τ sig (Elt F) :=
  StableHlo.unary main_v2 main_v3 ((extractStridedSlice S16384x32 ![0, 0] · slices_S16384x128_S16384x32_0_0) : (⟨S16384x128, .f32⟩ : BufTy).Contents (Elt F) → (⟨S16384x32, .f32⟩ : BufTy).Contents (Elt F))
def opFold : HloOp τ sig (Elt F) := StableHlo.reshape main_v3 main_v4 (rfl : (.f32 : EltTy) = .f32) shapeCasts_S16384x32_S16x1024x32

/-- The TensorCore's arrays. -/
def arrays : Finset (DevRef τ sig) :=
  {dv main_arg0, dv main_arg1, dv main_c, dv main_call0_v0, dv main_v0, dv main_v1, dv main_v2, dv main_v3, dv main_v4}

theorem sub_zero : (opZero (F := F)).bufs ⊆ arrays := show ({dv main_c} : Finset (DevRef τ sig)) ⊆ arrays by decide
theorem sub_conv : (opConv (F := F)).bufs ⊆ arrays := show ({dv main_c, dv main_call0_v0} : Finset (DevRef τ sig)) ⊆ arrays by decide
theorem sub_pad : (opPad (F := F)).bufs ⊆ arrays := show ({dv main_arg0, dv main_call0_v0, dv main_v0} : Finset (DevRef τ sig)) ⊆ arrays by decide
theorem sub_idx : (opIdx (F := F)).bufs ⊆ arrays := show ({dv main_arg1, dv main_v1} : Finset (DevRef τ sig)) ⊆ arrays by decide
theorem sub_cut : (opCut (F := F)).bufs ⊆ arrays := show ({dv main_v2, dv main_v3} : Finset (DevRef τ sig)) ⊆ arrays by decide
theorem sub_fold : (opFold (F := F)).bufs ⊆ arrays := show ({dv main_v3, dv main_v4} : Finset (DevRef τ sig)) ⊆ arrays by decide

end Ops

section Main

variable [FloatOps F]
variable (m : (ℓ : Loc nD τ sig) → Buf (Elt F) ℓ) (ρ : Dev nD → PrngReg)

/-- What the arrays hold at the launch, before the call, after the call and at the end. -/
def V0 (d : Dev nD) : Valuation τ sig (Elt F) := fun b => m (d, b)
def V1 (d : Dev nD) : Valuation τ sig (Elt F) := after [opZero, opConv, opPad, opIdx] (V0 m d)
abbrev tbOf (d : Dev nD) : S8192x128.Idx → F .f32 := V1 m d (dv main_v0)
abbrev ixOf (d : Dev nD) : S1x16384.Idx → BitVec 32 := V1 m d (dv main_v1)
abbrev f0Of (d : Dev nD) : S16384x128.Idx → F .f32 := V1 m d (dv main_v2)
def V2 (d : Dev nD) : Valuation τ sig (Elt F) := Function.update (V1 m d) (dv main_v2) (tgt (tbOf m d) (ixOf m d))
def V3 (d : Dev nD) : Valuation τ sig (Elt F) := after [opCut, opFold] (V2 m d)

abbrev PM : (K (F := F)).Pay (nD := nD) (Val := Elt F) (Name := ℕ) (U := UU F) := P (tbOf m) (ixOf m) (f0Of m)

/-! ## The ghost state at the launch -/

def u₀ : UU F := (initOf (K (F := F)).hsCells (K (F := F)).hsToks, (wm₀ nD τ sig (Elt F), 1))

theorem bigSep_all {I : Type} (s : Finset I) (A : sProp 𝕄) [BI.Persistent A] : A ⊢ bigSep s fun _ => A := by
  classical
  induction s using Finset.induction_on with
  | empty => rw [bigSep_empty]; iintro -; iempintro
  | insert a s ha ih =>
    rw [SparseCore.bigSep_insert' ha]
    iintro #H
    isplitr; · iexact H
    iapply ih; iexact H

theorem hu₀ : (ownU (u₀ (F := F)) : sProp 𝕄)
    ⊢ |={Set.univ}=> iprop(BI.own (EH (initOf (K (F := F)).hsCells (K (F := F)).hsToks)) ∗ (bigSep Finset.univ fun _ : Dev nD => Mode F)
        ∗ bigSep Finset.univ fun thr : Thread nD τ => bigSep Finset.univ fun q : Fin 1 => (PM m).x q thr) := by
  unfold u₀
  iintro Hu
  ihave H := (ownU_pair (initOf (K (F := F)).hsCells (K (F := F)).hsToks) ((wm₀ nD τ sig (Elt F), 1) : UW F × Counters)) $$ Hu
  icases H with ⟨HH, HW⟩
  ihave HW' := (own_pair_emb embR (wm₀ nD τ sig (Elt F)) (1 : Counters)) $$ HW
  icases HW' with ⟨HW, -⟩
  ihave HW := (show (BI.own (((Emb.inl : Emb (UW F) (UW F × Counters)).trans embR) (wm₀ nD τ sig (Elt F))) : sProp 𝕄)
    ⊢ ownU (wemb F (wm₀ nD τ sig (Elt F))) from .rfl) $$ HW
  imod (wmInv_alloc (emb := wemb F) (Ix := HIx 1) (Name := ℕ) (Lvl := ℕ) (⟨m, fun _ => 0, fun _ => default⟩ : MemSt nD τ sig (Elt F)) ∅ (E := Set.univ)) $$ HW with ⟨%ιwm, -, #Hinv⟩
  imodintro
  isplitl [HH]; · iexact HH
  isplitr
  · iapply (bigSep_all Finset.univ (Mode F)); iexists ιwm; iexact Hinv
  · rw [show (bigSep Finset.univ fun thr : Thread nD τ => bigSep Finset.univ fun q : Fin 1 => (PM m).x q thr) = bigSep Finset.univ fun _ => Mode F from
      bigSep_congr fun _ _ => bigSep_univ_of_subsingleton (0 : Fin 1)]
    iapply (bigSep_all Finset.univ (Mode F)); iexists ιwm; iexact Hinv

/-! ## The TensorCore -/

theorem held_arrays (d : Dev nD) (V : Valuation τ sig (Elt F)) :
    (held (SparseCore.T d) arrays V : sProp 𝕄)
      = iprop(((d, dv main_arg0) ↦{fullShare} V (dv main_arg0)) ∗ ((d, dv main_arg1) ↦{fullShare} V (dv main_arg1))
          ∗ ((d, dv main_c) ↦{fullShare} V (dv main_c)) ∗ ((d, dv main_call0_v0) ↦{fullShare} V (dv main_call0_v0))
          ∗ (xLoc d ↦{fullShare} V (dv main_v0)) ∗ (iLoc d ↦{fullShare} V (dv main_v1)) ∗ (oLoc d ↦{fullShare} V (dv main_v2))
          ∗ ((d, dv main_v3) ↦{fullShare} V (dv main_v3)) ∗ ((d, dv main_v4) ↦{fullShare} V (dv main_v4))) := by
  unfold held arrays
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (SparseCore.T d) arrays (V0 m d) := by
  rw [held_arrays]
  unfold unscopedBufs
  rw [show (Finset.univ.filter fun b : Ref sig .tc => ¬ b.isScoped)
      = {main_arg0, main_arg1, main_c, main_call0_v0, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

theorem V2_ne (d : Dev nD) {b : DevRef τ sig} (h : b ≠ dv main_v2) : V2 m d b = V1 m d b := Function.update_of_ne h _ _
theorem V2_out (d : Dev nD) : V2 m d (dv main_v2) = tgt (tbOf m d) (ixOf m d) := Function.update_self _ _ _

theorem held_V2 (d : Dev nD) :
    (held (SparseCore.T d) arrays (V2 m d) : sProp 𝕄)
      = iprop(((d, dv main_arg0) ↦{fullShare} V1 m d (dv main_arg0)) ∗ ((d, dv main_arg1) ↦{fullShare} V1 m d (dv main_arg1))
          ∗ ((d, dv main_c) ↦{fullShare} V1 m d (dv main_c)) ∗ ((d, dv main_call0_v0) ↦{fullShare} V1 m d (dv main_call0_v0))
          ∗ (xLoc d ↦{fullShare} tbOf m d) ∗ (iLoc d ↦{fullShare} ixOf m d) ∗ (oLoc d ↦{fullShare} tgt (tbOf m d) (ixOf m d))
          ∗ ((d, dv main_v3) ↦{fullShare} V1 m d (dv main_v3)) ∗ ((d, dv main_v4) ↦{fullShare} V1 m d (dv main_v4))) := by
  rw [held_arrays, V2_out, V2_ne m d (show dv main_arg0 ≠ dv main_v2 by decide), V2_ne m d (show dv main_arg1 ≠ dv main_v2 by decide),
    V2_ne m d (show dv main_c ≠ dv main_v2 by decide), V2_ne m d (show dv main_call0_v0 ≠ dv main_v2 by decide),
    V2_ne m d (show dv main_v0 ≠ dv main_v2 by decide), V2_ne m d (show dv main_v1 ≠ dv main_v2 by decide),
    V2_ne m d (show dv main_v3 ≠ dv main_v2 by decide), V2_ne m d (show dv main_v4 ≠ dv main_v2 by decide)]

theorem st0_eq (d : Dev nD) : (bigSep Finset.univ fun c : Fin ((K (F := F)).nCore 0) => (PM m).st 0 d c)
    = bigSep Finset.univ fun c : Fin 2 => CoreHolds (tbOf m) (ixOf m) (f0Of m) d c ∅ :=
  bigSep_congr fun _ _ => rfl
theorem dn0_eq (d : Dev nD) : (bigSep Finset.univ fun c : Fin ((K (F := F)).nCore 0) => (PM m).dn 0 d c)
    = bigSep Finset.univ fun c : Fin 2 => CoreHolds (tbOf m) (ixOf m) (f0Of m) d c Finset.univ :=
  bigSep_congr fun _ _ => rfl

theorem hmain (κ : GSem nD τ sig → ℕ) (d : Dev nD) :
    iprop((K (F := F)).ctx EH (PM m) κ ∗ (K (F := F)).tcSt EH d 0 ∗ (K (F := F)).tcRes m ρ d ∗ Mode F)
      ⊢ wp frame (wpE ((K (F := F)).defs (D (F := F))) 𝒱 (SparseCore.T d) none) Set.univ (main d)
          fun _ => iprop((K (F := F)).tcSt EH d 1 ∗ held (SparseCore.T d) arrays (V3 m d) ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, ⟨%ιwm, #Hinv⟩⟩
  iapply (wp_hlo_within 𝒱 (SparseCore.T d) none Set.univ (op := opZero) (S := arrays) sub_zero (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opConv) (S := arrays) sub_conv (V := after [opZero] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := opPad) (S := arrays) sub_pad (V := after [opZero, opConv] (V0 m d))) $$ [Hb Hheld]
  · isplitl [Hb]; · iexact Hb
    iexact Hheld
  iintro ⟨Hb, Hheld⟩
  rw [wp_ret]; imodintro; imodintro
  iapply (wp_hlo_within 𝒱 (SparseCore.T d) none Set.univ (op := opIdx) (S := arrays) sub_idx (V := after [opZero, opConv, opPad] (V0 m d))) $$ [Hb Hheld]
  · isplitl [Hb]; · iexact Hb
    iexact Hheld
  iintro ⟨Hb, Hheld⟩
  rw [wp_ret]; imodintro
  ihave Hh := (Entails.of_eq ((show (held (SparseCore.T d) arrays ((opIdx (F := F)).result (after [opZero, opConv, opPad] (V0 m d))) : sProp 𝕄)
      = held (SparseCore.T d) arrays (V1 m d) from rfl).trans (held_arrays d (V1 m d)))) $$ Hheld
  icases Hh with ⟨Ha0, Ha1, Hc, Hcc, Hx, Hi, Ho, H3, H4⟩
  imod (pointsTo_castIn (emb := wemb F) (ℓ := oLoc d) (I := Finset.univ) (f := f0Of m d) (E := Set.univ) (fun j => some (tgt (tbOf m d) (ixOf m d) j))) $$ [Ho] with Ho
  · isplitr; · iexact Hinv
    iexact Ho
  iapply ((K (F := F)).wp_run (D (F := F)) 𝒱 (EH := EH) (P := PM m) κ d 0)
  isplitr; · iexact Hctx
  isplitl [Hst]; · iexact Hst
  isplitl [Hx Hi Ho]
  · rw [st0_eq]
    iapply (cores_split (tbOf m) (ixOf m) (f0Of m) d ∅)
    isplitl [Hx]; · iexact Hx
    isplitl [Hi] <;> iassumption
  iintro ⟨Hst, Hdn⟩
  ihave Hdn' := ((Entails.of_eq (dn0_eq m d)).trans (cores_join (tbOf m) (ixOf m) (f0Of m) d Finset.univ)) $$ Hdn
  icases Hdn' with ⟨Hx, Hi, Ho⟩
  imod (willBeTo_castOut_some (emb := wemb F) (ℓ := oLoc d) (I := Finset.univ) (f := f0Of m d) (E := Set.univ) (g := tgt (tbOf m d) (ixOf m d))) $$ [Ho] with Ho
  · isplitr; · iexact Hinv
    iexact Ho
  iapply (wp_hlo_within 𝒱 (SparseCore.T d) none Set.univ (op := opCut) (S := arrays) sub_cut (V := V2 m d)) $$ [Hb Ha0 Ha1 Hc Hcc Hx Hi Ho H3 H4]
  · isplitl [Hb]; · iexact Hb
    rw [held_V2]
    isplitl [Ha0]; · iexact Ha0
    isplitl [Ha1]; · iexact Ha1
    isplitl [Hc]; · iexact Hc
    isplitl [Hcc]; · iexact Hcc
    isplitl [Hx]; · iexact Hx
    isplitl [Hi]; · iexact Hi
    isplitl [Ho]
    · iapply (Entails.of_eq (show (oLoc d ↦{fullShare} Finset.univ.piecewise (tgt (tbOf m d) (ixOf m d)) (f0Of m d) : sProp 𝕄)
        = oLoc d ↦{fullShare} tgt (tbOf m d) (ixOf m d) by rw [Finset.piecewise_univ])) $$ Ho
    isplitl [H3] <;> iassumption
  iintro ⟨Hb, Hheld⟩
  rw [wp_ret]; imodintro
  iapply (wp_hlo_within 𝒱 (SparseCore.T d) none Set.univ (op := opFold) (S := arrays) sub_fold (V := after [opCut] (V2 m d))) $$ [Hb Hheld]
  · isplitl [Hb]; · iexact Hb
    iexact Hheld
  iintro ⟨Hb, Hheld⟩
  rw [wp_ret]; imodintro; imodintro
  isplitl [Hst]; · iexact Hst
  isplitl [Hheld]; · iexact Hheld
  isplitl [Hb] <;> iassumption

/-! ## The run -/

/-- What is read of device `d`'s end. -/
def fq (d : Dev nD) (s' : Phys nD τ sig (Elt F)) : Prop :=
  s'.mem.mem (d, dv main_arg0) = V3 m d (dv main_arg0) ∧ s'.mem.mem (d, dv main_arg1) = V3 m d (dv main_arg1)
    ∧ s'.mem.mem (d, dv main_v4) = V3 m d (dv main_v4)

set_option maxRecDepth 16384 in
theorem hfin (d : Dev nD) (s' : Phys nD τ sig (Elt F)) :
    iprop(held (SparseCore.T d) arrays (V3 m d) ∗ SI s') ⊢ (⌜fq m d s'⌝ : sProp 𝕄) := by
  rw [held_arrays]
  iintro ⟨⟨H0, H1, -, -, -, -, -, -, H4⟩, HSI⟩
  ihave H := (persistent_entails_right (SI_pointsTo_agree (st := s') (ℓ := (d, dv main_arg0)) (I := Finset.univ) (q := fullShare) (f := V3 m d (dv main_arg0)))) $$ [HSI H0]
  · isplitl [HSI] <;> iassumption
  icases H with ⟨%h0, HSI, -⟩
  ihave H := (persistent_entails_right (SI_pointsTo_agree (st := s') (ℓ := (d, dv main_arg1)) (I := Finset.univ) (q := fullShare) (f := V3 m d (dv main_arg1)))) $$ [HSI H1]
  · isplitl [HSI] <;> iassumption
  icases H with ⟨%h1, HSI, -⟩
  ihave H := (SI_pointsTo_agree (st := s') (ℓ := (d, dv main_v4)) (I := Finset.univ) (q := fullShare) (f := V3 m d (dv main_v4))) $$ [HSI H4]
  · isplitl [HSI] <;> iassumption
  icases H with %h4
  ipureintro
  exact ⟨funext fun i => h0 i (Finset.mem_univ i), funext fun i => h1 i (Finset.mem_univ i), funext fun i => h4 i (Finset.mem_univ i)⟩

def QC : PUnit × MemSt nD τ sig (Elt F) → Prop := fun r =>
  (∀ c : Dev nD, r.2.mem (c, dv main_arg0) = V3 m c (dv main_arg0) ∧ r.2.mem (c, dv main_arg1) = V3 m c (dv main_arg1)
    ∧ r.2.mem (c, dv main_v4) = V3 m c (dv main_v4)) ∧ r.2.sem = fun _ => 0

theorem run_main [∀ e, Nonempty (Elt F e)] (hix : ∀ d j, (ixOf m d j).toNat < 8192) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (tbOf m) (ixOf m) (f0Of m) facts hix)
    (fun q _ => match q with | 0 => SparseCore.Cfg.VecSplit.of_plain (vecSplit (tbOf m) (ixOf m) (f0Of m)))
    m ρ main (fun _ => Mode F) (fun d => held (SparseCore.T d) arrays (V3 m d)) (u₀ (F := F)) (sep_elim_left.trans (hu₀ m)) (hmain m ρ) (fq m) (hfin m) (QC m)
    (fun _ h hz => ⟨h, hz⟩)

end Main

end Cert.Proof.Rows
-- ==== Proof.Value.lean ====
module

public import proofs.«01_k».proof.Proof.Main
public import proofs.«01_k».proof.Proof.Gen.TakenIdeal.Run
public import proofs.«01_k».proof.Proof.Gen.Pre_in_range
public import Idealize.ShloMosaic.Lib.ReduceAll
public import Idealize.ShloMosaic.Lib.KernelVsHost

@[expose] public section

/-!
# The values

`rows emb idx` is the table's row at each index word, as a [16, 1024, 32] array. The kernel leaves it in its result,
and `jnp.take` of the same arguments is it when every index word is below 8192.
-/

noncomputable section

namespace Cert.Proof.Rows

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev S16x1024 : Shape := Cert.TakenIdeal.S16x1024

local notation "𝕄" => MT nD τ sig (HIx 1) (Elt F) ℕ (UU F) ℕ

open Idealize.ShloMosaic.StableHlo

/-! ## The rows an index array names -/

/-- The index word of position `(a, b)`. -/
abbrev at' (idx : S16384x1.Idx → BitVec 32) (a : Fin 16) (b : Fin 1024) : BitVec 32 :=
  idx fun | 0 => ⟨a.val * 1024 + b.val, by have := a.isLt; have := b.isLt; show _ < 16384; omega⟩ | 1 => ⟨0, Nat.one_pos⟩

def rows {A : Type} (emb : S8192x32.Idx → A) (idx : S16384x1.Idx → BitVec 32) (j : S16x1024x32.Idx) : A :=
  emb fun | 0 => ⟨(at' idx (j 0) (j 1)).toNat % 8192, Nat.mod_lt _ (by decide)⟩ | 1 => j 2

/-! ## The kernel's result -/

section Kernel

variable [FloatOps F]
variable (m : (ℓ : Loc nD τ sig) → Buf (Elt F) ℓ)

theorem V3_arg0 (d : Dev nD) : V3 m d (dv main_arg0) = m (d, dv main_arg0) := by
  unfold V3 opCut opFold
  after_results
  rw [show V2 m d (dv main_arg0) = V1 m d (dv main_arg0) from Function.update_of_ne (by decide) ..]
  unfold V1 V0 opZero opConv opPad opIdx
  simp only [TRef.binary, TRef.nullary, TRef.unary, TRef.toBuf, TRef.ofBuf, cast_eq]
  after_results <;> rfl

theorem V3_arg1 (d : Dev nD) : V3 m d (dv main_arg1) = m (d, dv main_arg1) := by
  unfold V3 opCut opFold
  after_results
  rw [show V2 m d (dv main_arg1) = V1 m d (dv main_arg1) from Function.update_of_ne (by decide) ..]
  unfold V1 V0 opZero opConv opPad opIdx
  simp only [TRef.binary, TRef.nullary, TRef.unary, TRef.toBuf, TRef.ofBuf, cast_eq]
  after_results <;> rfl

abbrev idxOf (d : Dev nD) : S16384x1.Idx → BitVec 32 := m (d, dv main_arg1)
abbrev embOf (d : Dev nD) : S8192x32.Idx → F .f32 := m (d, dv main_arg0)

theorem ixOf_eq (d : Dev nD) : ixOf m d = shapeCast S1x16384 (idxOf m d) shapeCasts_S16384x1_S1x16384 := by
  unfold ixOf V1 V0 opZero opConv opPad opIdx
  simp only [TRef.binary, TRef.nullary, TRef.unary, TRef.toBuf, TRef.ofBuf, cast_eq]
  after_results <;> rfl

theorem tbOf_eq (d : Dev nD) : tbOf m d = pad S8192x128 ![0, 0] ![0, 96] ![0, 0] (embOf m d)
    (sitofp (F := F) .f32 (constantI S_ 32 0#32)) pads_S8192x32_S8192x128_000_0960 h_S_ := by
  unfold tbOf V1 V0 opZero opConv opPad opIdx
  simp only [TRef.binary, TRef.nullary, TRef.unary, TRef.toBuf, TRef.ofBuf, cast_eq]
  after_results <;> rfl

theorem V3_v4 (d : Dev nD) : V3 m d (dv main_v4)
    = shapeCast S16x1024x32 (extractStridedSlice S16384x32 ![0, 0] (tgt (tbOf m d) (ixOf m d)) slices_S16384x128_S16384x32_0_0)
        shapeCasts_S16384x32_S16x1024x32 := by
  unfold V3 opCut opFold
  after_results
  rw [show V2 m d (dv main_v2) = tgt (tbOf m d) (ixOf m d) from Function.update_self ..]
  rfl

/-- The index array laid out as a row has the column's words. -/
theorem word_row (idx : S16384x1.Idx → BitVec 32) (n : Fin 16384) :
    word (shapeCast S1x16384 idx shapeCasts_S16384x1_S1x16384) n = idx fun | 0 => n | 1 => ⟨0, Nat.one_pos⟩ := by
  refine shapeCast_apply idx _ _ _ ?_
  rw [Shape.rowMajor_val_two, Shape.rowMajor_val_two]
  show n.val * 1 + 0 = 0 * 16384 + n.val
  omega

theorem pad_entry {A : Type} (emb : S8192x32.Idx → A) (z : S_.Idx → A) (n : Fin 8192) (l : Fin 128) (l' : Fin 32) (hl : l.val = l'.val) :
    entry (pad S8192x128 ![0, 0] ![0, 96] ![0, 0] emb z pads_S8192x32_S8192x128_000_0960 h_S_) n l = emb fun | 0 => n | 1 => l' := by
  refine pad_apply_of_inside _ _ _ emb z _ _ _ _ ?_
  intro a
  match a with
  | 0 => show n.val = 0 + n.val * (0 + 1); omega
  | 1 => show l.val = 0 + l'.val * (0 + 1); omega

theorem rows_of_tgt {A : Type} (emb : S8192x32.Idx → A) (z : S_.Idx → A) (idx : S16384x1.Idx → BitVec 32) :
    shapeCast S16x1024x32 (extractStridedSlice S16384x32 ![0, 0]
      (tgt (pad S8192x128 ![0, 0] ![0, 96] ![0, 0] emb z pads_S8192x32_S8192x128_000_0960 h_S_) (shapeCast S1x16384 idx shapeCasts_S16384x1_S1x16384))
      slices_S16384x128_S16384x32_0_0) shapeCasts_S16384x32_S16x1024x32 = rows emb idx := by
  funext j
  have h0 : (j 0).val < 16 := (j 0).isLt
  have h1 : (j 1).val < 1024 := (j 1).isLt
  have h2 : (j 2).val < 32 := (j 2).isLt
  have hn : (j 0).val * 1024 + (j 1).val < 16384 := by omega
  refine (shapeCast_apply _ _ j (fun | 0 => ⟨(j 0).val * 1024 + (j 1).val, hn⟩ | 1 => ⟨(j 2).val, h2⟩ : S16384x32.Idx) ?_).trans ?_
  · rw [Shape.rowMajor_val_two, Shape.rowMajor_val_three]; rfl
  · refine (pad_entry emb z _ _ ⟨(j 2).val, h2⟩ (Nat.zero_add _)).trans ?_
    unfold rows
    have hw := word_row idx ⟨0 + ((j 0).val * 1024 + (j 1).val), by omega⟩
    refine congrArg emb (funext fun a => ?_)
    match a with
    | 0 =>
      refine Fin.ext ?_
      refine (congrArg (fun w : BitVec 32 => w.toNat % 8192) hw).trans ?_
      refine congrArg (fun w : BitVec 32 => w.toNat % 8192) ?_
      refine congrArg idx (funext fun a => ?_)
      match a with
      | 0 => exact Fin.ext (Nat.zero_add _)
      | 1 => rfl
    | 1 => rfl

theorem result (d : Dev nD) : V3 m d (dv main_v4) = rows (embOf m d) (idxOf m d) := by
  rw [V3_v4, tbOf_eq, ixOf_eq]
  exact rows_of_tgt _ _ _

theorem small_row (d : Dev nD) (h : ∀ i, (idxOf m d i).toNat < 8192) (j : S1x16384.Idx) : (ixOf m d j).toNat < 8192 := by
  rw [ixOf_eq]; exact h _

end Kernel

/-! ## The precondition -/

section Take

variable [FloatOps F]

theorem word_key : ∀ v : BitVec 32, IntOp.andi (IntOp.cmpi .sge v 0#32) (IntOp.cmpi .slt v 8192#32) = 1#1 → v.toNat < 8192 := by
  have ands (p q : Bool) : IntOp.andi (BitVec.ofBool p) (BitVec.ofBool q) = BitVec.ofBool (p && q) := by
    cases p <;> cases q <;> decide
  have one (p : Bool) : (BitVec.ofBool p = 1#1) ↔ p = true := by cases p <;> decide
  intro v e
  simp only [IntOp.cmpi, ands, one, Bool.and_eq_true, BitVec.sle_eq_decide, BitVec.slt_eq_decide,
    decide_eq_true_eq, BitVec.toInt_eq_toNat_cond, BitVec.toNat_ofNat, Nat.reducePow, Nat.reduceMod] at e
  omega

/-- What the precondition says of the index words. -/
theorem small_of_pre (emb : FVec F S8192x32 .f32) (idx : IVec S16384x1 32)
    (h : Cert.Pre_in_range.fn (F := F) emb idx = fun _ => 1#1) (i : S16384x1.Idx) : (idx i).toNat < 8192 := by
  haveI : Subsingleton Cert.Pre_in_range.S_.Idx := ⟨fun a b => funext fun k => k.elim0⟩
  have e := congrFun h (fun k => k.elim0)
  unfold Cert.Pre_in_range.fn at e
  have e' := Host.reduce_andi_all _ _ _ _ _ e i
  exact word_key _ e'

end Take

/-! ## `jnp.take` -/

section Take

variable [FloatOps F]

/-- An index word below 8192 passes `jnp.take`'s tests and is not moved by its wrap. -/
theorem wrap_eq (v : BitVec 32) (h : v.toNat < 8192) : (if IntOp.cmpi .slt v 0#32 = 1#1 then IntOp.addi v 8192#32 else v) = v := by
  have one (p : Bool) : (BitVec.ofBool p = 1#1) ↔ p = true := by cases p <;> decide
  have e : ¬ IntOp.cmpi .slt v 0#32 = 1#1 := by
    intro e
    simp only [IntOp.cmpi, one, BitVec.slt_eq_decide,
      decide_eq_true_eq, BitVec.toInt_eq_toNat_cond, BitVec.toNat_ofNat, Nat.reducePow, Nat.reduceMod] at e
    omega
  exact if_neg e

abbrev pt (a : Fin 16) (b : Fin 1024) : S16x1024.Idx := fun | 0 => a | 1 => b

/-- The words `jnp.take` gathers at: each wrapped once if negative. -/
def wrapped (w : IVec S16x1024 32) : IVec Cert.TakenIdeal.S16x1024x1 32 :=
  broadcastInDim Cert.TakenIdeal.S16x1024x1 ![0, 1] Cert.TakenIdeal.Facts₀.bcast_S16x1024_S16x1024x1_0_1
    (select (cmpi .slt w (broadcastInDim S16x1024 ![] Cert.TakenIdeal.Facts₀.bcast_S_S16x1024 (constantI S_ 32 0#32)))
      (addi w (broadcastInDim S16x1024 ![] Cert.TakenIdeal.Facts₀.bcast_S_S16x1024 (constantI S_ 32 8192#32))) w)

/-- What `jnp.take` computes of a table and the words. -/
def takenOf (emb : FVec F S8192x32 .f32) (w : IVec S16x1024 32) : FVec F S16x1024x32 .f32 :=
  select (broadcastInDim S16x1024x32 ![0, 1] Cert.TakenIdeal.Facts₀.bcast_S16x1024_S16x1024x32_0_1
      (Host.reduce IntOp.andi (andi (cmpi .sge (wrapped w) (broadcastInDim Cert.TakenIdeal.S16x1024x1 ![] Cert.TakenIdeal.Facts₀.bcast_S_S16x1024x1 (constantI S_ 32 0#32)))
        (cmpi .sle (wrapped w) (broadcastInDim Cert.TakenIdeal.S16x1024x1 ![0, 1, 2] Cert.TakenIdeal.Facts₀.bcast_S1x1x1_S16x1024x1_0_1_2
          (broadcastInDim Cert.TakenIdeal.S1x1x1 ![2] Cert.TakenIdeal.Facts₀.bcast_S1_S1x1x1_2 (constantI Cert.TakenIdeal.S1 32 8191#32)))))
        (constantI S_ 1 1#1) Cert.TakenIdeal.Facts₀.reducesTo_S16x1024x1_S16x1024_d2 Cert.TakenIdeal.Facts₀.h_S_))
    (Host.gather Cert.TakenIdeal.gather_S8192x32_S16x1024x1_S16x1024x32_2_0_n_n_0_2_132 emb (wrapped w))
    (broadcastInDim S16x1024x32 ![] Cert.TakenIdeal.Facts₀.bcast_S_S16x1024x32 (constant S_ .f32 0x7FC00000#32))

theorem wrapped_eq (w : IVec S16x1024 32) (h : ∀ i, (w i).toNat < 8192) (i : Cert.TakenIdeal.S16x1024x1.Idx) :
    wrapped w i = w (pt (i 0) (i 1)) := by
  refine (wrap_eq _ (h _)).trans ?_
  refine congrArg w (funext fun a => ?_)
  match a with
  | 0 => rfl
  | 1 => rfl

theorem test_word (v : BitVec 32) (h : v.toNat < 8192) : IntOp.andi (IntOp.cmpi .sge v 0#32) (IntOp.cmpi .sle v 8191#32) = 1#1 := by
  have ands (p q : Bool) : IntOp.andi (BitVec.ofBool p) (BitVec.ofBool q) = BitVec.ofBool (p && q) := by
    cases p <;> cases q <;> decide
  have one (p : Bool) : (BitVec.ofBool p = 1#1) ↔ p = true := by cases p <;> decide
  simp only [IntOp.cmpi, ands, one, Bool.and_eq_true, BitVec.sle_eq_decide, BitVec.slt_eq_decide,
    decide_eq_true_eq, BitVec.toInt_eq_toNat_cond, BitVec.toNat_ofNat, Nat.reducePow, Nat.reduceMod]
  omega

theorem clip (v : BitVec 32) (h : v.toNat < 8192) : min v.toInt.toNat 8191 = v.toNat % 8192 := by
  have hv : v.toInt.toNat = v.toNat := by
    rw [BitVec.toInt_eq_toNat_cond]; split <;> omega
  omega

/-- The row and lane a result position reads. -/
theorem taken_index (w : IVec S16x1024 32) (h : ∀ i, (w i).toNat < 8192) (j : S16x1024x32.Idx) :
    Cert.TakenIdeal.gather_S8192x32_S16x1024x1_S16x1024x32_2_0_n_n_0_2_132.operandIdx j (wrapped w)
      = fun | 0 => ⟨(w (pt (j 0) (j 1))).toNat % 8192, Nat.mod_lt _ (by decide)⟩ | 1 => j 2 := by
  funext a
  refine Fin.ext ?_
  show GatherDims.start _ j (wrapped w) a + GatherDims.batchCoord _ j a + GatherDims.offCoord _ j a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    refine (dif_pos (show (0 : Fin 2) ∈ Cert.TakenIdeal.gather_S8192x32_S16x1024x1_S16x1024x32_2_0_n_n_0_2_132.startIndexMap from
      List.mem_singleton.mpr rfl)).trans ?_
    refine (congrArg (fun v : BitVec 32 => min v.toInt.toNat 8191) (wrapped_eq w h _)).trans ?_
    exact clip (w (pt (j 0) (j 1))) (h _)
  | 1 =>
    refine (congrArg (· + _) (dif_neg (show ¬ (1 : Fin 2) ∈ Cert.TakenIdeal.gather_S8192x32_S16x1024x1_S16x1024x32_2_0_n_n_0_2_132.startIndexMap by decide))).trans ?_
    exact Nat.zero_add _

theorem select_one {A : Type} {s : Shape} (c : IVec s 1) (x y : s.Idx → A) (i : s.Idx) (hc : c i = 1#1) : select c x y i = x i := if_pos hc

theorem bcast_one {s t : Shape} (dims : Fin s.rank → Fin t.rank) (h : s.BroadcastsInDim t dims) (c : IVec s 1) (hc : ∀ i, c i = 1#1) (j : t.Idx) :
    broadcastInDim t dims h c j = 1#1 := hc _

theorem takenOf_eq (emb : FVec F S8192x32 .f32) (w : IVec S16x1024 32) (h : ∀ i, (w i).toNat < 8192) (j : S16x1024x32.Idx) :
    takenOf emb w j = emb fun | 0 => ⟨(w (pt (j 0) (j 1))).toNat % 8192, Nat.mod_lt _ (by decide)⟩ | 1 => j 2 := by
  unfold takenOf
  refine (select_one _ _ _ j ?_).trans (congrArg emb (taken_index w h j))
  refine bcast_one _ _ _ (fun k => ?_) j
  refine Host.reduce_andi_one _ _ _ _ k rfl fun i => ?_
  have e := test_word (w (pt (i 0) (i 1))) (h _)
  rw [← wrapped_eq w h i] at e
  exact e

theorem taken_rows (emb : FVec F S8192x32 .f32) (idx : IVec S16384x1 32) (h : ∀ i, (idx i).toNat < 8192) :
    takenOf emb (shapeCast S16x1024 idx Cert.TakenIdeal.Facts₀.shapeCasts_S16384x1_S16x1024) = rows emb idx := by
  funext j
  refine (takenOf_eq emb _ (fun i => ?_) j).trans ?_
  · exact h _
  unfold rows
  refine congrArg emb (funext fun a => ?_)
  match a with
  | 0 =>
    refine Fin.ext (congrArg (fun v : BitVec 32 => v.toNat % 8192) ?_)
    refine shapeCast_apply idx _ _ _ ?_
    rw [Shape.rowMajor_val_two, Shape.rowMajor_val_two]
    show ((j 0).val * 1024 + (j 1).val) * 1 + 0 = (j 0).val * 1024 + (j 1).val
    omega
  | 1 => rfl

end Take

end Cert.Proof.Rows

end
-- ==== Proof.ReferValue.lean ====
module

public import proofs.«01_k».proof.Proof.Refer
public import proofs.«01_k».proof.Proof.Value
public import Idealize.ShloMosaic.Lib.ReduceAll
public import Idealize.ShloMosaic.Lib.KernelVsHost

@[expose] public section

set_option maxRecDepth 16384

/-!
  The reference's three results at `Ideal`, on arguments of reals: the same three functions of them.
-/

noncomputable section

namespace Cert.Proof.Refer

open Cert.ReferenceIdeal Cert.ReferenceIdeal.Gen
open Cert.Proof.WholeBest
open Idealize.ShloMosaic Idealize.ShloMosaic.TcCoe

/-! ## The distances -/

theorem ofBits_two : Ideal.ofBits .f32 0x40000000#32 = ((2 : ℝ) : EReal) := by
  simp [Ideal.ofBits, Ideal.ieee, -EReal.coe_mul, -EReal.coe_neg]; norm_num

theorem dist_at (x : FVec Ideal S16x1024x32 .f32) (e : FVec Ideal S8192x32 .f32) (u : Fin 16384 → Fin 32 → ℝ) (v : Fin 8192 → Fin 32 → ℝ)
    (hx : ∀ r j, flatOf x (ix2 r j) = ((u r j : ℝ) : EReal)) (he : ∀ k j, e (ix2 k j) = ((v k j : ℝ) : EReal)) (r : Fin 16384) (k : Fin 8192) :
    distOf x e (ix2 r k) = ((gap (u r) (v k) : ℝ) : EReal) := by
  unfold distOf
  generalize flatOf x = f at hx ⊢
  pointwise []
  simp only [hx, he, ofBits_two]
  rw [gap_expand', EReal.coe_add, EReal.coe_sub, EReal.coe_mul, coe_total, coe_total, coe_total]
  simp only [EReal.coe_mul]

/-! ## The first least of a row -/

/-- A fold by a choice of the lesser of two ends at a least. -/
theorem foldl_least {A : Type} (le : A → A → Prop) (refl : ∀ a, le a a) (trans : ∀ a b c, le a b → le b c → le a c) (g : A → A → A)
    (hg : ∀ a b, (g a b = a ∨ g a b = b) ∧ le (g a b) a ∧ le (g a b) b) (l : List A) (a : A) :
    (l.foldl g a = a ∨ l.foldl g a ∈ l) ∧ le (l.foldl g a) a ∧ ∀ b ∈ l, le (l.foldl g a) b := by
  induction l generalizing a with
  | nil => exact ⟨.inl rfl, refl a, fun _ h => nomatch h⟩
  | cons c l ih =>
    obtain ⟨h1, h2, h3⟩ := ih (g a c)
    obtain ⟨g1, g2, g3⟩ := hg a c
    rw [List.foldl_cons]
    refine ⟨?_, trans _ _ _ h2 g2, fun b hb => ?_⟩
    · rcases h1 with h | h
      · rw [h]
        rcases g1 with g | g
        · exact .inl g
        · exact .inr (by rw [g]; exact List.mem_cons_self)
      · exact .inr (List.mem_cons_of_mem _ h)
    · rcases List.mem_cons.1 hb with rfl | hb
      · exact trans _ _ _ h2 g3
      · exact h3 b hb

/-- The order of (value, index) pairs: by value, then by index. -/
def le (p q : EReal × BitVec 32) : Prop := p.1 < q.1 ∨ p.1 = q.1 ∧ p.2.toInt ≤ q.2.toInt

theorem le_refl' (p : EReal × BitVec 32) : le p p := .inr ⟨rfl, le_refl _⟩

theorem le_trans' (p q r : EReal × BitVec 32) (h : le p q) (h' : le q r) : le p r := by
  rcases h with h | ⟨h, i⟩ <;> rcases h' with h' | ⟨h', i'⟩
  · exact .inl (h.trans h')
  · exact .inl (h' ▸ h)
  · exact .inl (h ▸ h')
  · exact .inr ⟨h.trans h', i.trans i'⟩

theorem reducer_least (a b : EReal × BitVec 32) :
    (reducer_argmin_f32_i32 (F := Ideal) a b = a ∨ reducer_argmin_f32_i32 (F := Ideal) a b = b)
      ∧ le (reducer_argmin_f32_i32 (F := Ideal) a b) a ∧ le (reducer_argmin_f32_i32 (F := Ideal) a b) b := by
  obtain ⟨a1, a2⟩ := a
  obtain ⟨b1, b2⟩ := b
  have hor (p q : Bool) : IntOp.ori (BitVec.ofBool p) (BitVec.ofBool q) = BitVec.ofBool (p || q) := by cases p <;> cases q <;> decide
  have hand (p q : Bool) : IntOp.andi (BitVec.ofBool p) (BitVec.ofBool q) = BitVec.ofBool (p && q) := by cases p <;> cases q <;> decide
  have key : reducer_argmin_f32_i32 (F := Ideal) (a1, a2) (b1, b2)
      = (if a1 < b1 then a1 else b1, if a1 < b1 ∨ a1 = b1 ∧ a2.toInt < b2.toInt then a2 else b2) := by
    unfold reducer_argmin_f32_i32
    simp only [Ideal.cmpf_def, Ideal.cmp, IntOp.cmpi, hor, hand]
    have hne : (a1 ≠ a1) = False := by simp
    have hs : ∀ (p : Prop) [Decidable p] (A : Type) (v w : A), Scalar.select (BitVec.ofBool (decide p)) v w = if p then v else w := by
      intro p _ A v w
      by_cases h : p <;> simp [Scalar.select, h]
    have e1 : (decide (a1 < b1) || decide (a1 ≠ a1)) = decide (a1 < b1) := by simp
    have e2 : (decide (a1 < b1) || decide (a1 = b1) && a2.slt b2) = decide (a1 < b1 ∨ a1 = b1 ∧ a2.toInt < b2.toInt) := by
      simp [BitVec.slt_eq_decide]
    rw [e1, e2, hs, hs]
  rw [key]
  unfold le
  rcases lt_trichotomy a1 b1 with h | h | h
  · simp [h]
  · subst h
    by_cases hi : a2.toInt < b2.toInt
    · simp [hi, hi.le]
    · simp [hi, not_lt.1 hi]
  · simp [h.not_gt, h.ne', h]

/-- The index of a row's first least, where the row's entries are reals: the fold's second part. -/
theorem fold_row {a n : ℕ} [NeZero n] (hn : n ≤ 8192) {u : Shape} (hu : 0 < u.numel)
    (h : Shape.ReducesTo (⟨2, ![a, n]⟩ : Shape) [1] ⟨1, ![a]⟩) (x : (⟨2, ![a, n]⟩ : Shape).Idx → EReal) (y : (⟨2, ![a, n]⟩ : Shape).Idx → BitVec 32)
    (ix : u.Idx → EReal) (iy : u.Idx → BitVec 32) (hix : ∀ i, ix i = ⊤) (g : EReal × BitVec 32 → EReal × BitVec 32 → EReal × BitVec 32)
    (hg : ∀ p q, (g p q = p ∨ g p q = q) ∧ le (g p q) p ∧ le (g p q) q) (i : Fin a) (f : Fin n → ℝ)
    (hx : ∀ k, x (ix2 i k) = (f k : EReal)) (hy : ∀ k, y (ix2 i k) = BitVec.ofNat 32 k.val) :
    ∃ c, Host.reduce2 g x y ix iy h hu (ix1 i) = (c, BitVec.ofNat 32 (best f).val) := by
  rw [Host.reduce2_eq_foldl_fiber]
  have row (r : Fin a) (k : Fin n) : h.drop (ix2 r k) = ix1 i ↔ r = i := by
    rw [h.fiber_r2_a1]
    constructor
    · rintro ⟨k', hk'⟩
      exact (congrFun hk' 0).symm
    · rintro rfl
      exact ⟨k, rfl⟩
  have mem (p : EReal × BitVec 32) : p ∈ Host.argReduceFiber x y h (ix1 i) ↔ ∃ k : Fin n, p = ((f k : EReal), BitVec.ofNat 32 k.val) := by
    unfold Host.argReduceFiber
    simp only [List.mem_map, List.mem_filter, List.mem_finRange, true_and, decide_eq_true_eq]
    constructor
    · rintro ⟨l, hl, rfl⟩
      generalize (Shape.rowMajor _).symm l = j at hl
      obtain ⟨r, k, rfl⟩ : ∃ (r : Fin a) (k : Fin n), j = ix2 r k := ⟨j 0, j 1, ValueIdx.eq_ix2 j⟩
      obtain rfl := (row r k).1 hl
      exact ⟨k, Prod.ext (hx k) (hy k)⟩
    · rintro ⟨k, rfl⟩
      refine ⟨Shape.rowMajor _ (ix2 i k), ?_, ?_⟩
      · rw [Equiv.symm_apply_apply]; exact (row i k).2 rfl
      · rw [Equiv.symm_apply_apply]; exact Prod.ext (hx k) (hy k)
  generalize Host.argReduceFiber x y h (ix1 i) = l at mem ⊢
  generalize ha : (ix (Shape.Idx.first hu), iy (Shape.Idx.first hu)) = p₀
  have hat : p₀.1 = ⊤ := by rw [← ha]; exact hix _
  obtain ⟨h1, -, h3⟩ := foldl_least le le_refl' le_trans' g hg l p₀
  have hk : ∃ k : Fin n, l.foldl g p₀ = ((f k : EReal), BitVec.ofNat 32 k.val) := by
    rcases h1 with h | h
    · exfalso
      have := h3 _ ((mem _).2 ⟨0, rfl⟩)
      rw [h] at this
      unfold le at this
      rw [hat] at this
      rcases this with h | ⟨h, -⟩
      · exact absurd h (not_lt.2 le_top)
      · exact EReal.coe_ne_top _ h.symm
    · exact (mem _).1 h
  obtain ⟨k, hk⟩ := hk
  rw [hk]
  have hb : IsBest f k := by
    have hle (i : Fin n) : f k < f i ∨ f k = f i ∧ k ≤ i := by
      have := h3 _ ((mem _).2 ⟨i, rfl⟩)
      rw [hk] at this
      unfold le at this
      rcases this with h | ⟨h, h'⟩
      · exact .inl (EReal.coe_lt_coe_iff.1 h)
      · refine .inr ⟨EReal.coe_eq_coe_iff.1 h, ?_⟩
        have := k.isLt
        have := i.isLt
        simp only [BitVec.toInt_eq_toNat_cond, BitVec.toNat_ofNat] at h'
        refine Fin.le_def.2 ?_
        omega
    refine ⟨fun i => ?_, fun i hi => ?_⟩
    · rcases hle i with h | ⟨h, -⟩
      · exact h.le
      · exact h.le
    · rcases hle i with h | ⟨-, h⟩
      · exact h
      · exact absurd hi (not_lt.2 h)
  rw [best_eq hb]
  exact ⟨_, rfl⟩

theorem reducer_start (i : S_.Idx) : constant (F := Ideal) S_ .f32 0x7F800000#32 i = (⊤ : EReal) := by
  show Ideal.ofBits .f32 0x7F800000#32 = (⊤ : EReal)
  simp [Ideal.ofBits, Ideal.ieee]

theorem iota_at (r : Fin 16384) (k : Fin 8192) : iotaInDim S16384x8192 32 1 (ix2 r k) = BitVec.ofNat 32 k.val := rfl

theorem pairs_eq (d : FVec Ideal S16384x8192 .f32) : pairsOf d
    = Host.reduce2 (reducer_argmin_f32_i32 (F := Ideal)) d (iotaInDim S16384x8192 32 1) (constant (F := Ideal) S_ .f32 0x7F800000#32)
      (constantI S_ 32 0#32) reducesTo_S16384x8192_S16384_d1 h_S_ :=
  Ideal.argReduce_eq_reduce2 (reducer_argmin_f32_i32 (F := Ideal)) d (iotaInDim S16384x8192 32 1) (constant (F := Ideal) S_ .f32 0x7F800000#32)
    (constantI S_ 32 0#32) reducesTo_S16384x8192_S16384_d1 h_S_

theorem index_at (d : FVec Ideal S16384x8192 .f32) (f : Fin 8192 → ℝ) (r : Fin 16384) (hd : ∀ k, d (ix2 r k) = ((f k : ℝ) : EReal)) :
    indexOf d (ix1 r) = BitVec.ofNat 32 (best f).val := by
  obtain ⟨c, h⟩ := fold_row (le_refl _) h_S_ reducesTo_S16384x8192_S16384_d1 d (iotaInDim S16384x8192 32 1)
    (constant (F := Ideal) S_ .f32 0x7F800000#32) (constantI S_ 32 0#32) reducer_start (reducer_argmin_f32_i32 (F := Ideal)) reducer_least r f hd (iota_at r)
  exact congrArg secondOf ((congrFun (pairs_eq d) (ix1 r)).trans h)

/-! ## The rows taken -/

theorem wrapped_at (w : IVec S16384 32) (h : ∀ i, (w i).toNat < 8192) (i : S16384x1.Idx) : wrapped w i = w (ix1 (i 0)) := by
  refine (Rows.wrap_eq _ (h _)).trans ?_
  refine congrArg w (funext fun a => ?_)
  match a with
  | 0 => rfl

theorem take_index (w : IVec S16384 32) (h : ∀ i, (w i).toNat < 8192) (j : S16384x32.Idx) :
    gather_S8192x32_S16384x1_S16384x32_1_0_n_n_0_1_132.operandIdx j (wrapped w)
      = fun | 0 => ⟨(w (ix1 (j 0))).toNat % 8192, Nat.mod_lt _ (by decide)⟩ | 1 => j 1 := by
  funext a
  refine Fin.ext ?_
  show GatherDims.start _ j (wrapped w) a + GatherDims.batchCoord _ j a + GatherDims.offCoord _ j a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    refine (dif_pos (show (0 : Fin 2) ∈ gather_S8192x32_S16384x1_S16384x32_1_0_n_n_0_1_132.startIndexMap from
      List.mem_singleton.mpr rfl)).trans ?_
    refine (congrArg (fun v : BitVec 32 => min v.toInt.toNat 8191) (wrapped_at w h _)).trans ?_
    exact Rows.clip (w (ix1 (j 0))) (h _)
  | 1 =>
    refine (congrArg (· + _) (dif_neg (show ¬ (1 : Fin 2) ∈ gather_S8192x32_S16384x1_S16384x32_1_0_n_n_0_1_132.startIndexMap by decide))).trans ?_
    exact Nat.zero_add _

theorem taken_at (e : FVec Ideal S8192x32 .f32) (w : IVec S16384 32) (k : Fin 16384 → Fin 8192)
    (hw : ∀ r, w (ix1 r) = BitVec.ofNat 32 (k r).val) (r : Fin 16384) (l : Fin 32) : takenOf e w (ix2 r l) = e (ix2 (k r) l) := by
  have hs (i : S16384.Idx) : (w i).toNat < 8192 := by
    obtain ⟨r, rfl⟩ : ∃ r : Fin 16384, i = ix1 r := ⟨i 0, ValueIdx.eq_ix1 i⟩
    have := (k r).isLt
    rw [hw, BitVec.toNat_ofNat]; omega
  unfold takenOf
  refine (Rows.select_one _ _ _ _ ?_).trans ((congrArg e (take_index w hs _)).trans (congrArg e (funext fun a => ?_)))
  · refine Rows.bcast_one _ _ _ (fun i => ?_) _
    refine Host.reduce_andi_one _ _ _ _ i rfl fun i => ?_
    have t := Rows.test_word (w (ix1 (i 0))) (hs _)
    rw [← wrapped_at w hs i] at t
    exact t
  · match a with
    | 0 =>
      refine Fin.ext ?_
      have := (k r).isLt
      show (w (ix1 r)).toNat % 8192 = (k r).val
      rw [hw, BitVec.toNat_ofNat]; omega
    | 1 => rfl

/-! ## The results -/

section Results

variable (x : FVec Ideal S16x1024x32 .f32) (e : FVec Ideal S8192x32 .f32)
variable (hx : ∀ i, (((x i : EReal).toReal : ℝ) : EReal) = x i) (he : ∀ i, (((e i : EReal).toReal : ℝ) : EReal) = e i)
include hx he

omit he in
theorem x_at (a : Fin 16) (b : Fin 1024) (l : Fin 32) : x (ix3 a b l) = ((realRows x (posOf a b) l : ℝ) : EReal) := by
  refine (hx _).symm.trans (congrArg (fun i => (((x i : EReal).toReal : ℝ) : EReal)) (funext fun d => Fin.ext ?_))
  have := b.isLt
  match d with
  | 0 => show a.val = (a.val * 1024 + b.val) / 1024; omega
  | 1 => show b.val = (a.val * 1024 + b.val) % 1024; omega
  | 2 => rfl

omit he in
theorem flat_at (r : Fin 16384) (j : Fin 32) : flatOf x (ix2 r j) = ((realRows x r j : ℝ) : EReal) := by
  refine (shapeCast_apply _ _ _ (ix3 ⟨r.val / 1024, by omega⟩ ⟨r.val % 1024, Nat.mod_lt _ (by decide)⟩ j : S16x1024x32.Idx) ?_).trans (hx _).symm
  rw [Shape.rowMajor_val_two, Shape.rowMajor_val_three]
  show (r.val / 1024 * 1024 + r.val % 1024) * 32 + j.val = r.val * 32 + j.val
  omega

omit hx in
theorem e_at (k : Fin 8192) (j : Fin 32) : e (ix2 k j) = ((realTable e k j : ℝ) : EReal) := (he _).symm

theorem index_near (r : Fin 16384) : indexOf (distOf x e) (ix1 r) = BitVec.ofNat 32 (near (realRows x) (realTable e) r).val :=
  index_at _ _ r fun k => dist_at x e _ _ (flat_at x hx) (e_at e he) r k

theorem grid_eq : gridOf (indexOf (distOf x e)) = wordsOf x e := by
  funext j
  refine (shapeCast_apply _ _ j (ix1 (posOf (j 0) (j 1)) : S16384.Idx) ?_).trans (index_near x e hx he _)
  rw [Shape.rowMajor_val_two, Shape.rowMajor_val_one]
  rfl

theorem fold_eq : foldOf (takenOf e (indexOf (distOf x e))) = picksOf x e := by
  funext j
  refine (shapeCast_apply _ _ j (ix2 (posOf (j 0) (j 1)) (j 2) : S16384x32.Idx) ?_).trans (taken_at e _ _ (index_near x e hx he) _ _)
  rw [Shape.rowMajor_val_two, Shape.rowMajor_val_three]
  rfl

theorem through_eq : addf (F := Ideal) (φ := .f32) (s := S16x1024x32) x (subf (picksOf x e) x) = picksOf x e := by
  funext j
  show (x j : EReal) + (picksOf x e j - x j) = picksOf x e j
  have h : picksOf x e j = ((realTable e (near (realRows x) (realTable e) (posOf (j 0) (j 1))) (j 2) : ℝ) : EReal) := e_at e he _ _
  rw [h, ← hx j, ← EReal.coe_sub, ← EReal.coe_add]
  congr 1
  ring

theorem loss_eq : lossOf x (picksOf x e) = meanOf x e := by
  funext j
  have h (a : Fin 16) (b : Fin 1024) : (∑ l : Fin 32, (picksOf x e (ix3 a b l) - x (ix3 a b l)) * (picksOf x e (ix3 a b l) - x (ix3 a b l)))
      = ((least (realRows x) (realTable e) (posOf a b) : ℝ) : EReal) := by
    unfold least gap
    rw [coe_total]
    refine Finset.sum_congr rfl fun l _ => ?_
    have h : picksOf x e (ix3 a b l) = ((realTable e (near (realRows x) (realTable e) (posOf a b)) l : ℝ) : EReal) := e_at e he _ _
    rw [h, x_at x hx, EReal.coe_mul, EReal.coe_sub]
  have total : (∑ a : Fin 16, ∑ b : Fin 1024, ((least (realRows x) (realTable e) (posOf a b) : ℝ) : EReal))
      = ((∑ r, least (realRows x) (realTable e) r : ℝ) : EReal) := by
    rw [coe_total, ← Fintype.sum_prod_type']
    refine Fintype.sum_equiv (finProdFinEquiv (m := 16) (n := 1024)) _ _ fun p => ?_
    refine congrArg (fun r => ((least (realRows x) (realTable e) r : ℝ) : EReal)) (Fin.ext ?_)
    show p.1.val * 1024 + p.2.val = p.2.val + 1024 * p.1.val
    omega
  unfold meanOf lossOf
  generalize picksOf x e = q at h
  pointwise []
  simp only [h]
  rw [total]

end Results

end Cert.Proof.Refer

end
-- ==== Proof.Same.lean ====
module

public import proofs.«01_k».proof.Proof.Value
public import proofs.«01_k».proof.Proof.Gen.Gather
public import proofs.«01_k».proof.Proof.Gen.Taken

@[expose] public section

/-!
# Both programs' runs, in their final form

The kernel's run and `jnp.take`'s, each ending with the rows the index words name. The two printings of the kernel have
one text, so the run proved of the one is the run of the other; likewise `jnp.take`'s.
-/

noncomputable section

namespace Cert.Proof.Rows

open Idealize.ShloMosaic Idealize.SL.Sem

section Ideal

open Cert.GatherIdeal

variable {F : FTy → Type} [FloatOps F] [∀ e, Nonempty (Elt F e)]

/-- The kernel's run: the rows, the arguments kept, the counters at zero. -/
theorem kernel_ends (m : (ℓ : Loc nD τ sig) → Buf (Elt F) ℓ) (ρ : Dev nD → PrngReg)
    (h : ∀ c, Cert.Pre_in_range.fn (F := F) (embOf m c) (idxOf m c) = fun _ => 1#1) :
    θ_run (defs (F := F)) (threads (F := F)) ⟨m, fun _ => 0, ρ⟩ fun r =>
      (∀ c : Dev nD, r.2.mem (c, dv main_v4) = rows (embOf m c) (idxOf m c)
        ∧ r.2.mem (c, dv main_arg0) = m (c, dv main_arg0) ∧ r.2.mem (c, dv main_arg1) = m (c, dv main_arg1))
      ∧ r.2.sem = fun _ => 0 :=
  (θ_run defs _ _).mono
    (fun _ e => ⟨fun c => ⟨(e.1 c).2.2.trans (result m c), (e.1 c).1.trans (V3_arg0 m c), (e.1 c).2.1.trans (V3_arg1 m c)⟩, e.2⟩)
    (run_main m ρ fun c => small_row m c fun i => small_of_pre (embOf m c) (idxOf m c) (h c) i)

end Ideal

section Take

open Cert.TakenIdeal

variable {F : FTy → Type} [FloatOps F]

theorem take_keeps (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r e => ⟨fun c => (e c).2, sem_eq_zero_of_no_sems (by decide) r.2⟩) (Cert.TakenIdeal.Value.run m ρ)

/-- `jnp.take`'s run. -/
theorem take_ends (m : (ℓ : Loc nD τ sig) → Buf (Elt F) ℓ) (ρ : Dev nD → PrngReg) (emb : Dev nD → FVec F S8192x32 .f32)
    (idx : Dev nD → IVec S16384x1 32) (he : ∀ c : Dev nD, m ((c.tc : Thread nD τ).loc main_arg0) = emb c)
    (hi : ∀ c : Dev nD, m ((c.tc : Thread nD τ).loc main_arg1) = idx c)
    (h : ∀ c, Cert.Pre_in_range.fn (F := F) (emb c) (idx c) = fun _ => 1#1) :
    θ_run (defs (F := F)) (onTc (τ := τ) (main (F := F))) ⟨m, fun _ => 0, ρ⟩ fun r =>
      ∀ c : Dev nD, r.2.mem ((c.tc : Thread nD τ).loc main_v1) = rows (emb c) (idx c)
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun r e c => ⟨(e c).1.trans (by
      rw [he c, hi c]
      exact taken_rows (emb c) (idx c) (small_of_pre (emb c) (idx c) (h c))), (e c).2⟩) (Cert.TakenIdeal.Value.run m ρ)

end Take

end Cert.Proof.Rows

end
-- ==== Proof.lean ====
module

public import proofs.«01_k».proof.Defs
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.TakenIdeal
public import proofs.«01_k».proof.Proof.Gen.TakenIdeal.Run
public import proofs.«01_k».proof.Proof.Gen.Taken
public import proofs.«01_k».proof.Proof.Gen.Taken.Run
public import proofs.«01_k».proof.Proof.Gen.Pre_in_range
public import proofs.«01_k».proof.Proof.Gen.Pre_finite_no_tie
public import proofs.«01_k».proof.Proof.Gen.ReferenceIdeal
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Nearest
public import proofs.«01_k».proof.Proof.Gen.Nearest.Frame
public import proofs.«01_k».proof.Proof.Gen.NearestIdeal
public import proofs.«01_k».proof.Proof.Gen.NearestIdeal.Frame
public import proofs.«01_k».proof.Proof.WholeValue
public import proofs.«01_k».proof.Proof.ReferValue
public import proofs.«01_k».proof.Proof.Same
public import Idealize.ShloMosaic.Adequacy
public import Idealize.ShloMosaic.Init

@[expose] public section

noncomputable section

namespace Cert.Proof

open Idealize.ShloMosaic Idealize.SL.Sem Cert.Gather

theorem frame_bits : Cert.quiescent_Gather := fun m ρ h =>
  (θ_run Cert.Gather.defs _ _).mono (fun _ e => ⟨fun c => (e.1 c).2, e.2⟩) (Rows.kernel_ends (F := Bits) m ρ h)

theorem frame_ideal : Cert.quiescent_GatherIdeal := fun m ρ h =>
  (θ_run Cert.GatherIdeal.defs _ _).mono (fun _ e => ⟨fun c => (e.1 c).2, e.2⟩) (Rows.kernel_ends (F := Ideal) m ρ h)

theorem frame_taken_ideal : Cert.quiescent_TakenIdeal := fun m ρ _ => Rows.take_keeps (F := Ideal) m ρ

theorem frame_taken_ideal_pre : Cert.quiescent_TakenIdeal_pre_in_range := fun m ρ _ => Rows.take_keeps (F := Ideal) m ρ

theorem frame_taken : Cert.quiescent_Taken := fun m ρ _ => Rows.take_keeps (F := Bits) m ρ

theorem algebraic : Cert.algebraic_GatherIdeal_TakenIdeal := by
  intro m ρ m' ρ' h hagree
  refine ⟨fun c => Rows.rows (Rows.embOf (F := Ideal) m c) (Rows.idxOf (F := Ideal) m c), ?_, ?_⟩
  · exact (θ_run Cert.GatherIdeal.defs _ _).mono (fun _ e => e.1) (Rows.kernel_ends (F := Ideal) m ρ h)
  · exact Rows.take_ends (F := Ideal) m' ρ' (fun c => Rows.embOf (F := Ideal) m c) (fun c => Rows.idxOf (F := Ideal) m c)
      (fun c => (hagree c).1) (fun c => (hagree c).2) h

theorem bitexact : Cert.bitexact_Gather_Taken := by
  intro m ρ m' ρ' h hagree
  refine ⟨fun c => Rows.rows (Rows.embOf (F := Bits) m c) (Rows.idxOf (F := Bits) m c), ?_, ?_⟩
  · exact (θ_run Cert.Gather.defs _ _).mono (fun _ e => e.1) (Rows.kernel_ends (F := Bits) m ρ h)
  · exact Rows.take_ends (F := Bits) m' ρ' (fun c => Rows.embOf (F := Bits) m c) (fun c => Rows.idxOf (F := Bits) m c)
      (fun c => (hagree c).1) (fun c => (hagree c).2) h

/-- The whole kernel terminates, keeps its arguments, and leaves every counter at zero. -/
theorem frame_whole : Cert.quiescent_KernelIdeal := fun m ρ h =>
  (θ_run Cert.KernelIdeal.defs _ _).mono (fun _ e => ⟨fun c => (e.1 c).1.1, e.2⟩)
    (Whole.run_values ρ fun d => Whole.real_of_pre (h d))

theorem frame_refer : Cert.quiescent_ReferenceIdeal := fun m ρ _ =>
  (θ_run Cert.ReferenceIdeal.defs _ _).mono (fun _ e => ⟨fun c => (e.1 c).1, e.2⟩) (Refer.run (F := Ideal) m ρ)

theorem frame_refer_pre : Cert.quiescent_ReferenceIdeal_pre_finite_no_tie := fun m ρ _ =>
  (θ_run Cert.ReferenceIdeal.defs _ _).mono (fun _ e => ⟨fun c => (e.1 c).1, e.2⟩) (Refer.run (F := Ideal) m ρ)

/-- The whole kernel and the reference end with the same three results: for every row of the input the nearest
    embedding, the mean of the squared distances to them, and their positions in the table. -/
theorem algebraic_whole : Cert.algebraic_KernelIdeal_ReferenceIdeal := by
  intro m ρ m' ρ' h hagree
  have hr : ∀ c, Whole.Real m c := fun c => Whole.real_of_pre (h c)
  refine ⟨fun c => WholeBest.picksOf (Whole.xOf m c) (Whole.eOf m c), fun c => WholeBest.meanOf (Whole.xOf m c) (Whole.eOf m c),
    fun c => WholeBest.wordsOf (Whole.xOf m c) (Whole.eOf m c), ?_, ?_⟩
  · exact (θ_run Cert.KernelIdeal.defs _ _).mono
      (fun _ e c => ⟨(e.1 c).2.2, (e.1 c).1.2, (e.1 c).2.1, (e.1 c).1.1.1, (e.1 c).1.1.2⟩) (Whole.run_values ρ hr)
  · refine (θ_run Cert.ReferenceIdeal.defs _ _).mono (fun r e c => ?_) (Refer.run (F := Ideal) m' ρ')
    obtain ⟨⟨h0, h1⟩, hw, hl, hp⟩ := e.1 c
    have hx : Refer.xOf m' c = Whole.xOf m c := (hagree c).1
    have he : Refer.eOf m' c = Whole.eOf m c := (hagree c).2
    rw [hx, he] at hw hl hp
    rw [Refer.fold_eq _ _ (hr c).1 (hr c).2] at hl hp
    rw [Refer.grid_eq _ _ (hr c).1 (hr c).2] at hw
    rw [Refer.loss_eq _ _ (hr c).1 (hr c).2] at hl
    rw [Refer.through_eq _ _ (hr c).1 (hr c).2] at hp
    exact ⟨hp, hl, hw, h0, h1⟩

/-- The TensorCore call alone, over float words: it needs no precondition. -/
theorem frame_near : Cert.quiescent_Nearest := fun m ρ _ => Cert.Nearest.Gen.frame m ρ

theorem frame_near_pre : Cert.quiescent_Nearest_pre_finite_no_tie := fun m ρ _ => Cert.Nearest.Gen.frame m ρ

theorem frame_near_ideal : Cert.quiescent_NearestIdeal := fun m ρ _ => Cert.NearestIdeal.Gen.frame m ρ

theorem claim : Cert.Claim := ⟨Cert.Gather.Gen.facts, Cert.GatherIdeal.Gen.facts, Cert.TakenIdeal.Gen.facts, Cert.Taken.Gen.facts,
  Cert.KernelIdeal.Gen.facts, Cert.ReferenceIdeal.Gen.facts, Cert.Nearest.Gen.facts, Cert.NearestIdeal.Gen.facts,
  Cert.Pre_in_range.Gen.facts, Cert.Pre_finite_no_tie.Gen.facts,
  frame_bits, frame_ideal, frame_taken_ideal, frame_taken_ideal_pre, frame_taken, frame_whole, frame_refer, frame_refer_pre,
  frame_near, frame_near_pre, frame_near_ideal, trivial, algebraic, bitexact, algebraic_whole, trivial⟩

end Cert.Proof

end
